-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v100)) (v1 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_v101) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v245) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)) →
    ∃ (v0 : (c : Dev Cert.Kernel2Ideal.nD) → Buf (Elt Ideal) ((c.tc : Thread Cert.Kernel2Ideal.nD Cert.Kernel2Ideal.τ).loc Cert.Kernel2Ideal.main_v90)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v90) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v61) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0))

def Claim : Prop :=
  ∃ (hKernel : Cert.Kernel.Facts) (hKernelIdeal : Cert.KernelIdeal.Facts) (hReferenceIdeal : Cert.ReferenceIdeal.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ algebraic_Kernel2Ideal_Reference2Ideal (hKernel2Ideal := hKernel2Ideal) (hReference2Ideal := hReference2Ideal)
-- ==== Kernel.lean ====
abbrev S2x1024x50x50 : Shape := ⟨4, ![2, 1024, 50, 50]⟩
abbrev S2x3 : Shape := ⟨2, ![2, 3]⟩
abbrev S2x20x5 : Shape := ⟨3, ![2, 20, 5]⟩
abbrev S2 : Shape := ⟨1, ![2]⟩
abbrev S512x1024x3x3 : Shape := ⟨4, ![512, 1024, 3, 3]⟩
abbrev S512 : Shape := ⟨1, ![512]⟩
abbrev S18x512x1x1 : Shape := ⟨4, ![18, 512, 1, 1]⟩
abbrev S18 : Shape := ⟨1, ![18]⟩
abbrev S36x512x1x1 : Shape := ⟨4, ![36, 512, 1, 1]⟩
abbrev S36 : Shape := ⟨1, ![36]⟩
abbrev S2816x36 : Shape := ⟨2, ![2816, 36]⟩
abbrev S_ : Shape := ⟨0, ![]⟩
abbrev S2x1024x52x56 : Shape := ⟨4, ![2, 1024, 52, 56]⟩
abbrev S2x1024x2912 : Shape := ⟨3, ![2, 1024, 2912]⟩
abbrev S2x2912x1024 : Shape := ⟨3, ![2, 2912, 1024]⟩
abbrev S2x2946x1024 : Shape := ⟨3, ![2, 2946, 1024]⟩
abbrev S2x2944x1024 : Shape := ⟨3, ![2, 2944, 1024]⟩
abbrev S2x1x2944x1024 : Shape := ⟨4, ![2, 1, 2944, 1024]⟩
abbrev S2x3x2944x1024 : Shape := ⟨4, ![2, 3, 2944, 1024]⟩
abbrev S512x1024x1x1 : Shape := ⟨4, ![512, 1024, 1, 1]⟩
abbrev S512x1024 : Shape := ⟨2, ![512, 1024]⟩
abbrev S1024x512 : Shape := ⟨2, ![1024, 512]⟩
abbrev S1x1024x512 : Shape := ⟨3, ![1, 1024, 512]⟩
abbrev S9x1024x512 : Shape := ⟨3, ![9, 1024, 512]⟩
abbrev S18x512 : Shape := ⟨2, ![18, 512]⟩
abbrev S36x512 : Shape := ⟨2, ![36, 512]⟩
abbrev S9x512 : Shape := ⟨2, ![9, 512]⟩
abbrev S54x512 : Shape := ⟨2, ![54, 512]⟩
abbrev S64x512 : Shape := ⟨2, ![64, 512]⟩
abbrev S512x64 : Shape := ⟨2, ![512, 64]⟩
abbrev S9 : Shape := ⟨1, ![9]⟩
abbrev S54 : Shape := ⟨1, ![54]⟩
abbrev S64 : Shape := ⟨1, ![64]⟩
abbrev S1x64 : Shape := ⟨2, ![1, 64]⟩
abbrev S1x512 : Shape := ⟨2, ![1, 512]⟩
abbrev S2x1x3 : Shape := ⟨3, ![2, 1, 3]⟩
abbrev S2x2816x18 : Shape := ⟨3, ![2, 2816, 18]⟩
abbrev S2x2816x36 : Shape := ⟨3, ![2, 2816, 36]⟩
abbrev S1x1x2944x1024 : Shape := ⟨4, ![1, 1, 2944, 1024]⟩
abbrev S1x1x3 : Shape := ⟨3, ![1, 1, 3]⟩
abbrev S1x2816x18 : Shape := ⟨3, ![1, 2816, 18]⟩
abbrev S1x2816x36 : Shape := ⟨3, ![1, 2816, 36]⟩
abbrev S2816x512 : Shape := ⟨2, ![2816, 512]⟩
abbrev S1x1x2816x1024 : Shape := ⟨4, ![1, 1, 2816, 1024]⟩
abbrev S2816x1024 : Shape := ⟨2, ![2816, 1024]⟩
abbrev S2816x64 : Shape := ⟨2, ![2816, 64]⟩
abbrev S2816x18 : Shape := ⟨2, ![2816, 18]⟩
abbrev S2816x9 : Shape := ⟨2, ![2816, 9]⟩
abbrev S1x1x1 : Shape := ⟨3, ![1, 1, 1]⟩
abbrev S2x2816x9 : Shape := ⟨3, ![2, 2816, 9]⟩
abbrev S1x2816x9 : Shape := ⟨3, ![1, 2816, 9]⟩
abbrev S2x25344 : Shape := ⟨2, ![2, 25344]⟩
abbrev S2x2816x4x9 : Shape := ⟨4, ![2, 2816, 4, 9]⟩
abbrev S2x2816x9x4 : Shape := ⟨4, ![2, 2816, 9, 4]⟩
abbrev S2x25344x4 : Shape := ⟨3, ![2, 25344, 4]⟩
abbrev S2x2800x9 : Shape := ⟨3, ![2, 2800, 9]⟩
abbrev S2x50x56x9 : Shape := ⟨4, ![2, 50, 56, 9]⟩
abbrev S2x50x50x9 : Shape := ⟨4, ![2, 50, 50, 9]⟩
abbrev S2x2800x9x4 : Shape := ⟨4, ![2, 2800, 9, 4]⟩
abbrev S2x50x56x9x4 : Shape := ⟨5, ![2, 50, 56, 9, 4]⟩
abbrev S2x50x50x9x4 : Shape := ⟨5, ![2, 50, 50, 9, 4]⟩
abbrev S2x22500 : Shape := ⟨2, ![2, 22500]⟩
abbrev S2x22500x4 : Shape := ⟨3, ![2, 22500, 4]⟩

abbrev nBuf : Space → Nat
  | .hbm => 149
  | .vmem => 15
  | .smem => 0
  | _ => 0

abbrev hbmTy0_0 (i : Nat) : BufTy := match i % 128 with
  | 0 => ⟨S2x1024x50x50, .f32⟩
  | 1 => ⟨S2x3, .f32⟩
  | 2 => ⟨S2x20x5, .f32⟩
  | 3 => ⟨S2, .i32⟩
  | 4 => ⟨S512x1024x3x3, .f32⟩
  | 5 => ⟨S512, .f32⟩
  | 6 => ⟨S18x512x1x1, .f32⟩
  | 7 => ⟨S18, .f32⟩
  | 8 => ⟨S36x512x1x1, .f32⟩
  | 9 => ⟨S36, .f32⟩
  | 10 => ⟨S2816x36, .f32⟩
  | 11 => ⟨S_, .i32⟩
  | 12 => ⟨S_, .f32⟩
  | 13 => ⟨S2x1024x52x56, .f32⟩
  | 14 => ⟨S2x1024x2912, .f32⟩
  | 15 => ⟨S2x2912x1024, .f32⟩
  | 16 => ⟨S_, .i32⟩
  | 17 => ⟨S_, .f32⟩
  | 18 => ⟨S2x2946x1024, .f32⟩
  | 19 => ⟨S2x2944x1024, .f32⟩
  | 20 => ⟨S2x2944x1024, .f32⟩
  | 21 => ⟨S2x2944x1024, .f32⟩
  | 22 => ⟨S2x1x2944x1024, .f32⟩
  | 23 => ⟨S2x1x2944x1024, .f32⟩
  | 24 => ⟨S2x1x2944x1024, .f32⟩
  | 25 => ⟨S2x3x2944x1024, .f32⟩
  | 26 => ⟨S512x1024x1x1, .f32⟩
  | 27 => ⟨S512x1024, .f32⟩
  | 28 => ⟨S1024x512, .f32⟩
  | 29 => ⟨S512x1024x1x1, .f32⟩
  | 30 => ⟨S512x1024, .f32⟩
  | 31 => ⟨S1024x512, .f32⟩
  | 32 => ⟨S512x1024x1x1, .f32⟩
  | 33 => ⟨S512x1024, .f32⟩
  | 34 => ⟨S1024x512, .f32⟩
  | 35 => ⟨S512x1024x1x1, .f32⟩
  | 36 => ⟨S512x1024, .f32⟩
  | 37 => ⟨S1024x512, .f32⟩
  | 38 => ⟨S512x1024x1x1, .f32⟩
  | 39 => ⟨S512x1024, .f32⟩
  | 40 => ⟨S1024x512, .f32⟩
  | 41 => ⟨S512x1024x1x1, .f32⟩
  | 42 => ⟨S512x1024, .f32⟩
  | 43 => ⟨S1024x512, .f32⟩
  | 44 => ⟨S512x1024x1x1, .f32⟩
  | 45 => ⟨S512x1024, .f32⟩
  | 46 => ⟨S1024x512, .f32⟩
  | 47 => ⟨S512x1024x1x1, .f32⟩
  | 48 => ⟨S512x1024, .f32⟩
  | 49 => ⟨S1024x512, .f32⟩
  | 50 => ⟨S512x1024x1x1, .f32⟩
  | 51 => ⟨S512x1024, .f32⟩
  | 52 => ⟨S1024x512, .f32⟩
  | 53 => ⟨S1x1024x512, .f32⟩
  | 54 => ⟨S1x1024x512, .f32⟩
  | 55 => ⟨S1x1024x512, .f32⟩
  | 56 => ⟨S1x1024x512, .f32⟩
  | 57 => ⟨S1x1024x512, .f32⟩
  | 58 => ⟨S1x1024x512, .f32⟩
  | 59 => ⟨S1x1024x512, .f32⟩
  | 60 => ⟨S1x1024x512, .f32⟩
  | 61 => ⟨S1x1024x512, .f32⟩
  | 62 => ⟨S9x1024x512, .f32⟩
  | 63 => ⟨S18x512, .f32⟩
  | 64 => ⟨S36x512, .f32⟩
  | 65 => ⟨S9x512, .f32⟩
  | 66 => ⟨S9x512, .f32⟩
  | 67 => ⟨S9x512, .f32⟩
  | 68 => ⟨S9x512, .f32⟩
  | 69 => ⟨S9x512, .f32⟩
  | 70 => ⟨S9x512, .f32⟩
  | 71 => ⟨S54x512, .f32⟩
  | 72 => ⟨S_, .i32⟩
  | 73 => ⟨S_, .f32⟩
  | 74 => ⟨S64x512, .f32⟩
  | 75 => ⟨S512x64, .f32⟩
  | 76 => ⟨S9, .f32⟩
  | 77 => ⟨S9, .f32⟩
  | 78 => ⟨S9, .f32⟩
  | 79 => ⟨S9, .f32⟩
  | 80 => ⟨S9, .f32⟩
  | 81 => ⟨S9, .f32⟩
  | 82 => ⟨S54, .f32⟩
  | 83 => ⟨S_, .i32⟩
  | 84 => ⟨S_, .f32⟩
  | 85 => ⟨S64, .f32⟩
  | 86 => ⟨S1x64, .f32⟩
  | 87 => ⟨S1x512, .f32⟩
  | 88 => ⟨S2x1x3, .f32⟩
  | 89 => ⟨S2x2816x18, .f32⟩
  | 90 => ⟨S2x2816x36, .f32⟩
  | 91 => ⟨S2x2816x9, .f32⟩
  | 92 => ⟨S2x2816x9, .f32⟩
  | 93 => ⟨S2x2816x9, .f32⟩
  | 94 => ⟨S2x2816x9, .f32⟩
  | 95 => ⟨S2x2816x9, .f32⟩
  | 96 => ⟨S2x2816x9, .f32⟩
  | 97 => ⟨S2x2816x9, .f32⟩
  | 98 => ⟨S2x2816x9, .f32⟩
  | 99 => ⟨S2x2816x9, .f32⟩
  | 100 => ⟨S1x2816x9, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S1x2816x9, .i32⟩
  | 108 => ⟨S1x2816x9, .i32⟩
  | 109 => ⟨S_, .i32⟩
  | 110 => ⟨S1x2816x9, .i32⟩
  | 111 => ⟨S1x2816x9, .i1⟩
  | 112 => ⟨S_, .i32⟩
  | 113 => ⟨S1x2816x9, .i32⟩
  | 114 => ⟨S1x2816x9, .i1⟩
  | 115 => ⟨S_, .i32⟩
  | 116 => ⟨S_, .i1⟩
  | 117 => ⟨S1x2816x9, .i1⟩
  | 118 => ⟨S1x2816x9, .i1⟩
  | 119 => ⟨S1x2816x9, .i1⟩
  | 120 => ⟨S1x2816x9, .i32⟩
  | 121 => ⟨S1x2816x9, .i32⟩
  | 122 => ⟨S1x2816x9, .i32⟩
  | 123 => ⟨S_, .i32⟩
  | 124 => ⟨S1x2816x9, .i32⟩
  | 125 => ⟨S1x2816x9, .i1⟩
  | 126 => ⟨S_, .i32⟩
  | 127 => ⟨S1x2816x9, .i32⟩
  | _ => ⟨S2x1024x50x50, .f32⟩

abbrev hbmTy0_1 (i : Nat) : BufTy := match i % 128 with
  | 0 => ⟨S1x2816x9, .i1⟩
  | 1 => ⟨S1x2816x9, .i1⟩
  | 2 => ⟨S_, .f32⟩
  | 3 => ⟨S_, .f32⟩
  | 4 => ⟨S2x2816x9, .i1⟩
  | 5 => ⟨S2x2816x9, .f32⟩
  | 6 => ⟨S2x2816x9, .f32⟩
  | 7 => ⟨S2x25344, .f32⟩
  | 8 => ⟨S2x2816x4x9, .f32⟩
  | 9 => ⟨S2x2816x9x4, .f32⟩
  | 10 => ⟨S2x25344x4, .f32⟩
  | 11 => ⟨S2x2816x9, .f32⟩
  | 12 => ⟨S2x2800x9, .f32⟩
  | 13 => ⟨S2x50x56x9, .f32⟩
  | 14 => ⟨S2x50x50x9, .f32⟩
  | 15 => ⟨S2x2816x9x4, .f32⟩
  | 16 => ⟨S2x2800x9x4, .f32⟩
  | 17 => ⟨S2x50x56x9x4, .f32⟩
  | 18 => ⟨S2x50x50x9x4, .f32⟩
  | 19 => ⟨S2x22500, .f32⟩
  | 20 => ⟨S2x22500x4, .f32⟩
  | _ => ⟨S2x1024x50x50, .f32⟩

abbrev hbmTy (i : Nat) : BufTy := match i / 128 with
  | 0 => hbmTy0_0 i
  | 1 => hbmTy0_1 i
  | _ => ⟨S2x1024x50x50, .f32⟩

abbrev bufTy : (tb : Table) → Fin (tcTables nBuf tb) → BufTy
  | .hbm, ⟨i, _⟩ => hbmTy i
  | .local _ .vmem, ⟨0, _⟩ => ⟨S1x1x2944x1024, .f32⟩
  | .local _ .vmem, ⟨1, _⟩ => ⟨S1x1x2944x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x512, .f32⟩
  | .local _ .vmem, ⟨5, _⟩ => ⟨S512x64, .f32⟩
  | .local _ .vmem, ⟨6, _⟩ => ⟨S1x64, .f32⟩
  | .local _ .vmem, ⟨7, _⟩ => ⟨S2816x36, .f32⟩
  | .local _ .vmem, ⟨8, _⟩ => ⟨S1x1x3, .f32⟩
  | .local _ .vmem, ⟨9, _⟩ => ⟨S1x1x3, .f32⟩
  | .local _ .vmem, ⟨10, _⟩ => ⟨S1x2816x18, .f32⟩
  | .local _ .vmem, ⟨11, _⟩ => ⟨S1x2816x18, .f32⟩
  | .local _ .vmem, ⟨12, _⟩ => ⟨S1x2816x36, .f32⟩
  | .local _ .vmem, ⟨13, _⟩ => ⟨S1x2816x36, .f32⟩
  | .local _ .vmem, ⟨14, _⟩ => ⟨S2816x512, .f32⟩
  | _, _ => ⟨S2x1024x50x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_call1_v0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_c_1 : Ref sig .tc := ⟨.hbm, 72, rfl⟩
abbrev main_call2_v0 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_c_2 : Ref sig .tc := ⟨.hbm, 83, rfl⟩
abbrev main_call3_v0 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70_0 : Ref sig .tc := ⟨.hbm, 89, rfl⟩
abbrev main_v70_1 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_c_3 : Ref sig .tc := ⟨.hbm, 101, rfl⟩
abbrev main_call4_v0 : Ref sig .tc := ⟨.hbm, 102, rfl⟩
abbrev main_call4_c : Ref sig .tc := ⟨.hbm, 103, rfl⟩
abbrev main_call4_v1 : Ref sig .tc := ⟨.hbm, 104, rfl⟩
abbrev main_call4_c_0 : Ref sig .tc := ⟨.hbm, 105, rfl⟩
abbrev main_call4_v2 : Ref sig .tc := ⟨.hbm, 106, rfl⟩
abbrev main_call4_v3 : Ref sig .tc := ⟨.hbm, 107, rfl⟩
abbrev main_call4_v4 : Ref sig .tc := ⟨.hbm, 108, rfl⟩
abbrev main_call4_c_1 : Ref sig .tc := ⟨.hbm, 109, rfl⟩
abbrev main_call4_v5 : Ref sig .tc := ⟨.hbm, 110, rfl⟩
abbrev main_call4_v6 : Ref sig .tc := ⟨.hbm, 111, rfl⟩
abbrev main_call4_c_2 : Ref sig .tc := ⟨.hbm, 112, rfl⟩
abbrev main_call4_v7 : Ref sig .tc := ⟨.hbm, 113, rfl⟩
abbrev main_call4_v8 : Ref sig .tc := ⟨.hbm, 114, rfl⟩
abbrev main_call4_c_3 : Ref sig .tc := ⟨.hbm, 115, rfl⟩
abbrev main_call4_v9 : Ref sig .tc := ⟨.hbm, 116, rfl⟩
abbrev main_call4_v10 : Ref sig .tc := ⟨.hbm, 117, rfl⟩
abbrev main_call4_v11 : Ref sig .tc := ⟨.hbm, 118, rfl⟩
abbrev main_call4_v12 : Ref sig .tc := ⟨.hbm, 119, rfl⟩
abbrev main_call4_v13 : Ref sig .tc := ⟨.hbm, 120, rfl⟩
abbrev main_call4_v14 : Ref sig .tc := ⟨.hbm, 121, rfl⟩
abbrev main_v81 : Ref sig .tc := ⟨.hbm, 122, rfl⟩
abbrev main_c_4 : Ref sig .tc := ⟨.hbm, 123, rfl⟩
abbrev main_v82 : Ref sig .tc := ⟨.hbm, 124, rfl⟩
abbrev main_v83 : Ref sig .tc := ⟨.hbm, 125, rfl⟩
abbrev main_c_5 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_6 : Ref sig .tc := ⟨.hbm, 130, rfl⟩
abbrev main_call5_v0 : Ref sig .tc := ⟨.hbm, 131, rfl⟩
abbrev main_call5_v1 : Ref sig .tc := ⟨.hbm, 132, rfl⟩
abbrev main_call5_v2 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![2, 9], ![false, false]⟩

def k0_mult1 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let v0 : BitVec 32 := Scalar.divsi arg1 c3_i32
  let c1_i32 : BitVec 32 := 1#32
  let v15 : BitVec 32 := Scalar.subi v0 c1_i32
  let v16 : BitVec 32 := Scalar.select v14 v15 v0
  let c56_i32 : BitVec 32 := 56#32
  let v17 : BitVec 32 := Scalar.muli v16 c56_i32
  v17
def k0_off1 (i : grid0.Coords) : Fin 4 → Nat :=
  let c0 : Index := 0#32
  let c0_4 : Index := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let v0 : BitVec 32 := Scalar.divsi arg1 c3_i32
  let c1_i32 : BitVec 32 := 1#32
  let v15 : BitVec 32 := Scalar.subi v0 c1_i32
  let v16 : BitVec 32 := Scalar.select v14 v15 v0
  let c56_i32 : BitVec 32 := 56#32
  let v17 : BitVec 32 := Scalar.muli v16 c56_i32
  let v18 : BitVec 32 := v17
  let v19 : Index := Scalar.indexCast v18
  let c0_5 : Index := 0#32
  ![0, 0, v19.toNat, 0]
def k0_cond3 (i : grid0.Coords) : BitVec 1 :=
  let arg1 : BitVec 32 := BitVec.ofNat 32 (i 1).val
  let c8_i32 : BitVec 32 := 8#32
  let v31 : BitVec 1 := Scalar.cmpi .eq arg1 c8_i32
  let v32 : BitVec 32 := Scalar.extui v31
  let c0_i32_13 : BitVec 32 := 0#32
  let v33 : BitVec 1 := Scalar.cmpi .ne v32 c0_i32_13
  v33

def cc0_transform_0 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![arg0.toNat, v9.toNat, c0_i32_3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x2944x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x36 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2816x18 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2816x36 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S2x1024x50x50 : Shape := ⟨4, ![2, 1024, 50, 50]⟩
abbrev S2x3 : Shape := ⟨2, ![2, 3]⟩
abbrev S2x20x5 : Shape := ⟨3, ![2, 20, 5]⟩
abbrev S2 : Shape := ⟨1, ![2]⟩
abbrev S512x1024x3x3 : Shape := ⟨4, ![512, 1024, 3, 3]⟩
abbrev S512 : Shape := ⟨1, ![512]⟩
abbrev S18x512x1x1 : Shape := ⟨4, ![18, 512, 1, 1]⟩
abbrev S18 : Shape := ⟨1, ![18]⟩
abbrev S36x512x1x1 : Shape := ⟨4, ![36, 512, 1, 1]⟩
abbrev S36 : Shape := ⟨1, ![36]⟩
abbrev S_ : Shape := ⟨0, ![]⟩
abbrev S2x1024x52x52 : Shape := ⟨4, ![2, 1024, 52, 52]⟩
abbrev S2x512x50x50 : Shape := ⟨4, ![2, 512, 50, 50]⟩
abbrev S512x1024x1x1 : Shape := ⟨4, ![512, 1024, 1, 1]⟩
abbrev S512x1024 : Shape := ⟨2, ![512, 1024]⟩
abbrev S512x2x50x50 : Shape := ⟨4, ![512, 2, 50, 50]⟩
abbrev S1x512x1x1 : Shape := ⟨4, ![1, 512, 1, 1]⟩
abbrev S18x512 : Shape := ⟨2, ![18, 512]⟩
abbrev S18x2x50x50 : Shape := ⟨4, ![18, 2, 50, 50]⟩
abbrev S2x18x50x50 : Shape := ⟨4, ![2, 18, 50, 50]⟩
abbrev S1x18x1x1 : Shape := ⟨4, ![1, 18, 1, 1]⟩
abbrev S2x2x450x50 : Shape := ⟨4, ![2, 2, 450, 50]⟩
abbrev S2x450x50 : Shape := ⟨3, ![2, 450, 50]⟩
abbrev S2x1x450x50 : Shape := ⟨4, ![2, 1, 450, 50]⟩
abbrev S36x512 : Shape := ⟨2, ![36, 512]⟩
abbrev S36x2x50x50 : Shape := ⟨4, ![36, 2, 50, 50]⟩
abbrev S2x36x50x50 : Shape := ⟨4, ![2, 36, 50, 50]⟩
abbrev S1x36x1x1 : Shape := ⟨4, ![1, 36, 1, 1]⟩
abbrev S2x9x50x50 : Shape := ⟨4, ![2, 9, 50, 50]⟩
abbrev S2x50x50x9 : Shape := ⟨4, ![2, 50, 50, 9]⟩
abbrev S2x22500 : Shape := ⟨2, ![2, 22500]⟩
abbrev S2x50x50x36 : Shape := ⟨4, ![2, 50, 50, 36]⟩
abbrev S2x22500x4 : Shape := ⟨3, ![2, 22500, 4]⟩
abbrev S1 : Shape := ⟨1, ![1]⟩
abbrev S16 : Shape := ⟨1, ![16]⟩
abbrev S4 : Shape := ⟨1, ![4]⟩
abbrev S9x4 : Shape := ⟨2, ![9, 4]⟩
abbrev S50 : Shape := ⟨1, ![50]⟩
abbrev S50x50 : Shape := ⟨2, ![50, 50]⟩
abbrev S2500 : Shape := ⟨1, ![2500]⟩
abbrev S2500x1 : Shape := ⟨2, ![2500, 1]⟩
abbrev S2500x4 : Shape := ⟨2, ![2500, 4]⟩
abbrev S1x9x4 : Shape := ⟨3, ![1, 9, 4]⟩
abbrev S2500x1x4 : Shape := ⟨3, ![2500, 1, 4]⟩
abbrev S2500x9x4 : Shape := ⟨3, ![2500, 9, 4]⟩
abbrev S22500x4 : Shape := ⟨2, ![22500, 4]⟩
abbrev S1x22500x4 : Shape := ⟨3, ![1, 22500, 4]⟩
abbrev S1x22500x1 : Shape := ⟨3, ![1, 22500, 1]⟩
abbrev S1x22500 : Shape := ⟨2, ![1, 22500]⟩
abbrev S2x22500x1 : Shape := ⟨3, ![2, 22500, 1]⟩
abbrev S2x1 : Shape := ⟨2, ![2, 1]⟩

abbrev nBuf : Space → Nat
  | .hbm => 334
  | .vmem => 0
  | .smem => 0
  | _ => 0

abbrev hbmTy0_0 (i : Nat) : BufTy := match i % 128 with
  | 0 => ⟨S2x1024x50x50, .f32⟩
  | 1 => ⟨S2x3, .f32⟩
  | 2 => ⟨S2x20x5, .f32⟩
  | 3 => ⟨S2, .i32⟩
  | 4 => ⟨S512x1024x3x3, .f32⟩
  | 5 => ⟨S512, .f32⟩
  | 6 => ⟨S18x512x1x1, .f32⟩
  | 7 => ⟨S18, .f32⟩
  | 8 => ⟨S36x512x1x1, .f32⟩
  | 9 => ⟨S36, .f32⟩
  | 10 => ⟨S_, .i32⟩
  | 11 => ⟨S_, .f32⟩
  | 12 => ⟨S2x1024x52x52, .f32⟩
  | 13 => ⟨S_, .f32⟩
  | 14 => ⟨S2x512x50x50, .f32⟩
  | 15 => ⟨S2x1024x50x50, .f32⟩
  | 16 => ⟨S512x1024x1x1, .f32⟩
  | 17 => ⟨S512x1024, .f32⟩
  | 18 => ⟨S512x2x50x50, .f32⟩
  | 19 => ⟨S2x512x50x50, .f32⟩
  | 20 => ⟨S2x512x50x50, .f32⟩
  | 21 => ⟨S2x1024x50x50, .f32⟩
  | 22 => ⟨S512x1024x1x1, .f32⟩
  | 23 => ⟨S512x1024, .f32⟩
  | 24 => ⟨S512x2x50x50, .f32⟩
  | 25 => ⟨S2x512x50x50, .f32⟩
  | 26 => ⟨S2x512x50x50, .f32⟩
  | 27 => ⟨S2x1024x50x50, .f32⟩
  | 28 => ⟨S512x1024x1x1, .f32⟩
  | 29 => ⟨S512x1024, .f32⟩
  | 30 => ⟨S512x2x50x50, .f32⟩
  | 31 => ⟨S2x512x50x50, .f32⟩
  | 32 => ⟨S2x512x50x50, .f32⟩
  | 33 => ⟨S2x1024x50x50, .f32⟩
  | 34 => ⟨S512x1024x1x1, .f32⟩
  | 35 => ⟨S512x1024, .f32⟩
  | 36 => ⟨S512x2x50x50, .f32⟩
  | 37 => ⟨S2x512x50x50, .f32⟩
  | 38 => ⟨S2x512x50x50, .f32⟩
  | 39 => ⟨S2x1024x50x50, .f32⟩
  | 40 => ⟨S512x1024x1x1, .f32⟩
  | 41 => ⟨S512x1024, .f32⟩
  | 42 => ⟨S512x2x50x50, .f32⟩
  | 43 => ⟨S2x512x50x50, .f32⟩
  | 44 => ⟨S2x512x50x50, .f32⟩
  | 45 => ⟨S2x1024x50x50, .f32⟩
  | 46 => ⟨S512x1024x1x1, .f32⟩
  | 47 => ⟨S512x1024, .f32⟩
  | 48 => ⟨S512x2x50x50, .f32⟩
  | 49 => ⟨S2x512x50x50, .f32⟩
  | 50 => ⟨S2x512x50x50, .f32⟩
  | 51 => ⟨S2x1024x50x50, .f32⟩
  | 52 => ⟨S512x1024x1x1, .f32⟩
  | 53 => ⟨S512x1024, .f32⟩
  | 54 => ⟨S512x2x50x50, .f32⟩
  | 55 => ⟨S2x512x50x50, .f32⟩
  | 56 => ⟨S2x512x50x50, .f32⟩
  | 57 => ⟨S2x1024x50x50, .f32⟩
  | 58 => ⟨S512x1024x1x1, .f32⟩
  | 59 => ⟨S512x1024, .f32⟩
  | 60 => ⟨S512x2x50x50, .f32⟩
  | 61 => ⟨S2x512x50x50, .f32⟩
  | 62 => ⟨S2x512x50x50, .f32⟩
  | 63 => ⟨S2x1024x50x50, .f32⟩
  | 64 => ⟨S512x1024x1x1, .f32⟩
  | 65 => ⟨S512x1024, .f32⟩
  | 66 => ⟨S512x2x50x50, .f32⟩
  | 67 => ⟨S2x512x50x50, .f32⟩
  | 68 => ⟨S2x512x50x50, .f32⟩
  | 69 => ⟨S1x512x1x1, .f32⟩
  | 70 => ⟨S2x512x50x50, .f32⟩
  | 71 => ⟨S2x512x50x50, .f32⟩
  | 72 => ⟨S_, .f32⟩
  | 73 => ⟨S2x512x50x50, .f32⟩
  | 74 => ⟨S2x512x50x50, .f32⟩
  | 75 => ⟨S18x512, .f32⟩
  | 76 => ⟨S18x2x50x50, .f32⟩
  | 77 => ⟨S2x18x50x50, .f32⟩
  | 78 => ⟨S1x18x1x1, .f32⟩
  | 79 => ⟨S2x18x50x50, .f32⟩
  | 80 => ⟨S2x18x50x50, .f32⟩
  | 81 => ⟨S2x2x450x50, .f32⟩
  | 82 => ⟨S_, .f32⟩
  | 83 => ⟨S2x450x50, .f32⟩
  | 84 => ⟨S_, .f32⟩
  | 85 => ⟨S2x450x50, .f32⟩
  | 86 => ⟨S2x450x50, .f32⟩
  | 87 => ⟨S2x1x450x50, .f32⟩
  | 88 => ⟨S2x2x450x50, .f32⟩
  | 89 => ⟨S2x2x450x50, .f32⟩
  | 90 => ⟨S2x2x450x50, .f32⟩
  | 91 => ⟨S_, .f32⟩
  | 92 => ⟨S2x450x50, .f32⟩
  | 93 => ⟨S2x1x450x50, .f32⟩
  | 94 => ⟨S2x2x450x50, .f32⟩
  | 95 => ⟨S2x2x450x50, .f32⟩
  | 96 => ⟨S2x18x50x50, .f32⟩
  | 97 => ⟨S36x512, .f32⟩
  | 98 => ⟨S36x2x50x50, .f32⟩
  | 99 => ⟨S2x36x50x50, .f32⟩
  | 100 => ⟨S1x36x1x1, .f32⟩
  | 101 => ⟨S2x36x50x50, .f32⟩
  | 102 => ⟨S2x36x50x50, .f32⟩
  | 103 => ⟨S2x9x50x50, .f32⟩
  | 104 => ⟨S2x50x50x9, .f32⟩
  | 105 => ⟨S2x22500, .f32⟩
  | 106 => ⟨S2x50x50x36, .f32⟩
  | 107 => ⟨S2x22500x4, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S2x1024x50x50, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S1, .f32⟩
  | 17 => ⟨S1, .f32⟩
  | 18 => ⟨S1, .f32⟩
  | 19 => ⟨S1, .f32⟩
  | 20 => ⟨S1, .f32⟩
  | 21 => ⟨S1, .f32⟩
  | 22 => ⟨S1, .f32⟩
  | 23 => ⟨S1, .f32⟩
  | 24 => ⟨S1, .f32⟩
  | 25 => ⟨S1, .f32⟩
  | 26 => ⟨S1, .f32⟩
  | 27 => ⟨S1, .f32⟩
  | 28 => ⟨S1, .f32⟩
  | 29 => ⟨S1, .f32⟩
  | 30 => ⟨S1, .f32⟩
  | 31 => ⟨S1, .f32⟩
  | 32 => ⟨S1, .f32⟩
  | 33 => ⟨S1, .f32⟩
  | 34 => ⟨S1, .f32⟩
  | 35 => ⟨S1, .f32⟩
  | 36 => ⟨S1, .f32⟩
  | 37 => ⟨S1, .f32⟩
  | 38 => ⟨S1, .f32⟩
  | 39 => ⟨S1, .f32⟩
  | 40 => ⟨S1, .f32⟩
  | 41 => ⟨S1, .f32⟩
  | 42 => ⟨S1, .f32⟩
  | 43 => ⟨S1, .f32⟩
  | 44 => ⟨S1, .f32⟩
  | 45 => ⟨S1, .f32⟩
  | 46 => ⟨S1, .f32⟩
  | 47 => ⟨S1, .f32⟩
  | 48 => ⟨S1, .f32⟩
  | 49 => ⟨S1, .f32⟩
  | 50 => ⟨S1, .f32⟩
  | 51 => ⟨S1, .f32⟩
  | 52 => ⟨S16, .f32⟩
  | 53 => ⟨S16, .f32⟩
  | 54 => ⟨S4, .f32⟩
  | 55 => ⟨S36, .f32⟩
  | 56 => ⟨S9x4, .f32⟩
  | 57 => ⟨S50, .i32⟩
  | 58 => ⟨S_, .i32⟩
  | 59 => ⟨S50, .i32⟩
  | 60 => ⟨S50, .i32⟩
  | 61 => ⟨S50, .i32⟩
  | 62 => ⟨S_, .i32⟩
  | 63 => ⟨S50, .i32⟩
  | 64 => ⟨S50, .i32⟩
  | 65 => ⟨S50x50, .i32⟩
  | 66 => ⟨S50x50, .i32⟩
  | 67 => ⟨S2500, .i32⟩
  | 68 => ⟨S2500, .i32⟩
  | 69 => ⟨S2500, .i32⟩
  | 70 => ⟨S2500, .i32⟩
  | 71 => ⟨S2500x1, .i32⟩
  | 72 => ⟨S2500x1, .i32⟩
  | 73 => ⟨S2500x1, .i32⟩
  | 74 => ⟨S2500x1, .i32⟩
  | 75 => ⟨S2500x4, .i32⟩
  | 76 => ⟨S2500x4, .f32⟩
  | 77 => ⟨S1x9x4, .f32⟩
  | 78 => ⟨S2500x1x4, .f32⟩
  | 79 => ⟨S2500x9x4, .f32⟩
  | 80 => ⟨S2500x9x4, .f32⟩
  | 81 => ⟨S2500x9x4, .f32⟩
  | 82 => ⟨S22500x4, .f32⟩
  | 83 => ⟨S1x22500x4, .f32⟩
  | 84 => ⟨S1x22500x1, .f32⟩
  | 85 => ⟨S1x22500, .f32⟩
  | 86 => ⟨S1x22500x1, .f32⟩
  | 87 => ⟨S1x22500, .f32⟩
  | 88 => ⟨S1x22500, .f32⟩
  | 89 => ⟨S_, .f32⟩
  | 90 => ⟨S1x22500, .f32⟩
  | 91 => ⟨S1x22500, .f32⟩
  | 92 => ⟨S1x22500x1, .f32⟩
  | 93 => ⟨S1x22500, .f32⟩
  | 94 => ⟨S1x22500x1, .f32⟩
  | 95 => ⟨S1x22500, .f32⟩
  | 96 => ⟨S1x22500, .f32⟩
  | 97 => ⟨S_, .f32⟩
  | 98 => ⟨S1x22500, .f32⟩
  | 99 => ⟨S1x22500, .f32⟩
  | 100 => ⟨S1x22500x1, .f32⟩
  | 101 => ⟨S1x22500, .f32⟩
  | 102 => ⟨S_, .f32⟩
  | 103 => ⟨S1x22500, .f32⟩
  | 104 => ⟨S1x22500, .f32⟩
  | 105 => ⟨S1x22500, .f32⟩
  | 106 => ⟨S1x22500x1, .f32⟩
  | 107 => ⟨S1x22500, .f32⟩
  | 108 => ⟨S_, .f32⟩
  | 109 => ⟨S1x22500, .f32⟩
  | 110 => ⟨S1x22500, .f32⟩
  | 111 => ⟨S1x22500, .f32⟩
  | 112 => ⟨S2x22500x1, .f32⟩
  | 113 => ⟨S2x22500, .f32⟩
  | 114 => ⟨S2x22500x1, .f32⟩
  | 115 => ⟨S2x22500, .f32⟩
  | 116 => ⟨S2x22500x1, .f32⟩
  | 117 => ⟨S2x22500, .f32⟩
  | 118 => ⟨S2x22500x1, .f32⟩
  | 119 => ⟨S2x22500, .f32⟩
  | 120 => ⟨S2x22500, .f32⟩
  | 121 => ⟨S2x22500, .f32⟩
  | 122 => ⟨S2x22500, .f32⟩
  | 123 => ⟨S2x22500, .f32⟩
  | 124 => ⟨S2x22500, .f32⟩
  | 125 => ⟨S2x22500, .f32⟩
  | 126 => ⟨S2x22500, .f32⟩
  | 127 => ⟨S2x22500, .f32⟩
  | _ => ⟨S2x1024x50x50, .f32⟩

abbrev hbmTy0_2 (i : Nat) : BufTy := match i % 128 with
  | 0 => ⟨S2x22500, .f32⟩
  | 1 => ⟨S2x22500, .f32⟩
  | 2 => ⟨S2x22500, .f32⟩
  | 3 => ⟨S2x22500, .f32⟩
  | 4 => ⟨S2x22500, .f32⟩
  | 5 => ⟨S2x22500, .f32⟩
  | 6 => ⟨S_, .f32⟩
  | 7 => ⟨S2x22500, .f32⟩
  | 8 => ⟨S2x22500, .f32⟩
  | 9 => ⟨S2x22500, .f32⟩
  | 10 => ⟨S_, .f32⟩
  | 11 => ⟨S2x22500, .f32⟩
  | 12 => ⟨S2x22500, .f32⟩
  | 13 => ⟨S2x22500, .f32⟩
  | 14 => ⟨S_, .f32⟩
  | 15 => ⟨S2x22500, .f32⟩
  | 16 => ⟨S2x22500, .f32⟩
  | 17 => ⟨S2x22500, .f32⟩
  | 18 => ⟨S_, .f32⟩
  | 19 => ⟨S2x22500, .f32⟩
  | 20 => ⟨S2x22500, .f32⟩
  | 21 => ⟨S2x22500, .f32⟩
  | 22 => ⟨S2x22500x1, .f32⟩
  | 23 => ⟨S2x22500x1, .f32⟩
  | 24 => ⟨S2x22500x1, .f32⟩
  | 25 => ⟨S2x22500x1, .f32⟩
  | 26 => ⟨S2x22500x4, .f32⟩
  | 27 => ⟨S2x1, .f32⟩
  | 28 => ⟨S2x1, .f32⟩
  | 29 => ⟨S2x22500x1, .f32⟩
  | 30 => ⟨S2x22500, .f32⟩
  | 31 => ⟨S_, .f32⟩
  | 32 => ⟨S2x1, .f32⟩
  | 33 => ⟨S2x1, .f32⟩
  | 34 => ⟨S_, .f32⟩
  | 35 => ⟨S_, .f32⟩
  | 36 => ⟨S2x22500, .f32⟩
  | 37 => ⟨S2x22500, .f32⟩
  | 38 => ⟨S2x22500, .f32⟩
  | 39 => ⟨S2x22500, .f32⟩
  | 40 => ⟨S2x22500x1, .f32⟩
  | 41 => ⟨S2x22500, .f32⟩
  | 42 => ⟨S_, .f32⟩
  | 43 => ⟨S2x1, .f32⟩
  | 44 => ⟨S2x1, .f32⟩
  | 45 => ⟨S_, .f32⟩
  | 46 => ⟨S_, .f32⟩
  | 47 => ⟨S2x22500, .f32⟩
  | 48 => ⟨S2x22500, .f32⟩
  | 49 => ⟨S2x22500, .f32⟩
  | 50 => ⟨S2x22500, .f32⟩
  | 51 => ⟨S2x22500x1, .f32⟩
  | 52 => ⟨S2x22500, .f32⟩
  | 53 => ⟨S_, .f32⟩
  | 54 => ⟨S2x1, .f32⟩
  | 55 => ⟨S2x1, .f32⟩
  | 56 => ⟨S_, .f32⟩
  | 57 => ⟨S_, .f32⟩
  | 58 => ⟨S2x22500, .f32⟩
  | 59 => ⟨S2x22500, .f32⟩
  | 60 => ⟨S2x22500, .f32⟩
  | 61 => ⟨S2x22500, .f32⟩
  | 62 => ⟨S2x22500x1, .f32⟩
  | 63 => ⟨S2x22500, .f32⟩
  | 64 => ⟨S_, .f32⟩
  | 65 => ⟨S2x1, .f32⟩
  | 66 => ⟨S2x1, .f32⟩
  | 67 => ⟨S_, .f32⟩
  | 68 => ⟨S_, .f32⟩
  | 69 => ⟨S2x22500, .f32⟩
  | 70 => ⟨S2x22500, .f32⟩
  | 71 => ⟨S2x22500, .f32⟩
  | 72 => ⟨S2x22500, .f32⟩
  | 73 => ⟨S2x22500x1, .f32⟩
  | 74 => ⟨S2x22500x1, .f32⟩
  | 75 => ⟨S2x22500x1, .f32⟩
  | 76 => ⟨S2x22500x1, .f32⟩
  | 77 => ⟨S2x22500x4, .f32⟩
  | _ => ⟨S2x1024x50x50, .f32⟩

abbrev hbmTy (i : Nat) : BufTy := match i / 128 with
  | 0 => hbmTy0_0 i
  | 1 => hbmTy0_1 i
  | 2 => hbmTy0_2 i
  | _ => ⟨S2x1024x50x50, .f32⟩

abbrev bufTy : (tb : Table) → Fin (tcTables nBuf tb) → BufTy
  | .hbm, ⟨i, _⟩ => hbmTy i
  | _, _ => ⟨S2x1024x50x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_call1_cst : Ref sig .tc := ⟨.hbm, 72, rfl⟩
abbrev main_call1_v0 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_0 : Ref sig .tc := ⟨.hbm, 82, rfl⟩
abbrev main_v67 : Ref sig .tc := ⟨.hbm, 83, rfl⟩
abbrev main_cst_1 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_2 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_cst_3 : Ref sig .tc := ⟨.hbm, 108, rfl⟩
abbrev main_cst_4 : Ref sig .tc := ⟨.hbm, 109, rfl⟩
abbrev main_cst_5 : Ref sig .tc := ⟨.hbm, 110, rfl⟩
abbrev main_cst_6 : Ref sig .tc := ⟨.hbm, 111, rfl⟩
abbrev main_cst_7 : Ref sig .tc := ⟨.hbm, 112, rfl⟩
abbrev main_cst_8 : Ref sig .tc := ⟨.hbm, 113, rfl⟩
abbrev main_cst_9 : Ref sig .tc := ⟨.hbm, 114, rfl⟩
abbrev main_cst_10 : Ref sig .tc := ⟨.hbm, 115, rfl⟩
abbrev main_cst_11 : Ref sig .tc := ⟨.hbm, 116, rfl⟩
abbrev main_cst_12 : Ref sig .tc := ⟨.hbm, 117, rfl⟩
abbrev main_cst_13 : Ref sig .tc := ⟨.hbm, 118, rfl⟩
abbrev main_cst_14 : Ref sig .tc := ⟨.hbm, 119, rfl⟩
abbrev main_cst_15 : Ref sig .tc := ⟨.hbm, 120, rfl⟩
abbrev main_cst_16 : Ref sig .tc := ⟨.hbm, 121, rfl⟩
abbrev main_cst_17 : Ref sig .tc := ⟨.hbm, 122, rfl⟩
abbrev main_cst_18 : Ref sig .tc := ⟨.hbm, 123, rfl⟩
abbrev main_cst_19 : Ref sig .tc := ⟨.hbm, 124, rfl⟩
abbrev main_cst_20 : Ref sig .tc := ⟨.hbm, 125, rfl⟩
abbrev main_cst_21 : Ref sig .tc := ⟨.hbm, 126, rfl⟩
abbrev main_cst_22 : Ref sig .tc := ⟨.hbm, 127, rfl⟩
abbrev main_cst_23 : Ref sig .tc := ⟨.hbm, 128, rfl⟩
abbrev main_cst_24 : Ref sig .tc := ⟨.hbm, 129, rfl⟩
abbrev main_cst_25 : Ref sig .tc := ⟨.hbm, 130, rfl⟩
abbrev main_cst_26 : Ref sig .tc := ⟨.hbm, 131, rfl⟩
abbrev main_cst_27 : Ref sig .tc := ⟨.hbm, 132, rfl⟩
abbrev main_cst_28 : Ref sig .tc := ⟨.hbm, 133, rfl⟩
abbrev main_cst_29 : Ref sig .tc := ⟨.hbm, 134, rfl⟩
abbrev main_cst_30 : Ref sig .tc := ⟨.hbm, 135, rfl⟩
abbrev main_cst_31 : Ref sig .tc := ⟨.hbm, 136, rfl⟩
abbrev main_cst_32 : Ref sig .tc := ⟨.hbm, 137, rfl⟩
abbrev main_cst_33 : Ref sig .tc := ⟨.hbm, 138, rfl⟩
abbrev main_cst_34 : Ref sig .tc := ⟨.hbm, 139, rfl⟩
abbrev main_cst_35 : Ref sig .tc := ⟨.hbm, 140, rfl⟩
abbrev main_cst_36 : Ref sig .tc := ⟨.hbm, 141, rfl⟩
abbrev main_cst_37 : Ref sig .tc := ⟨.hbm, 142, rfl⟩
abbrev main_cst_38 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_c_39 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_c_40 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_cst_41 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_cst_42 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_cst_43 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_cst_44 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_cst_45 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_cst_46 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_cst_47 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_cst_48 : Ref sig .tc := ⟨.hbm, 274, rfl⟩
abbrev main_v211 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_v215 : Ref sig .tc := ⟨.hbm, 279, rfl⟩
abbrev main_v216 : Ref sig .tc := ⟨.hbm, 280, rfl⟩
abbrev main_v217 : Ref sig .tc := ⟨.hbm, 281, rfl⟩
abbrev main_v218 : Ref sig .tc := ⟨.hbm, 282, rfl⟩
abbrev main_v219 : Ref sig .tc := ⟨.hbm, 283, rfl⟩
abbrev main_v220 : Ref sig .tc := ⟨.hbm, 284, rfl⟩
abbrev main_v221 : Ref sig .tc := ⟨.hbm, 285, rfl⟩
abbrev main_v222 : Ref sig .tc := ⟨.hbm, 286, rfl⟩
abbrev main_cst_49 : Ref sig .tc := ⟨.hbm, 287, rfl⟩
abbrev main_v223 : Ref sig .tc := ⟨.hbm, 288, rfl⟩
abbrev main_v224 : Ref sig .tc := ⟨.hbm, 289, rfl⟩
abbrev main_cst_50 : Ref sig .tc := ⟨.hbm, 290, rfl⟩
abbrev main_call2_v0 : Ref sig .tc := ⟨.hbm, 291, rfl⟩
abbrev main_call2_v1 : Ref sig .tc := ⟨.hbm, 292, rfl⟩
abbrev main_call2_v2 : Ref sig .tc := ⟨.hbm, 293, rfl⟩
abbrev main_call2_v3 : Ref sig .tc := ⟨.hbm, 294, rfl⟩
abbrev main_v225 : Ref sig .tc := ⟨.hbm, 295, rfl⟩
abbrev main_v226 : Ref sig .tc := ⟨.hbm, 296, rfl⟩
abbrev main_v227 : Ref sig .tc := ⟨.hbm, 297, rfl⟩
abbrev main_cst_51 : Ref sig .tc := ⟨.hbm, 298, rfl⟩
abbrev main_v228 : Ref sig .tc := ⟨.hbm, 299, rfl⟩
abbrev main_v229 : Ref sig .tc := ⟨.hbm, 300, rfl⟩
abbrev main_cst_52 : Ref sig .tc := ⟨.hbm, 301, rfl⟩
abbrev main_call3_v0 : Ref sig .tc := ⟨.hbm, 302, rfl⟩
abbrev main_call3_v1 : Ref sig .tc := ⟨.hbm, 303, rfl⟩
abbrev main_call3_v2 : Ref sig .tc := ⟨.hbm, 304, rfl⟩
abbrev main_call3_v3 : Ref sig .tc := ⟨.hbm, 305, rfl⟩
abbrev main_v230 : Ref sig .tc := ⟨.hbm, 306, rfl⟩
abbrev main_v231 : Ref sig .tc := ⟨.hbm, 307, rfl⟩
abbrev main_v232 : Ref sig .tc := ⟨.hbm, 308, rfl⟩
abbrev main_cst_53 : Ref sig .tc := ⟨.hbm, 309, rfl⟩
abbrev main_v233 : Ref sig .tc := ⟨.hbm, 310, rfl⟩
abbrev main_v234 : Ref sig .tc := ⟨.hbm, 311, rfl⟩
abbrev main_cst_54 : Ref sig .tc := ⟨.hbm, 312, rfl⟩
abbrev main_call4_v0 : Ref sig .tc := ⟨.hbm, 313, rfl⟩
abbrev main_call4_v1 : Ref sig .tc := ⟨.hbm, 314, rfl⟩
abbrev main_call4_v2 : Ref sig .tc := ⟨.hbm, 315, rfl⟩
abbrev main_call4_v3 : Ref sig .tc := ⟨.hbm, 316, rfl⟩
abbrev main_v235 : Ref sig .tc := ⟨.hbm, 317, rfl⟩
abbrev main_v236 : Ref sig .tc := ⟨.hbm, 318, rfl⟩
abbrev main_v237 : Ref sig .tc := ⟨.hbm, 319, rfl⟩
abbrev main_cst_55 : Ref sig .tc := ⟨.hbm, 320, rfl⟩
abbrev main_v238 : Ref sig .tc := ⟨.hbm, 321, rfl⟩
abbrev main_v239 : Ref sig .tc := ⟨.hbm, 322, rfl⟩
abbrev main_cst_56 : Ref sig .tc := ⟨.hbm, 323, rfl⟩
abbrev main_call5_v0 : Ref sig .tc := ⟨.hbm, 324, rfl⟩
abbrev main_call5_v1 : Ref sig .tc := ⟨.hbm, 325, rfl⟩
abbrev main_call5_v2 : Ref sig .tc := ⟨.hbm, 326, rfl⟩
abbrev main_call5_v3 : Ref sig .tc := ⟨.hbm, 327, rfl⟩
abbrev main_v240 : Ref sig .tc := ⟨.hbm, 328, rfl⟩
abbrev main_v241 : Ref sig .tc := ⟨.hbm, 329, rfl⟩
abbrev main_v242 : Ref sig .tc := ⟨.hbm, 330, rfl⟩
abbrev main_v243 : Ref sig .tc := ⟨.hbm, 331, rfl⟩
abbrev main_v244 : Ref sig .tc := ⟨.hbm, 332, rfl⟩
abbrev main_v245 : Ref sig .tc := ⟨.hbm, 333, rfl⟩

abbrev nD : Nat := 1
abbrev τ : Topo := Topo.v7x

variable {F : FTy → Type} [FloatOps F]
-- ==== Kernel2Ideal.lean ====
abbrev S2x6000x4 : Shape := ⟨3, ![2, 6000, 4]⟩
abbrev S_ : Shape := ⟨0, ![]⟩
abbrev S2x6016x4 : Shape := ⟨3, ![2, 6016, 4]⟩
abbrev S2x6016x1 : Shape := ⟨3, ![2, 6016, 1]⟩
abbrev S2x47x128x4 : Shape := ⟨4, ![2, 47, 128, 4]⟩
abbrev S2x47x128x1 : Shape := ⟨4, ![2, 47, 128, 1]⟩
abbrev S2x47x128 : Shape := ⟨3, ![2, 47, 128]⟩
abbrev S1x6016x1 : Shape := ⟨3, ![1, 6016, 1]⟩
abbrev S1x47x128 : Shape := ⟨3, ![1, 47, 128]⟩
abbrev S47x128 : Shape := ⟨2, ![47, 128]⟩
abbrev S1x128x1 : Shape := ⟨3, ![1, 128, 1]⟩
abbrev S128 : Shape := ⟨1, ![128]⟩
abbrev S1x1x128 : Shape := ⟨3, ![1, 1, 128]⟩
abbrev S1x128 : Shape := ⟨2, ![1, 128]⟩
abbrev S128x1 : Shape := ⟨2, ![128, 1]⟩
abbrev S128x128 : Shape := ⟨2, ![128, 128]⟩
abbrev S1 : Shape := ⟨1, ![1]⟩
abbrev S1x1x1 : Shape := ⟨3, ![1, 1, 1]⟩
abbrev S128x1x1 : Shape := ⟨3, ![128, 1, 1]⟩
abbrev S128x47x128 : Shape := ⟨3, ![128, 47, 128]⟩
abbrev S128x6016 : Shape := ⟨2, ![128, 6016]⟩
abbrev S1x6016 : Shape := ⟨2, ![1, 6016]⟩
abbrev S2x6016 : Shape := ⟨2, ![2, 6016]⟩
abbrev S6016 : Shape := ⟨1, ![6016]⟩
abbrev S300 : Shape := ⟨1, ![300]⟩
abbrev S6016x1 : Shape := ⟨2, ![6016, 1]⟩
abbrev S1x6000x4 : Shape := ⟨3, ![1, 6000, 4]⟩
abbrev S6000x4 : Shape := ⟨2, ![6000, 4]⟩
abbrev S300x1 : Shape := ⟨2, ![300, 1]⟩
abbrev S300x4 : Shape := ⟨2, ![300, 4]⟩
abbrev S300x5 : Shape := ⟨2, ![300, 5]⟩
abbrev S1x300x5 : Shape := ⟨3, ![1, 300, 5]⟩
abbrev S2x300x5 : Shape := ⟨3, ![2, 300, 5]⟩

abbrev nBuf : Space → Nat
  | .hbm => 202
  | .vmem => 19
  | .smem => 0
  | _ => 0

abbrev hbmTy0_0 (i : Nat) : BufTy := match i % 128 with
  | 0 => ⟨S2x6000x4, .f32⟩
  | 1 => ⟨S_, .i32⟩
  | 2 => ⟨S_, .f32⟩
  | 3 => ⟨S2x6016x4, .f32⟩
  | 4 => ⟨S2x6016x1, .f32⟩
  | 5 => ⟨S2x6016x1, .f32⟩
  | 6 => ⟨S2x6016x1, .f32⟩
  | 7 => ⟨S2x6016x1, .f32⟩
  | 8 => ⟨S2x47x128x4, .f32⟩
  | 9 => ⟨S2x47x128x1, .f32⟩
  | 10 => ⟨S2x47x128, .f32⟩
  | 11 => ⟨S2x47x128x1, .f32⟩
  | 12 => ⟨S2x47x128, .f32⟩
  | 13 => ⟨S2x47x128x1, .f32⟩
  | 14 => ⟨S2x47x128, .f32⟩
  | 15 => ⟨S2x47x128x1, .f32⟩
  | 16 => ⟨S2x47x128, .f32⟩
  | 17 => ⟨S2x47x128, .f32⟩
  | 18 => ⟨S2x6016, .f32⟩
  | 19 => ⟨S1x6016, .f32⟩
  | 20 => ⟨S6016, .f32⟩
  | 21 => ⟨S_, .f32⟩
  | 22 => ⟨S6016, .f32⟩
  | 23 => ⟨S6016, .i1⟩
  | 24 => ⟨S6016, .i32⟩
  | 25 => ⟨S_, .i32⟩
  | 26 => ⟨S_, .i32⟩
  | 27 => ⟨S6016, .i32⟩
  | 28 => ⟨S_, .i32⟩
  | 29 => ⟨S300, .i32⟩
  | 30 => ⟨S_, .i32⟩
  | 31 => ⟨S6016, .i32⟩
  | 32 => ⟨S6016, .i1⟩
  | 33 => ⟨S_, .i32⟩
  | 34 => ⟨S6016, .i32⟩
  | 35 => ⟨S6016, .i32⟩
  | 36 => ⟨S6016, .i32⟩
  | 37 => ⟨S6016x1, .i32⟩
  | 38 => ⟨S_, .i32⟩
  | 39 => ⟨S6016, .i32⟩
  | 40 => ⟨S300, .i32⟩
  | 41 => ⟨S_, .i32⟩
  | 42 => ⟨S_, .i32⟩
  | 43 => ⟨S300, .i32⟩
  | 44 => ⟨S_, .i32⟩
  | 45 => ⟨S_, .i32⟩
  | 46 => ⟨S300, .i32⟩
  | 47 => ⟨S300, .i32⟩
  | 48 => ⟨S300, .i32⟩
  | 49 => ⟨S_, .i32⟩
  | 50 => ⟨S300, .i32⟩
  | 51 => ⟨S300, .i1⟩
  | 52 => ⟨S300, .i32⟩
  | 53 => ⟨S300, .i32⟩
  | 54 => ⟨S_, .i32⟩
  | 55 => ⟨S300, .i32⟩
  | 56 => ⟨S300, .i1⟩
  | 57 => ⟨S300, .i1⟩
  | 58 => ⟨S_, .i32⟩
  | 59 => ⟨S300, .i32⟩
  | 60 => ⟨S300, .i32⟩
  | 61 => ⟨S300, .i32⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S300, .i32⟩
  | 69 => ⟨S300, .i32⟩
  | 70 => ⟨S_, .i32⟩
  | 71 => ⟨S300, .i32⟩
  | 72 => ⟨S300, .i1⟩
  | 73 => ⟨S_, .i32⟩
  | 74 => ⟨S300, .i32⟩
  | 75 => ⟨S300, .i1⟩
  | 76 => ⟨S_, .i32⟩
  | 77 => ⟨S_, .i1⟩
  | 78 => ⟨S300, .i1⟩
  | 79 => ⟨S300, .i1⟩
  | 80 => ⟨S300, .i1⟩
  | 81 => ⟨S300, .i32⟩
  | 82 => ⟨S300, .i32⟩
  | 83 => ⟨S300, .i32⟩
  | 84 => ⟨S6016, .i32⟩
  | 85 => ⟨S_, .i32⟩
  | 86 => ⟨S_, .i32⟩
  | 87 => ⟨S1, .i32⟩
  | 88 => ⟨S300, .i32⟩
  | 89 => ⟨S300, .i32⟩
  | 90 => ⟨S300, .i1⟩
  | 91 => ⟨S_, .i32⟩
  | 92 => ⟨S1, .i32⟩
  | 93 => ⟨S300, .i32⟩
  | 94 => ⟨S300, .i32⟩
  | 95 => ⟨S1x6000x4, .f32⟩
  | 96 => ⟨S6000x4, .f32⟩
  | 97 => ⟨S_, .i32⟩
  | 98 => ⟨S300, .i32⟩
  | 99 => ⟨S300, .i1⟩
  | 100 => ⟨S_, .i32⟩
  | 101 => ⟨S300, .i32⟩
  | 102 => ⟨S300, .i32⟩
  | 103 => ⟨S300, .i32⟩
  | 104 => ⟨S300x1, .i32⟩
  | 105 => ⟨S300x4, .f32⟩
  | 106 => ⟨S_, .f32⟩
  | 107 => ⟨S300x1, .f32⟩
  | 108 => ⟨S300x5, .f32⟩
  | 109 => ⟨S1x6016, .f32⟩
  | 110 => ⟨S6016, .f32⟩
  | 111 => ⟨S_, .f32⟩
  | 112 => ⟨S6016, .f32⟩
  | 113 => ⟨S6016, .i1⟩
  | 114 => ⟨S6016, .i32⟩
  | 115 => ⟨S_, .i32⟩
  | 116 => ⟨S_, .i32⟩
  | 117 => ⟨S6016, .i32⟩
  | 118 => ⟨S_, .i32⟩
  | 119 => ⟨S300, .i32⟩
  | 120 => ⟨S_, .i32⟩
  | 121 => ⟨S6016, .i32⟩
  | 122 => ⟨S6016, .i1⟩
  | 123 => ⟨S_, .i32⟩
  | 124 => ⟨S6016, .i32⟩
  | 125 => ⟨S6016, .i32⟩
  | 126 => ⟨S6016, .i32⟩
  | 127 => ⟨S6016x1, .i32⟩
  | _ => ⟨S2x6000x4, .f32⟩

abbrev hbmTy0_1 (i : Nat) : BufTy := match i % 128 with
  | 0 => ⟨S_, .i32⟩
  | 1 => ⟨S6016, .i32⟩
  | 2 => ⟨S300, .i32⟩
  | 3 => ⟨S_, .i32⟩
  | 4 => ⟨S_, .i32⟩
  | 5 => ⟨S300, .i32⟩
  | 6 => ⟨S_, .i32⟩
  | 7 => ⟨S_, .i32⟩
  | 8 => ⟨S300, .i32⟩
  | 9 => ⟨S300, .i32⟩
  | 10 => ⟨S300, .i32⟩
  | 11 => ⟨S_, .i32⟩
  | 12 => ⟨S300, .i32⟩
  | 13 => ⟨S300, .i1⟩
  | 14 => ⟨S300, .i32⟩
  | 15 => ⟨S300, .i32⟩
  | 16 => ⟨S_, .i32⟩
  | 17 => ⟨S300, .i32⟩
  | 18 => ⟨S300, .i1⟩
  | 19 => ⟨S300, .i1⟩
  | 20 => ⟨S_, .i32⟩
  | 21 => ⟨S300, .i32⟩
  | 22 => ⟨S300, .i32⟩
  | 23 => ⟨S300, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S300, .i32⟩
  | 31 => ⟨S300, .i32⟩
  | 32 => ⟨S_, .i32⟩
  | 33 => ⟨S300, .i32⟩
  | 34 => ⟨S300, .i1⟩
  | 35 => ⟨S_, .i32⟩
  | 36 => ⟨S300, .i32⟩
  | 37 => ⟨S300, .i1⟩
  | 38 => ⟨S_, .i32⟩
  | 39 => ⟨S_, .i1⟩
  | 40 => ⟨S300, .i1⟩
  | 41 => ⟨S300, .i1⟩
  | 42 => ⟨S300, .i1⟩
  | 43 => ⟨S300, .i32⟩
  | 44 => ⟨S300, .i32⟩
  | 45 => ⟨S300, .i32⟩
  | 46 => ⟨S6016, .i32⟩
  | 47 => ⟨S_, .i32⟩
  | 48 => ⟨S_, .i32⟩
  | 49 => ⟨S1, .i32⟩
  | 50 => ⟨S300, .i32⟩
  | 51 => ⟨S300, .i32⟩
  | 52 => ⟨S300, .i1⟩
  | 53 => ⟨S_, .i32⟩
  | 54 => ⟨S1, .i32⟩
  | 55 => ⟨S300, .i32⟩
  | 56 => ⟨S300, .i32⟩
  | 57 => ⟨S1x6000x4, .f32⟩
  | 58 => ⟨S6000x4, .f32⟩
  | 59 => ⟨S_, .i32⟩
  | 60 => ⟨S300, .i32⟩
  | 61 => ⟨S300, .i1⟩
  | 62 => ⟨S_, .i32⟩
  | 63 => ⟨S300, .i32⟩
  | 64 => ⟨S300, .i32⟩
  | 65 => ⟨S300, .i32⟩
  | 66 => ⟨S300x1, .i32⟩
  | 67 => ⟨S300x4, .f32⟩
  | 68 => ⟨S_, .f32⟩
  | 69 => ⟨S300x1, .f32⟩
  | 70 => ⟨S300x5, .f32⟩
  | 71 => ⟨S1x300x5, .f32⟩
  | 72 => ⟨S1x300x5, .f32⟩
  | 73 => ⟨S2x300x5, .f32⟩
  | _ => ⟨S2x6000x4, .f32⟩

abbrev hbmTy (i : Nat) : BufTy := match i / 128 with
  | 0 => hbmTy0_0 i
  | 1 => hbmTy0_1 i
  | _ => ⟨S2x6000x4, .f32⟩

abbrev bufTy : (tb : Table) → Fin (tcTables nBuf tb) → BufTy
  | .hbm, ⟨i, _⟩ => hbmTy i
  | .local _ .vmem, ⟨0, _⟩ => ⟨S1x6016x1, .f32⟩
  | .local _ .vmem, ⟨1, _⟩ => ⟨S1x6016x1, .f32⟩
  | .local _ .vmem, ⟨2, _⟩ => ⟨S1x6016x1, .f32⟩
  | .local _ .vmem, ⟨3, _⟩ => ⟨S1x6016x1, .f32⟩
  | .local _ .vmem, ⟨4, _⟩ => ⟨S1x6016x1, .f32⟩
  | .local _ .vmem, ⟨5, _⟩ => ⟨S1x6016x1, .f32⟩
  | .local _ .vmem, ⟨6, _⟩ => ⟨S1x6016x1, .f32⟩
  | .local _ .vmem, ⟨7, _⟩ => ⟨S1x6016x1, .f32⟩
  | .local _ .vmem, ⟨8, _⟩ => ⟨S1x47x128, .f32⟩
  | .local _ .vmem, ⟨9, _⟩ => ⟨S1x47x128, .f32⟩
  | .local _ .vmem, ⟨10, _⟩ => ⟨S1x47x128, .f32⟩
  | .local _ .vmem, ⟨11, _⟩ => ⟨S1x47x128, .f32⟩
  | .local _ .vmem, ⟨12, _⟩ => ⟨S1x47x128, .f32⟩
  | .local _ .vmem, ⟨13, _⟩ => ⟨S1x47x128, .f32⟩
  | .local _ .vmem, ⟨14, _⟩ => ⟨S1x47x128, .f32⟩
  | .local _ .vmem, ⟨15, _⟩ => ⟨S1x47x128, .f32⟩
  | .local _ .vmem, ⟨16, _⟩ => ⟨S1x47x128, .f32⟩
  | .local _ .vmem, ⟨17, _⟩ => ⟨S1x47x128, .f32⟩
  | .local _ .vmem, ⟨18, _⟩ => ⟨S47x128, .f32⟩
  | _, _ => ⟨S2x6000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_v19 : Ref sig .tc := ⟨.hbm, 23, rfl⟩
abbrev main_call1_v0 : Ref sig .tc := ⟨.hbm, 24, rfl⟩
abbrev main_call1_call0_c : Ref sig .tc := ⟨.hbm, 25, rfl⟩
abbrev main_call1_call0_v0 : Ref sig .tc := ⟨.hbm, 26, rfl⟩
abbrev main_v20 : Ref sig .tc := ⟨.hbm, 27, rfl⟩
abbrev main_c_0 : Ref sig .tc := ⟨.hbm, 28, rfl⟩
abbrev main_v21 : Ref sig .tc := ⟨.hbm, 29, rfl⟩
abbrev main_c_1 : Ref sig .tc := ⟨.hbm, 30, rfl⟩
abbrev main_v22 : Ref sig .tc := ⟨.hbm, 31, rfl⟩
abbrev main_v23 : Ref sig .tc := ⟨.hbm, 32, rfl⟩
abbrev main_c_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_3 : Ref sig .tc := ⟨.hbm, 38, rfl⟩
abbrev main_v28 : Ref sig .tc := ⟨.hbm, 39, rfl⟩
abbrev main_v29 : Ref sig .tc := ⟨.hbm, 40, rfl⟩
abbrev main_call2_call0_c : Ref sig .tc := ⟨.hbm, 41, rfl⟩
abbrev main_call2_call0_v0 : Ref sig .tc := ⟨.hbm, 42, rfl⟩
abbrev main_v30 : Ref sig .tc := ⟨.hbm, 43, rfl⟩
abbrev main_c_4 : Ref sig .tc := ⟨.hbm, 44, rfl⟩
abbrev main_call3_v0 : Ref sig .tc := ⟨.hbm, 45, rfl⟩
abbrev main_call3_v1 : Ref sig .tc := ⟨.hbm, 46, rfl⟩
abbrev main_call3_v2 : Ref sig .tc := ⟨.hbm, 47, rfl⟩
abbrev main_call3_v3 : Ref sig .tc := ⟨.hbm, 48, rfl⟩
abbrev main_call3_v4 : Ref sig .tc := ⟨.hbm, 49, rfl⟩
abbrev main_call3_v5 : Ref sig .tc := ⟨.hbm, 50, rfl⟩
abbrev main_call3_v6 : Ref sig .tc := ⟨.hbm, 51, rfl⟩
abbrev main_call3_v7 : Ref sig .tc := ⟨.hbm, 52, rfl⟩
abbrev main_call3_v8 : Ref sig .tc := ⟨.hbm, 53, rfl⟩
abbrev main_call3_c : Ref sig .tc := ⟨.hbm, 54, rfl⟩
abbrev main_call3_v9 : Ref sig .tc := ⟨.hbm, 55, rfl⟩
abbrev main_call3_v10 : Ref sig .tc := ⟨.hbm, 56, rfl⟩
abbrev main_call3_v11 : Ref sig .tc := ⟨.hbm, 57, rfl⟩
abbrev main_call3_c_0 : Ref sig .tc := ⟨.hbm, 58, rfl⟩
abbrev main_call3_v12 : Ref sig .tc := ⟨.hbm, 59, rfl⟩
abbrev main_call3_v13 : Ref sig .tc := ⟨.hbm, 60, rfl⟩
abbrev main_v31 : Ref sig .tc := ⟨.hbm, 61, rfl⟩
abbrev main_c_5 : Ref sig .tc := ⟨.hbm, 62, rfl⟩
abbrev main_call4_v0 : Ref sig .tc := ⟨.hbm, 63, rfl⟩
abbrev main_call4_c : Ref sig .tc := ⟨.hbm, 64, rfl⟩
abbrev main_call4_v1 : Ref sig .tc := ⟨.hbm, 65, rfl⟩
abbrev main_call4_c_0 : Ref sig .tc := ⟨.hbm, 66, rfl⟩
abbrev main_call4_v2 : Ref sig .tc := ⟨.hbm, 67, rfl⟩
abbrev main_call4_v3 : Ref sig .tc := ⟨.hbm, 68, rfl⟩
abbrev main_call4_v4 : Ref sig .tc := ⟨.hbm, 69, rfl⟩
abbrev main_call4_c_1 : Ref sig .tc := ⟨.hbm, 70, rfl⟩
abbrev main_call4_v5 : Ref sig .tc := ⟨.hbm, 71, rfl⟩
abbrev main_call4_v6 : Ref sig .tc := ⟨.hbm, 72, rfl⟩
abbrev main_call4_c_2 : Ref sig .tc := ⟨.hbm, 73, rfl⟩
abbrev main_call4_v7 : Ref sig .tc := ⟨.hbm, 74, rfl⟩
abbrev main_call4_v8 : Ref sig .tc := ⟨.hbm, 75, rfl⟩
abbrev main_call4_c_3 : Ref sig .tc := ⟨.hbm, 76, rfl⟩
abbrev main_call4_v9 : Ref sig .tc := ⟨.hbm, 77, rfl⟩
abbrev main_call4_v10 : Ref sig .tc := ⟨.hbm, 78, rfl⟩
abbrev main_call4_v11 : Ref sig .tc := ⟨.hbm, 79, rfl⟩
abbrev main_call4_v12 : Ref sig .tc := ⟨.hbm, 80, rfl⟩
abbrev main_call4_v13 : Ref sig .tc := ⟨.hbm, 81, rfl⟩
abbrev main_call4_v14 : Ref sig .tc := ⟨.hbm, 82, rfl⟩
abbrev main_v32 : Ref sig .tc := ⟨.hbm, 83, rfl⟩
abbrev main_v33 : Ref sig .tc := ⟨.hbm, 84, rfl⟩
abbrev main_c_6 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_c_7 : Ref sig .tc := ⟨.hbm, 91, rfl⟩
abbrev main_v39 : Ref sig .tc := ⟨.hbm, 92, rfl⟩
abbrev main_call5_v0 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_c_8 : Ref sig .tc := ⟨.hbm, 97, rfl⟩
abbrev main_v43 : Ref sig .tc := ⟨.hbm, 98, rfl⟩
abbrev main_v44 : Ref sig .tc := ⟨.hbm, 99, rfl⟩
abbrev main_c_9 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_cst_10 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_cst_11 : Ref sig .tc := ⟨.hbm, 111, rfl⟩
abbrev main_v54 : Ref sig .tc := ⟨.hbm, 112, rfl⟩
abbrev main_v55 : Ref sig .tc := ⟨.hbm, 113, rfl⟩
abbrev main_call6_v0 : Ref sig .tc := ⟨.hbm, 114, rfl⟩
abbrev main_call6_call0_c : Ref sig .tc := ⟨.hbm, 115, rfl⟩
abbrev main_call6_call0_v0 : Ref sig .tc := ⟨.hbm, 116, rfl⟩
abbrev main_v56 : Ref sig .tc := ⟨.hbm, 117, rfl⟩
abbrev main_c_12 : Ref sig .tc := ⟨.hbm, 118, rfl⟩
abbrev main_v57 : Ref sig .tc := ⟨.hbm, 119, rfl⟩
abbrev main_c_13 : Ref sig .tc := ⟨.hbm, 120, rfl⟩
abbrev main_v58 : Ref sig .tc := ⟨.hbm, 121, rfl⟩
abbrev main_v59 : Ref sig .tc := ⟨.hbm, 122, rfl⟩
abbrev main_c_14 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_c_15 : Ref sig .tc := ⟨.hbm, 128, rfl⟩
abbrev main_v64 : Ref sig .tc := ⟨.hbm, 129, rfl⟩
abbrev main_v65 : Ref sig .tc := ⟨.hbm, 130, rfl⟩
abbrev main_call7_call0_c : Ref sig .tc := ⟨.hbm, 131, rfl⟩
abbrev main_call7_call0_v0 : Ref sig .tc := ⟨.hbm, 132, rfl⟩
abbrev main_v66 : Ref sig .tc := ⟨.hbm, 133, rfl⟩
abbrev main_c_16 : Ref sig .tc := ⟨.hbm, 134, rfl⟩
abbrev main_call8_v0 : Ref sig .tc := ⟨.hbm, 135, rfl⟩
abbrev main_call8_v1 : Ref sig .tc := ⟨.hbm, 136, rfl⟩
abbrev main_call8_v2 : Ref sig .tc := ⟨.hbm, 137, rfl⟩
abbrev main_call8_v3 : Ref sig .tc := ⟨.hbm, 138, rfl⟩
abbrev main_call8_v4 : Ref sig .tc := ⟨.hbm, 139, rfl⟩
abbrev main_call8_v5 : Ref sig .tc := ⟨.hbm, 140, rfl⟩
abbrev main_call8_v6 : Ref sig .tc := ⟨.hbm, 141, rfl⟩
abbrev main_call8_v7 : Ref sig .tc := ⟨.hbm, 142, rfl⟩
abbrev main_call8_v8 : Ref sig .tc := ⟨.hbm, 143, rfl⟩
abbrev main_call8_c : Ref sig .tc := ⟨.hbm, 144, rfl⟩
abbrev main_call8_v9 : Ref sig .tc := ⟨.hbm, 145, rfl⟩
abbrev main_call8_v10 : Ref sig .tc := ⟨.hbm, 146, rfl⟩
abbrev main_call8_v11 : Ref sig .tc := ⟨.hbm, 147, rfl⟩
abbrev main_call8_c_0 : Ref sig .tc := ⟨.hbm, 148, rfl⟩
abbrev main_call8_v12 : Ref sig .tc := ⟨.hbm, 149, rfl⟩
abbrev main_call8_v13 : Ref sig .tc := ⟨.hbm, 150, rfl⟩
abbrev main_v67 : Ref sig .tc := ⟨.hbm, 151, rfl⟩
abbrev main_c_17 : Ref sig .tc := ⟨.hbm, 152, rfl⟩
abbrev main_call9_v0 : Ref sig .tc := ⟨.hbm, 153, rfl⟩
abbrev main_call9_c : Ref sig .tc := ⟨.hbm, 154, rfl⟩
abbrev main_call9_v1 : Ref sig .tc := ⟨.hbm, 155, rfl⟩
abbrev main_call9_c_0 : Ref sig .tc := ⟨.hbm, 156, rfl⟩
abbrev main_call9_v2 : Ref sig .tc := ⟨.hbm, 157, rfl⟩
abbrev main_call9_v3 : Ref sig .tc := ⟨.hbm, 158, rfl⟩
abbrev main_call9_v4 : Ref sig .tc := ⟨.hbm, 159, rfl⟩
abbrev main_call9_c_1 : Ref sig .tc := ⟨.hbm, 160, rfl⟩
abbrev main_call9_v5 : Ref sig .tc := ⟨.hbm, 161, rfl⟩
abbrev main_call9_v6 : Ref sig .tc := ⟨.hbm, 162, rfl⟩
abbrev main_call9_c_2 : Ref sig .tc := ⟨.hbm, 163, rfl⟩
abbrev main_call9_v7 : Ref sig .tc := ⟨.hbm, 164, rfl⟩
abbrev main_call9_v8 : Ref sig .tc := ⟨.hbm, 165, rfl⟩
abbrev main_call9_c_3 : Ref sig .tc := ⟨.hbm, 166, rfl⟩
abbrev main_call9_v9 : Ref sig .tc := ⟨.hbm, 167, rfl⟩
abbrev main_call9_v10 : Ref sig .tc := ⟨.hbm, 168, rfl⟩
abbrev main_call9_v11 : Ref sig .tc := ⟨.hbm, 169, rfl⟩
abbrev main_call9_v12 : Ref sig .tc := ⟨.hbm, 170, rfl⟩
abbrev main_call9_v13 : Ref sig .tc := ⟨.hbm, 171, rfl⟩
abbrev main_call9_v14 : Ref sig .tc := ⟨.hbm, 172, rfl⟩
abbrev main_v68 : Ref sig .tc := ⟨.hbm, 173, rfl⟩
abbrev main_v69 : Ref sig .tc := ⟨.hbm, 174, rfl⟩
abbrev main_c_18 : Ref sig .tc := ⟨.hbm, 175, rfl⟩
abbrev main_v70 : Ref sig .tc := ⟨.hbm, 176, rfl⟩
abbrev main_v71 : Ref sig .tc := ⟨.hbm, 177, rfl⟩
abbrev main_v72 : Ref sig .tc := ⟨.hbm, 178, rfl⟩
abbrev main_v73 : Ref sig .tc := ⟨.hbm, 179, rfl⟩
abbrev main_v74 : Ref sig .tc := ⟨.hbm, 180, rfl⟩
abbrev main_c_19 : Ref sig .tc := ⟨.hbm, 181, rfl⟩
abbrev main_v75 : Ref sig .tc := ⟨.hbm, 182, rfl⟩
abbrev main_call10_v0 : Ref sig .tc := ⟨.hbm, 183, rfl⟩
abbrev main_v76 : Ref sig .tc := ⟨.hbm, 184, rfl⟩
abbrev main_v77 : Ref sig .tc := ⟨.hbm, 185, rfl⟩
abbrev main_v78 : Ref sig .tc := ⟨.hbm, 186, rfl⟩
abbrev main_c_20 : Ref sig .tc := ⟨.hbm, 187, rfl⟩
abbrev main_v79 : Ref sig .tc := ⟨.hbm, 188, rfl⟩
abbrev main_v80 : Ref sig .tc := ⟨.hbm, 189, rfl⟩
abbrev main_c_21 : Ref sig .tc := ⟨.hbm, 190, rfl⟩
abbrev main_v81 : Ref sig .tc := ⟨.hbm, 191, rfl⟩
abbrev main_v82 : Ref sig .tc := ⟨.hbm, 192, rfl⟩
abbrev main_v83 : Ref sig .tc := ⟨.hbm, 193, rfl⟩
abbrev main_v84 : Ref sig .tc := ⟨.hbm, 194, rfl⟩
abbrev main_v85 : Ref sig .tc := ⟨.hbm, 195, rfl⟩
abbrev main_cst_22 : Ref sig .tc := ⟨.hbm, 196, rfl⟩
abbrev main_v86 : Ref sig .tc := ⟨.hbm, 197, rfl⟩
abbrev main_v87 : Ref sig .tc := ⟨.hbm, 198, rfl⟩
abbrev main_v88 : Ref sig .tc := ⟨.hbm, 199, rfl⟩
abbrev main_v89 : Ref sig .tc := ⟨.hbm, 200, rfl⟩
abbrev main_v90 : Ref sig .tc := ⟨.hbm, 201, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c47_i32 : BitVec 32 := 47#32
  let v24 : BitVec 32 := Scalar.addi c0_i32 c47_i32
  let c1_i32 : BitVec 32 := 1#32
  ⟨c0_i32, v24, c1_i32⟩
def k0_off1 (k0_t1 : Fin k0_t1_loop.trips) : Fin 3 → Nat :=
  let c0_17 : Index := 0#32
  let c0_i32 : BitVec 32 := 0#32
  let c1_i32 : BitVec 32 := 1#32
  let arg11 : BitVec 32 := Scf.iv c0_i32 c1_i32 k0_t1
  let c128_i32_16 : BitVec 32 := 128#32
  let v25 : BitVec 32 := Scalar.muli arg11 c128_i32_16
  let v26 : Index := Scalar.indexCast v25
  let c0_18 : Index := 0#32
  ![0, v26.toNat, 0]
def k0_off2 (k0_t1 : Fin k0_t1_loop.trips) : Fin 3 → Nat :=
  let c0_27 : Index := 0#32
  let c0_i32 : BitVec 32 := 0#32
  let c1_i32 : BitVec 32 := 1#32
  let arg11 : BitVec 32 := Scf.iv c0_i32 c1_i32 k0_t1
  let v45 : Index := Scalar.indexCast arg11
  let c0_28 : Index := 0#32
  ![0, v45.toNat, 0]
def k0_off3 (k0_t1 : Fin k0_t1_loop.trips) : Fin 2 → Nat :=
  let c0_i32 : BitVec 32 := 0#32
  let c1_i32 : BitVec 32 := 1#32
  let arg11 : BitVec 32 := Scf.iv c0_i32 c1_i32 k0_t1
  let v114 : Index := Scalar.indexCast arg11
  let c0_45 : Index := 0#32
  ![v114.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x6016x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6016x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6016x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6016x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x47x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x47x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x47x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x47x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x47x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S2x6000x4 : Shape := ⟨3, ![2, 6000, 4]⟩
abbrev S2x6000x1 : Shape := ⟨3, ![2, 6000, 1]⟩
abbrev S2x6000 : Shape := ⟨2, ![2, 6000]⟩
abbrev S_ : Shape := ⟨0, ![]⟩
abbrev S6000 : Shape := ⟨1, ![6000]⟩
abbrev S2x1 : Shape := ⟨2, ![2, 1]⟩
abbrev S1x6000 : Shape := ⟨2, ![1, 6000]⟩
abbrev S300 : Shape := ⟨1, ![300]⟩
abbrev S2x1x6000 : Shape := ⟨3, ![2, 1, 6000]⟩
abbrev S6000x1 : Shape := ⟨2, ![6000, 1]⟩
abbrev S6000x6000 : Shape := ⟨2, ![6000, 6000]⟩
abbrev S1x6000x6000 : Shape := ⟨3, ![1, 6000, 6000]⟩
abbrev S2x6000x6000 : Shape := ⟨3, ![2, 6000, 6000]⟩
abbrev S1x300x1 : Shape := ⟨3, ![1, 300, 1]⟩
abbrev S2x300x6000 : Shape := ⟨3, ![2, 300, 6000]⟩
abbrev S2x300 : Shape := ⟨2, ![2, 300]⟩
abbrev S2 : Shape := ⟨1, ![2]⟩
abbrev S1x300 : Shape := ⟨2, ![1, 300]⟩
abbrev S2x300x1 : Shape := ⟨3, ![2, 300, 1]⟩
abbrev S2x300x4 : Shape := ⟨3, ![2, 300, 4]⟩
abbrev S2x300x5 : Shape := ⟨3, ![2, 300, 5]⟩

abbrev nBuf : Space → Nat
  | .hbm => 177
  | .vmem => 0
  | .smem => 0
  | _ => 0

abbrev hbmTy0_0 (i : Nat) : BufTy := match i % 128 with
  | 0 => ⟨S2x6000x4, .f32⟩
  | 1 => ⟨S2x6000x1, .f32⟩
  | 2 => ⟨S2x6000, .f32⟩
  | 3 => ⟨S2x6000x1, .f32⟩
  | 4 => ⟨S2x6000, .f32⟩
  | 5 => ⟨S2x6000x1, .f32⟩
  | 6 => ⟨S2x6000, .f32⟩
  | 7 => ⟨S2x6000x1, .f32⟩
  | 8 => ⟨S2x6000, .f32⟩
  | 9 => ⟨S2x6000, .f32⟩
  | 10 => ⟨S_, .f32⟩
  | 11 => ⟨S2x6000, .f32⟩
  | 12 => ⟨S2x6000, .f32⟩
  | 13 => ⟨S2x6000, .f32⟩
  | 14 => ⟨S_, .f32⟩
  | 15 => ⟨S2x6000, .f32⟩
  | 16 => ⟨S2x6000, .f32⟩
  | 17 => ⟨S2x6000, .f32⟩
  | 18 => ⟨S6000, .i32⟩
  | 19 => ⟨S_, .i1⟩
  | 20 => ⟨S2x6000, .i1⟩
  | 21 => ⟨S_, .i32⟩
  | 22 => ⟨S_, .i32⟩
  | 23 => ⟨S2x6000, .f32⟩
  | 24 => ⟨S2x6000, .f32⟩
  | 25 => ⟨S2x6000, .f32⟩
  | 26 => ⟨S2x6000, .f32⟩
  | 27 => ⟨S2x6000, .f32⟩
  | 28 => ⟨S6000, .i32⟩
  | 29 => ⟨S_, .i32⟩
  | 30 => ⟨S_, .i32⟩
  | 31 => ⟨S2x6000, .i1⟩
  | 32 => ⟨S_, .i32⟩
  | 33 => ⟨S_, .i1⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S2x1, .f32⟩
  | 44 => ⟨S2x6000, .f32⟩
  | 45 => ⟨S2x6000, .f32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i32⟩
  | 53 => ⟨S2x1, .f32⟩
  | 54 => ⟨S2x6000, .f32⟩
  | 55 => ⟨S2x6000, .f32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S_, .i32⟩
  | 63 => ⟨S2x1, .f32⟩
  | 64 => ⟨S2x6000, .f32⟩
  | 65 => ⟨S2x6000, .f32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S_, .i32⟩
  | 73 => ⟨S2x1, .f32⟩
  | 74 => ⟨S2x6000, .f32⟩
  | 75 => ⟨S2x6000, .f32⟩
  | 76 => ⟨S2x6000, .f32⟩
  | 77 => ⟨S_, .f32⟩
  | 78 => ⟨S2x6000, .f32⟩
  | 79 => ⟨S2x6000, .f32⟩
  | 80 => ⟨S_, .f32⟩
  | 81 => ⟨S2x6000, .f32⟩
  | 82 => ⟨S2x6000, .f32⟩
  | 83 => ⟨S2x6000, .f32⟩
  | 84 => ⟨S_, .f32⟩
  | 85 => ⟨S2x6000, .f32⟩
  | 86 => ⟨S2x6000, .f32⟩
  | 87 => ⟨S_, .f32⟩
  | 88 => ⟨S2x6000, .f32⟩
  | 89 => ⟨S2x6000, .f32⟩
  | 90 => ⟨S2x6000, .f32⟩
  | 91 => ⟨S_, .i32⟩
  | 92 => ⟨S_, .i1⟩
  | 93 => ⟨S_, .i32⟩
  | 94 => ⟨S_, .i32⟩
  | 95 => ⟨S_, .i32⟩
  | 96 => ⟨S_, .i32⟩
  | 97 => ⟨S_, .i32⟩
  | 98 => ⟨S2x1, .f32⟩
  | 99 => ⟨S2x6000, .f32⟩
  | 100 => ⟨S2x6000, .f32⟩
  | 101 => ⟨S2x6000, .f32⟩
  | 102 => ⟨S2x6000, .f32⟩
  | 103 => ⟨S_, .f32⟩
  | 104 => ⟨S2x6000, .f32⟩
  | 105 => ⟨S2x6000, .i1⟩
  | 106 => ⟨S_, .i32⟩
  | 107 => ⟨S6000, .i32⟩
  | 108 => ⟨S6000, .i1⟩
  | 109 => ⟨S1x6000, .i1⟩
  | 110 => ⟨S2x6000, .i1⟩
  | 111 => ⟨S2x6000, .i1⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S_, .i32⟩
  | 119 => ⟨S2x1, .i1⟩
  | 120 => ⟨S2x6000, .i1⟩
  | 121 => ⟨S2x6000, .i1⟩
  | 122 => ⟨S2x6000, .i1⟩
  | 123 => ⟨S2x6000, .i1⟩
  | 124 => ⟨S_, .i32⟩
  | 125 => ⟨S_, .i32⟩
  | 126 => ⟨S2x6000, .i32⟩
  | 127 => ⟨S6000, .i32⟩
  | _ => ⟨S2x6000x4, .f32⟩

abbrev hbmTy0_1 (i : Nat) : BufTy := match i % 128 with
  | 0 => ⟨S300, .i32⟩
  | 1 => ⟨S2x1x6000, .i32⟩
  | 2 => ⟨S1x6000, .i32⟩
  | 3 => ⟨S6000x1, .i32⟩
  | 4 => ⟨S6000x6000, .i32⟩
  | 5 => ⟨S6000x6000, .i32⟩
  | 6 => ⟨S6000x6000, .i1⟩
  | 7 => ⟨S6000x6000, .i32⟩
  | 8 => ⟨S1x6000x6000, .i32⟩
  | 9 => ⟨S2x6000x6000, .i32⟩
  | 10 => ⟨S2x6000x6000, .i32⟩
  | 11 => ⟨S2x6000x6000, .i32⟩
  | 12 => ⟨S_, .i32⟩
  | 13 => ⟨S2x6000, .i32⟩
  | 14 => ⟨S2x1x6000, .i32⟩
  | 15 => ⟨S1x300x1, .i32⟩
  | 16 => ⟨S2x300x6000, .i32⟩
  | 17 => ⟨S2x300x6000, .i32⟩
  | 18 => ⟨S2x300x6000, .i1⟩
  | 19 => ⟨S2x300x6000, .i32⟩
  | 20 => ⟨S_, .i32⟩
  | 21 => ⟨S2x300, .i32⟩
  | 22 => ⟨S_, .i32⟩
  | 23 => ⟨S2, .i32⟩
  | 24 => ⟨S1x300, .i32⟩
  | 25 => ⟨S2x1, .i32⟩
  | 26 => ⟨S2x300, .i32⟩
  | 27 => ⟨S2x300, .i32⟩
  | 28 => ⟨S2x300, .i1⟩
  | 29 => ⟨S2x300, .i32⟩
  | 30 => ⟨S2x300, .i32⟩
  | 31 => ⟨S2x300x1, .i32⟩
  | 32 => ⟨S_, .i32⟩
  | 33 => ⟨S2x300x1, .i32⟩
  | 34 => ⟨S2x300x1, .i1⟩
  | 35 => ⟨S_, .i32⟩
  | 36 => ⟨S2x300x1, .i32⟩
  | 37 => ⟨S2x300x1, .i32⟩
  | 38 => ⟨S2x300x1, .i32⟩
  | 39 => ⟨S2x300x4, .f32⟩
  | 40 => ⟨S2x300x5, .i32⟩
  | 41 => ⟨S2x300x5, .f32⟩
  | 42 => ⟨S2x300x5, .i32⟩
  | 43 => ⟨S_, .i32⟩
  | 44 => ⟨S2x300x5, .i32⟩
  | 45 => ⟨S2x300x5, .i1⟩
  | 46 => ⟨S_, .f32⟩
  | 47 => ⟨S2x300x5, .f32⟩
  | 48 => ⟨S2x300x5, .f32⟩
  | _ => ⟨S2x6000x4, .f32⟩

abbrev hbmTy (i : Nat) : BufTy := match i / 128 with
  | 0 => hbmTy0_0 i
  | 1 => hbmTy0_1 i
  | _ => ⟨S2x6000x4, .f32⟩

abbrev bufTy : (tb : Table) → Fin (tcTables nBuf tb) → BufTy
  | .hbm, ⟨i, _⟩ => hbmTy i
  | _, _ => ⟨S2x6000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst_0 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_v16 : Ref sig .tc := ⟨.hbm, 20, rfl⟩
abbrev main_c_1 : Ref sig .tc := ⟨.hbm, 21, rfl⟩
abbrev main_c_2 : Ref sig .tc := ⟨.hbm, 22, rfl⟩
abbrev main_v17_0 : Ref sig .tc := ⟨.hbm, 23, rfl⟩
abbrev main_v17_1 : Ref sig .tc := ⟨.hbm, 24, rfl⟩
abbrev main_v17_2 : Ref sig .tc := ⟨.hbm, 25, rfl⟩
abbrev main_v17_3 : Ref sig .tc := ⟨.hbm, 26, rfl⟩
abbrev main_v17_4 : Ref sig .tc := ⟨.hbm, 27, rfl⟩
abbrev main_v17_5 : Ref sig .tc := ⟨.hbm, 28, rfl⟩
abbrev main_v17_6 : Ref sig .tc := ⟨.hbm, 29, rfl⟩
abbrev main_v17_7 : Ref sig .tc := ⟨.hbm, 30, rfl⟩
abbrev main_v17_8 : Ref sig .tc := ⟨.hbm, 31, rfl⟩
abbrev main_while0c_c_18 : Ref sig .tc := ⟨.hbm, 32, rfl⟩
abbrev main_while0c_v62 : Ref sig .tc := ⟨.hbm, 33, rfl⟩
abbrev main_while0b_c_18 : Ref sig .tc := ⟨.hbm, 34, rfl⟩
abbrev main_while0b_v62 : Ref sig .tc := ⟨.hbm, 35, rfl⟩
abbrev main_while0b_c_19 : Ref sig .tc := ⟨.hbm, 36, rfl⟩
abbrev main_while0b_v63 : Ref sig .tc := ⟨.hbm, 37, rfl⟩
abbrev main_while0b_v64 : Ref sig .tc := ⟨.hbm, 38, rfl⟩
abbrev main_while0b_c_20 : Ref sig .tc := ⟨.hbm, 39, rfl⟩
abbrev main_while0b_v65 : Ref sig .tc := ⟨.hbm, 40, rfl⟩
abbrev main_while0b_v66 : Ref sig .tc := ⟨.hbm, 41, rfl⟩
abbrev main_while0b_c_21 : Ref sig .tc := ⟨.hbm, 42, rfl⟩
abbrev main_while0b_v67 : Ref sig .tc := ⟨.hbm, 43, rfl⟩
abbrev main_while0b_v68 : Ref sig .tc := ⟨.hbm, 44, rfl⟩
abbrev main_while0b_v69 : Ref sig .tc := ⟨.hbm, 45, rfl⟩
abbrev main_while0b_c_22 : Ref sig .tc := ⟨.hbm, 46, rfl⟩
abbrev main_while0b_v70 : Ref sig .tc := ⟨.hbm, 47, rfl⟩
abbrev main_while0b_v71 : Ref sig .tc := ⟨.hbm, 48, rfl⟩
abbrev main_while0b_c_23 : Ref sig .tc := ⟨.hbm, 49, rfl⟩
abbrev main_while0b_v72 : Ref sig .tc := ⟨.hbm, 50, rfl⟩
abbrev main_while0b_v73 : Ref sig .tc := ⟨.hbm, 51, rfl⟩
abbrev main_while0b_c_24 : Ref sig .tc := ⟨.hbm, 52, rfl⟩
abbrev main_while0b_v74 : Ref sig .tc := ⟨.hbm, 53, rfl⟩
abbrev main_while0b_v75 : Ref sig .tc := ⟨.hbm, 54, rfl⟩
abbrev main_while0b_v76 : Ref sig .tc := ⟨.hbm, 55, rfl⟩
abbrev main_while0b_c_25 : Ref sig .tc := ⟨.hbm, 56, rfl⟩
abbrev main_while0b_v77 : Ref sig .tc := ⟨.hbm, 57, rfl⟩
abbrev main_while0b_v78 : Ref sig .tc := ⟨.hbm, 58, rfl⟩
abbrev main_while0b_c_26 : Ref sig .tc := ⟨.hbm, 59, rfl⟩
abbrev main_while0b_v79 : Ref sig .tc := ⟨.hbm, 60, rfl⟩
abbrev main_while0b_v80 : Ref sig .tc := ⟨.hbm, 61, rfl⟩
abbrev main_while0b_c_27 : Ref sig .tc := ⟨.hbm, 62, rfl⟩
abbrev main_while0b_v81 : Ref sig .tc := ⟨.hbm, 63, rfl⟩
abbrev main_while0b_v82 : Ref sig .tc := ⟨.hbm, 64, rfl⟩
abbrev main_while0b_v83 : Ref sig .tc := ⟨.hbm, 65, rfl⟩
abbrev main_while0b_c_28 : Ref sig .tc := ⟨.hbm, 66, rfl⟩
abbrev main_while0b_v84 : Ref sig .tc := ⟨.hbm, 67, rfl⟩
abbrev main_while0b_v85 : Ref sig .tc := ⟨.hbm, 68, rfl⟩
abbrev main_while0b_c_29 : Ref sig .tc := ⟨.hbm, 69, rfl⟩
abbrev main_while0b_v86 : Ref sig .tc := ⟨.hbm, 70, rfl⟩
abbrev main_while0b_v87 : Ref sig .tc := ⟨.hbm, 71, rfl⟩
abbrev main_while0b_c_30 : Ref sig .tc := ⟨.hbm, 72, rfl⟩
abbrev main_while0b_v88 : Ref sig .tc := ⟨.hbm, 73, rfl⟩
abbrev main_while0b_v89 : Ref sig .tc := ⟨.hbm, 74, rfl⟩
abbrev main_while0b_v90 : Ref sig .tc := ⟨.hbm, 75, rfl⟩
abbrev main_while0b_v91 : Ref sig .tc := ⟨.hbm, 76, rfl⟩
abbrev main_while0b_cst_31 : Ref sig .tc := ⟨.hbm, 77, rfl⟩
abbrev main_while0b_v92 : Ref sig .tc := ⟨.hbm, 78, rfl⟩
abbrev main_while0b_v93 : Ref sig .tc := ⟨.hbm, 79, rfl⟩
abbrev main_while0b_cst_32 : Ref sig .tc := ⟨.hbm, 80, rfl⟩
abbrev main_while0b_v94 : Ref sig .tc := ⟨.hbm, 81, rfl⟩
abbrev main_while0b_v95 : Ref sig .tc := ⟨.hbm, 82, rfl⟩
abbrev main_while0b_v96 : Ref sig .tc := ⟨.hbm, 83, rfl⟩
abbrev main_while0b_cst_33 : Ref sig .tc := ⟨.hbm, 84, rfl⟩
abbrev main_while0b_v97 : Ref sig .tc := ⟨.hbm, 85, rfl⟩
abbrev main_while0b_v98 : Ref sig .tc := ⟨.hbm, 86, rfl⟩
abbrev main_while0b_cst_34 : Ref sig .tc := ⟨.hbm, 87, rfl⟩
abbrev main_while0b_v99 : Ref sig .tc := ⟨.hbm, 88, rfl⟩
abbrev main_while0b_v100 : Ref sig .tc := ⟨.hbm, 89, rfl⟩
abbrev main_while0b_v101 : Ref sig .tc := ⟨.hbm, 90, rfl⟩
abbrev main_while0b_c_35 : Ref sig .tc := ⟨.hbm, 91, rfl⟩
abbrev main_while0b_v102 : Ref sig .tc := ⟨.hbm, 92, rfl⟩
abbrev main_while0b_v103 : Ref sig .tc := ⟨.hbm, 93, rfl⟩
abbrev main_while0b_c_36 : Ref sig .tc := ⟨.hbm, 94, rfl⟩
abbrev main_while0b_v104 : Ref sig .tc := ⟨.hbm, 95, rfl⟩
abbrev main_while0b_v105 : Ref sig .tc := ⟨.hbm, 96, rfl⟩
abbrev main_while0b_c_37 : Ref sig .tc := ⟨.hbm, 97, rfl⟩
abbrev main_while0b_v106 : Ref sig .tc := ⟨.hbm, 98, rfl⟩
abbrev main_while0b_v107 : Ref sig .tc := ⟨.hbm, 99, rfl⟩
abbrev main_while0b_v108 : Ref sig .tc := ⟨.hbm, 100, rfl⟩
abbrev main_while0b_v109 : Ref sig .tc := ⟨.hbm, 101, rfl⟩
abbrev main_while0b_v110 : Ref sig .tc := ⟨.hbm, 102, rfl⟩
abbrev main_while0b_cst_38 : Ref sig .tc := ⟨.hbm, 103, rfl⟩
abbrev main_while0b_v111 : Ref sig .tc := ⟨.hbm, 104, rfl⟩
abbrev main_while0b_v112 : Ref sig .tc := ⟨.hbm, 105, rfl⟩
abbrev main_while0b_v113 : Ref sig .tc := ⟨.hbm, 106, rfl⟩
abbrev main_while0b_v114 : Ref sig .tc := ⟨.hbm, 107, rfl⟩
abbrev main_while0b_v115 : Ref sig .tc := ⟨.hbm, 108, rfl⟩
abbrev main_while0b_v116 : Ref sig .tc := ⟨.hbm, 109, rfl⟩
abbrev main_while0b_v117 : Ref sig .tc := ⟨.hbm, 110, rfl⟩
abbrev main_while0b_v118 : Ref sig .tc := ⟨.hbm, 111, rfl⟩
abbrev main_while0b_c_39 : Ref sig .tc := ⟨.hbm, 112, rfl⟩
abbrev main_while0b_v119 : Ref sig .tc := ⟨.hbm, 113, rfl⟩
abbrev main_while0b_v120 : Ref sig .tc := ⟨.hbm, 114, rfl⟩
abbrev main_while0b_c_40 : Ref sig .tc := ⟨.hbm, 115, rfl⟩
abbrev main_while0b_v121 : Ref sig .tc := ⟨.hbm, 116, rfl⟩
abbrev main_while0b_v122 : Ref sig .tc := ⟨.hbm, 117, rfl⟩
abbrev main_while0b_c_41 : Ref sig .tc := ⟨.hbm, 118, rfl⟩
abbrev main_while0b_v123 : Ref sig .tc := ⟨.hbm, 119, rfl⟩
abbrev main_while0b_v124 : Ref sig .tc := ⟨.hbm, 120, rfl⟩
abbrev main_while0b_v125 : Ref sig .tc := ⟨.hbm, 121, rfl⟩
abbrev main_while0b_v126 : Ref sig .tc := ⟨.hbm, 122, rfl⟩
abbrev main_while0b_v127 : Ref sig .tc := ⟨.hbm, 123, rfl⟩
abbrev main_while0b_c_42 : Ref sig .tc := ⟨.hbm, 124, rfl⟩
abbrev main_while0b_v128 : Ref sig .tc := ⟨.hbm, 125, rfl⟩
abbrev main_v18 : Ref sig .tc := ⟨.hbm, 126, rfl⟩
abbrev main_v19 : Ref sig .tc := ⟨.hbm, 127, rfl⟩
abbrev main_v20 : Ref sig .tc := ⟨.hbm, 128, rfl⟩
abbrev main_v21 : Ref sig .tc := ⟨.hbm, 129, rfl⟩
abbrev main_v22 : Ref sig .tc := ⟨.hbm, 130, rfl⟩
abbrev main_v23 : Ref sig .tc := ⟨.hbm, 131, rfl⟩
abbrev main_v24 : Ref sig .tc := ⟨.hbm, 132, rfl⟩
abbrev main_v25 : Ref sig .tc := ⟨.hbm, 133, rfl⟩
abbrev main_v26 : Ref sig .tc := ⟨.hbm, 134, rfl⟩
abbrev main_v27 : Ref sig .tc := ⟨.hbm, 135, rfl⟩
abbrev main_v28 : Ref sig .tc := ⟨.hbm, 136, rfl⟩
abbrev main_v29 : Ref sig .tc := ⟨.hbm, 137, rfl⟩
abbrev main_v30 : Ref sig .tc := ⟨.hbm, 138, rfl⟩
abbrev main_v31 : Ref sig .tc := ⟨.hbm, 139, rfl⟩
abbrev main_c_3 : Ref sig .tc := ⟨.hbm, 140, rfl⟩
abbrev main_v32 : Ref sig .tc := ⟨.hbm, 141, rfl⟩
abbrev main_v33 : Ref sig .tc := ⟨.hbm, 142, rfl⟩
abbrev main_v34 : Ref sig .tc := ⟨.hbm, 143, rfl⟩
abbrev main_v35 : Ref sig .tc := ⟨.hbm, 144, rfl⟩
abbrev main_v36 : Ref sig .tc := ⟨.hbm, 145, rfl⟩
abbrev main_v37 : Ref sig .tc := ⟨.hbm, 146, rfl⟩
abbrev main_v38 : Ref sig .tc := ⟨.hbm, 147, rfl⟩
abbrev main_c_4 : Ref sig .tc := ⟨.hbm, 148, rfl⟩
abbrev main_v39 : Ref sig .tc := ⟨.hbm, 149, rfl⟩
abbrev main_c_5 : Ref sig .tc := ⟨.hbm, 150, rfl⟩
abbrev main_v40 : Ref sig .tc := ⟨.hbm, 151, rfl⟩
abbrev main_v41 : Ref sig .tc := ⟨.hbm, 152, rfl⟩
abbrev main_v42 : Ref sig .tc := ⟨.hbm, 153, rfl⟩
abbrev main_v43 : Ref sig .tc := ⟨.hbm, 154, rfl⟩
abbrev main_v44 : Ref sig .tc := ⟨.hbm, 155, rfl⟩
abbrev main_v45 : Ref sig .tc := ⟨.hbm, 156, rfl⟩
abbrev main_v46 : Ref sig .tc := ⟨.hbm, 157, rfl⟩
abbrev main_v47 : Ref sig .tc := ⟨.hbm, 158, rfl⟩
abbrev main_v48 : Ref sig .tc := ⟨.hbm, 159, rfl⟩
abbrev main_c_6 : Ref sig .tc := ⟨.hbm, 160, rfl⟩
abbrev main_v49 : Ref sig .tc := ⟨.hbm, 161, rfl⟩
abbrev main_v50 : Ref sig .tc := ⟨.hbm, 162, rfl⟩
abbrev main_c_7 : Ref sig .tc := ⟨.hbm, 163, rfl⟩
abbrev main_v51 : Ref sig .tc := ⟨.hbm, 164, rfl⟩
abbrev main_v52 : Ref sig .tc := ⟨.hbm, 165, rfl⟩
abbrev main_v53 : Ref sig .tc := ⟨.hbm, 166, rfl⟩
abbrev main_v54 : Ref sig .tc := ⟨.hbm, 167, rfl⟩
abbrev main_v55 : Ref sig .tc := ⟨.hbm, 168, rfl⟩
abbrev main_v56 : Ref sig .tc := ⟨.hbm, 169, rfl⟩
abbrev main_v57 : Ref sig .tc := ⟨.hbm, 170, rfl⟩
abbrev main_c_8 : Ref sig .tc := ⟨.hbm, 171, rfl⟩
abbrev main_v58 : Ref sig .tc := ⟨.hbm, 172, rfl⟩
abbrev main_v59 : Ref sig .tc := ⟨.hbm, 173, rfl⟩
abbrev main_cst_9 : Ref sig .tc := ⟨.hbm, 174, rfl⟩
abbrev main_v60 : Ref sig .tc := ⟨.hbm, 175, rfl⟩
abbrev main_v61 : Ref sig .tc := ⟨.hbm, 176, rfl⟩

abbrev nD : Nat := 1
abbrev τ : Topo := Topo.v7x

variable {F : FTy → Type} [FloatOps F]

abbrev main_while0_count : Scf.Loop 32 := ⟨0#32, 6000#32, 1#32⟩
-- ==== Proof.Spec.lean ====
/-
  The mathematics both programs compute, over the extended reals: the zero-padded feature map, the
  nine products of the 3x3 convolution, the hidden layer, the two heads, the score of an anchor and
  the decoded and clipped box. Rows and columns of the padded map are natural numbers.
-/
module

public import Idealize.ShloMosaic.Lib.Pointwise
public import Idealize.ShloMosaic.PureOps.Ideal.Laws

@[expose] public section

set_option maxRecDepth 16384

noncomputable section

namespace Cert.Spec

open Idealize.ShloMosaic

/-- The arguments' types. -/
abbrev Feat := FVec Ideal (⟨4, ![2, 1024, 50, 50]⟩ : Shape) .f32
abbrev ConvW := FVec Ideal (⟨4, ![512, 1024, 3, 3]⟩ : Shape) .f32
abbrev Info := FVec Ideal (⟨2, ![2, 3]⟩ : Shape) .f32
abbrev Bias (n : ℕ) := FVec Ideal (⟨1, ![n]⟩ : Shape) .f32
abbrev HeadW (n : ℕ) := FVec Ideal (⟨4, ![n, 512, 1, 1]⟩ : Shape) .f32

/-- The feature map with one row and one column of zeros around it. -/
def padv (x : Feat) (b : Fin 2) (c : Fin 1024) (i j : ℕ) : EReal :=
  if h : (1 ≤ i ∧ i < 51) ∧ (1 ≤ j ∧ j < 51) then x (ix4 b c ⟨i - 1, by omega⟩ ⟨j - 1, by omega⟩) else 0

/-- Tap `(dy, dx)` of the convolution. -/
def tap (x : Feat) (w : ConvW) (dy dx : Fin 3) (b : Fin 2) (o : Fin 512) (y z : ℕ) : EReal :=
  ∑ c : Fin 1024, padv x b c (y + dy.val) (z + dx.val) * w (ix4 o c dy dx)

/-- The nine taps added in row-major order. -/
def conv (x : Feat) (w : ConvW) (b : Fin 2) (o : Fin 512) (y z : ℕ) : EReal :=
  tap x w 0 0 b o y z + tap x w 0 1 b o y z + tap x w 0 2 b o y z
    + tap x w 1 0 b o y z + tap x w 1 1 b o y z + tap x w 1 2 b o y z
    + tap x w 2 0 b o y z + tap x w 2 1 b o y z + tap x w 2 2 b o y z

/-- The hidden layer. -/
def hid (x : Feat) (w : ConvW) (bc : Bias 512) (b : Fin 2) (o : Fin 512) (y z : ℕ) : EReal :=
  max (conv x w b o y z + bc (ix1 o)) 0

/-- A head: a product over the hidden channels, plus the bias. -/
def head {n : ℕ} (x : Feat) (w : ConvW) (bc : Bias 512) (wh : HeadW n) (bh : Bias n) (b : Fin 2) (k : Fin n)
    (y z : ℕ) : EReal :=
  (∑ o : Fin 512, hid x w bc b o y z * wh (ix4 k o 0 0)) + bh (ix1 k)

/-- The second of two class probabilities. -/
def score (g f : EReal) : EReal :=
  Ideal.div (Ideal.exp (f - max g f)) (Ideal.exp (g - max g f) + Ideal.exp (f - max g f))

/-- The four corners of the nine anchors. -/
def corner : Fin 9 → Fin 4 → Int
  | 0, 0 => -84 | 0, 1 => -40 | 0, 2 => 99 | 0, 3 => 55
  | 1, 0 => -176 | 1, 1 => -88 | 1, 2 => 191 | 1, 3 => 103
  | 2, 0 => -360 | 2, 1 => -184 | 2, 2 => 375 | 2, 3 => 199
  | 3, 0 => -56 | 3, 1 => -56 | 3, 2 => 71 | 3, 3 => 71
  | 4, 0 => -120 | 4, 1 => -120 | 4, 2 => 135 | 4, 3 => 135
  | 5, 0 => -248 | 5, 1 => -248 | 5, 2 => 263 | 5, 3 => 263
  | 6, 0 => -36 | 6, 1 => -80 | 6, 2 => 51 | 6, 3 => 95
  | 7, 0 => -80 | 7, 1 => -168 | 7, 2 => 95 | 7, 3 => 183
  | 8, 0 => -168 | 8, 1 => -344 | 8, 2 => 183 | 8, 3 => 359

/-- Twice the table's entry for anchor `a` at row `y` and column `x` of the map: quantity 0 is the width,
    1 the height, 2 and 3 the centre. -/
def entry2 (q : Fin 4) (a : Fin 9) (y x : Nat) : Int :=
  match q with
  | 0 => 2 * (corner a 2 - corner a 0 + 1)
  | 1 => 2 * (corner a 3 - corner a 1 + 1)
  | 2 => 2 * (16 * x + corner a 0) + (corner a 2 - corner a 0 + 1)
  | 3 => 2 * (16 * y + corner a 1) + (corner a 3 - corner a 1 + 1)

/-- The table's entry. -/
def ent (q : Fin 4) (a : Fin 9) (y x : ℕ) : EReal := (((entry2 q a y x : ℝ) / 2 : ℝ) : EReal)

/-- One half, as the word both programs hold. -/
def hf : EReal := Ideal.ofBits .f32 0x3F000000#32

/-- A clipped box coordinate. -/
def clip (v hi : EReal) : EReal := min (hi - 1) (max 0 v)

/-- The lower and upper corner along one axis, from the predicted shift and log scale and the anchor's size and centre. -/
def low (d s W C : EReal) : EReal := d * W + C - hf * (Ideal.exp s * W)
def upp (d s W C : EReal) : EReal := d * W + C + hf * (Ideal.exp s * W)

/-- The decoded and clipped box of anchor `a` at `(y, z)`, from the four deltas `d` and the image's height and width. -/
def box (d : Fin 4 → EReal) (h w : EReal) (a : Fin 9) (y z : ℕ) : Fin 4 → EReal
  | 0 => clip (low (d 0) (d 2) (ent 0 a y z) (ent 2 a y z)) w
  | 1 => clip (low (d 1) (d 3) (ent 1 a y z) (ent 3 a y z)) h
  | 2 => clip (upp (d 0) (d 2) (ent 0 a y z) (ent 2 a y z)) w
  | 3 => clip (upp (d 1) (d 3) (ent 1 a y z) (ent 3 a y z)) h

end Cert.Spec

end
-- ==== Proof.Prefix.lean ====
/-
  The arrays the host hands to the region, read at an index.
-/
module

public import proofs.«01_k».proof.Proof.Gen.KernelIdeal.Frame
public import proofs.«01_k».proof.Proof.Spec
public import Idealize.ShloMosaic.Lib.Claim
public import Idealize.ShloMosaic.Lib.Pipeline.Value

@[expose] public section

set_option maxRecDepth 16384

noncomputable section

namespace Cert.KernelIdeal.At

open Cert.KernelIdeal Cert.KernelIdeal.Gen Idealize.ShloMosaic Idealize.ShloMosaic.TcCoe Idealize.SL.Sem Cert.Spec

/-! ## The host's terms -/

/-- The padding value. -/
def zr : (⟨S_, .f32⟩ : BufTy).Contents (Elt Ideal) := sitofp (F := Ideal) .f32 (constantI S_ 32 0#32)

/-- The feature map, padded, with rows of 56 pixels joined and the channels last. -/
def xt (x : Feat) : (⟨S2x2946x1024, .f32⟩ : BufTy).Contents (Elt Ideal) :=
  pad S2x2946x1024 ![0, 0, 0] ![0, 34, 0] ![0, 0, 0]
    (transpose S2x2912x1024 [0, 2, 1]
      (shapeCast S2x1024x2912
        (pad S2x1024x52x56 ![0, 0, 1, 1] ![0, 0, 1, 5] ![0, 0, 0, 0] x zr pads_S2x1024x50x50_S2x1024x52x56_000_000_110_150 h_S_)
        shapeCasts_S2x1024x52x56_S2x1024x2912) transposes_S2x1024x2912_S2x2912x1024_0_2_1)
    zr pads_S2x2912x1024_S2x2946x1024_000_0340_000 h_S_

/-- Its three shifts by a column. -/
def xs (x : Feat) : (⟨S2x3x2944x1024, .f32⟩ : BufTy).Contents (Elt Ideal) :=
  concatenate S2x3x2944x1024 1 [⟨S2x1x2944x1024, (broadcastInDim S2x1x2944x1024 ![0, 2, 3] bcast_S2x2944x1024_S2x1x2944x1024_0_2_3 (extractStridedSlice S2x2944x1024 ![0, 0, 0] (xt x) slices_S2x2946x1024_S2x2944x1024_0_0_0) : (⟨S2x1x2944x1024, .f32⟩ : BufTy).Contents (Elt Ideal))⟩, ⟨S2x1x2944x1024, (broadcastInDim S2x1x2944x1024 ![0, 2, 3] bcast_S2x2944x1024_S2x1x2944x1024_0_2_3 (extractStridedSlice S2x2944x1024 ![0, 1, 0] (xt x) slices_S2x2946x1024_S2x2944x1024_0_1_0) : (⟨S2x1x2944x1024, .f32⟩ : BufTy).Contents (Elt Ideal))⟩, ⟨S2x1x2944x1024, (broadcastInDim S2x1x2944x1024 ![0, 2, 3] bcast_S2x2944x1024_S2x1x2944x1024_0_2_3 (extractStridedSlice S2x2944x1024 ![0, 2, 0] (xt x) slices_S2x2946x1024_S2x2944x1024_0_2_0) : (⟨S2x1x2944x1024, .f32⟩ : BufTy).Contents (Elt Ideal))⟩] concatenates_S2x1x2944x1024_S2x1x2944x1024_S2x1x2944x1024_S2x3x2944x1024_d1

/-- The nine taps' weights. -/
def w9 (w : ConvW) : (⟨S9x1024x512, .f32⟩ : BufTy).Contents (Elt Ideal) :=
  concatenate S9x1024x512 0 [⟨S1x1024x512, (broadcastInDim S1x1024x512 ![1, 2] bcast_S1024x512_S1x1024x512_1_2 (transpose S1024x512 [1, 0] (shapeCast S512x1024 (extractStridedSlice S512x1024x1x1 ![0, 0, 0, 0] w slices_S512x1024x3x3_S512x1024x1x1_0_0_0_0) shapeCasts_S512x1024x1x1_S512x1024) transposes_S512x1024_S1024x512_1_0) : (⟨S1x1024x512, .f32⟩ : BufTy).Contents (Elt Ideal))⟩, ⟨S1x1024x512, (broadcastInDim S1x1024x512 ![1, 2] bcast_S1024x512_S1x1024x512_1_2 (transpose S1024x512 [1, 0] (shapeCast S512x1024 (extractStridedSlice S512x1024x1x1 ![0, 0, 0, 1] w slices_S512x1024x3x3_S512x1024x1x1_0_0_0_1) shapeCasts_S512x1024x1x1_S512x1024) transposes_S512x1024_S1024x512_1_0) : (⟨S1x1024x512, .f32⟩ : BufTy).Contents (Elt Ideal))⟩, ⟨S1x1024x512, (broadcastInDim S1x1024x512 ![1, 2] bcast_S1024x512_S1x1024x512_1_2 (transpose S1024x512 [1, 0] (shapeCast S512x1024 (extractStridedSlice S512x1024x1x1 ![0, 0, 0, 2] w slices_S512x1024x3x3_S512x1024x1x1_0_0_0_2) shapeCasts_S512x1024x1x1_S512x1024) transposes_S512x1024_S1024x512_1_0) : (⟨S1x1024x512, .f32⟩ : BufTy).Contents (Elt Ideal))⟩, ⟨S1x1024x512, (broadcastInDim S1x1024x512 ![1, 2] bcast_S1024x512_S1x1024x512_1_2 (transpose S1024x512 [1, 0] (shapeCast S512x1024 (extractStridedSlice S512x1024x1x1 ![0, 0, 1, 0] w slices_S512x1024x3x3_S512x1024x1x1_0_0_1_0) shapeCasts_S512x1024x1x1_S512x1024) transposes_S512x1024_S1024x512_1_0) : (⟨S1x1024x512, .f32⟩ : BufTy).Contents (Elt Ideal))⟩, ⟨S1x1024x512, (broadcastInDim S1x1024x512 ![1, 2] bcast_S1024x512_S1x1024x512_1_2 (transpose S1024x512 [1, 0] (shapeCast S512x1024 (extractStridedSlice S512x1024x1x1 ![0, 0, 1, 1] w slices_S512x1024x3x3_S512x1024x1x1_0_0_1_1) shapeCasts_S512x1024x1x1_S512x1024) transposes_S512x1024_S1024x512_1_0) : (⟨S1x1024x512, .f32⟩ : BufTy).Contents (Elt Ideal))⟩, ⟨S1x1024x512, (broadcastInDim S1x1024x512 ![1, 2] bcast_S1024x512_S1x1024x512_1_2 (transpose S1024x512 [1, 0] (shapeCast S512x1024 (extractStridedSlice S512x1024x1x1 ![0, 0, 1, 2] w slices_S512x1024x3x3_S512x1024x1x1_0_0_1_2) shapeCasts_S512x1024x1x1_S512x1024) transposes_S512x1024_S1024x512_1_0) : (⟨S1x1024x512, .f32⟩ : BufTy).Contents (Elt Ideal))⟩, ⟨S1x1024x512, (broadcastInDim S1x1024x512 ![1, 2] bcast_S1024x512_S1x1024x512_1_2 (transpose S1024x512 [1, 0] (shapeCast S512x1024 (extractStridedSlice S512x1024x1x1 ![0, 0, 2, 0] w slices_S512x1024x3x3_S512x1024x1x1_0_0_2_0) shapeCasts_S512x1024x1x1_S512x1024) transposes_S512x1024_S1024x512_1_0) : (⟨S1x1024x512, .f32⟩ : BufTy).Contents (Elt Ideal))⟩, ⟨S1x1024x512, (broadcastInDim S1x1024x512 ![1, 2] bcast_S1024x512_S1x1024x512_1_2 (transpose S1024x512 [1, 0] (shapeCast S512x1024 (extractStridedSlice S512x1024x1x1 ![0, 0, 2, 1] w slices_S512x1024x3x3_S512x1024x1x1_0_0_2_1) shapeCasts_S512x1024x1x1_S512x1024) transposes_S512x1024_S1024x512_1_0) : (⟨S1x1024x512, .f32⟩ : BufTy).Contents (Elt Ideal))⟩, ⟨S1x1024x512, (broadcastInDim S1x1024x512 ![1, 2] bcast_S1024x512_S1x1024x512_1_2 (transpose S1024x512 [1, 0] (shapeCast S512x1024 (extractStridedSlice S512x1024x1x1 ![0, 0, 2, 2] w slices_S512x1024x3x3_S512x1024x1x1_0_0_2_2) shapeCasts_S512x1024x1x1_S512x1024) transposes_S512x1024_S1024x512_1_0) : (⟨S1x1024x512, .f32⟩ : BufTy).Contents (Elt Ideal))⟩] concatenates_S1x1024x512_S1x1024x512_S1x1024x512_S1x1024x512_S1x1024x512_S1x1024x512_S1x1024x512_S1x1024x512_S1x1024x512_S9x1024x512_d0

/-- Both heads' weights: the scores' 18 rows, then the boxes' 36 by coordinate. -/
def wj (wc : HeadW 18) (wb : HeadW 36) : (⟨S54x512, .f32⟩ : BufTy).Contents (Elt Ideal) :=
  concatenate S54x512 0 [⟨S9x512, (extractStridedSlice S9x512 ![0, 0] (shapeCast S18x512 wc shapeCasts_S18x512x1x1_S18x512) slices_S18x512_S9x512_0_0 : (⟨S9x512, .f32⟩ : BufTy).Contents (Elt Ideal))⟩, ⟨S9x512, (extractStridedSlice S9x512 ![9, 0] (shapeCast S18x512 wc shapeCasts_S18x512x1x1_S18x512) slices_S18x512_S9x512_9_0 : (⟨S9x512, .f32⟩ : BufTy).Contents (Elt Ideal))⟩, ⟨S9x512, (Host.slice S9x512 ![0, 0] ![4, 1] (shapeCast S36x512 wb shapeCasts_S36x512x1x1_S36x512) slicesBy_S36x512_S9x512_0s4_0s1 : (⟨S9x512, .f32⟩ : BufTy).Contents (Elt Ideal))⟩, ⟨S9x512, (Host.slice S9x512 ![1, 0] ![4, 1] (shapeCast S36x512 wb shapeCasts_S36x512x1x1_S36x512) slicesBy_S36x512_S9x512_1s4_0s1 : (⟨S9x512, .f32⟩ : BufTy).Contents (Elt Ideal))⟩, ⟨S9x512, (Host.slice S9x512 ![2, 0] ![4, 1] (shapeCast S36x512 wb shapeCasts_S36x512x1x1_S36x512) slicesBy_S36x512_S9x512_2s4_0s1 : (⟨S9x512, .f32⟩ : BufTy).Contents (Elt Ideal))⟩, ⟨S9x512, (Host.slice S9x512 ![3, 0] ![4, 1] (shapeCast S36x512 wb shapeCasts_S36x512x1x1_S36x512) slicesBy_S36x512_S9x512_3s4_0s1 : (⟨S9x512, .f32⟩ : BufTy).Contents (Elt Ideal))⟩] concatenates_S9x512_S9x512_S9x512_S9x512_S9x512_S9x512_S54x512_d0

/-- The same padded and transposed. -/
def whd (wc : HeadW 18) (wb : HeadW 36) : (⟨S512x64, .f32⟩ : BufTy).Contents (Elt Ideal) :=
  transpose S512x64 [1, 0] (pad S64x512 ![0, 0] ![10, 0] ![0, 0] (wj wc wb) zr pads_S54x512_S64x512_0100_000 h_S_)
    transposes_S64x512_S512x64_1_0

/-- Both heads' biases in the same order. -/
def bj (bc : Bias 18) (bb : Bias 36) : (⟨S54, .f32⟩ : BufTy).Contents (Elt Ideal) :=
  concatenate S54 0 [⟨S9, (extractStridedSlice S9 ![0] bc slices_S18_S9_0 : (⟨S9, .f32⟩ : BufTy).Contents (Elt Ideal))⟩, ⟨S9, (extractStridedSlice S9 ![9] bc slices_S18_S9_9 : (⟨S9, .f32⟩ : BufTy).Contents (Elt Ideal))⟩, ⟨S9, (Host.slice S9 ![0] ![4] bb slicesBy_S36_S9_0s4 : (⟨S9, .f32⟩ : BufTy).Contents (Elt Ideal))⟩, ⟨S9, (Host.slice S9 ![1] ![4] bb slicesBy_S36_S9_1s4 : (⟨S9, .f32⟩ : BufTy).Contents (Elt Ideal))⟩, ⟨S9, (Host.slice S9 ![2] ![4] bb slicesBy_S36_S9_2s4 : (⟨S9, .f32⟩ : BufTy).Contents (Elt Ideal))⟩, ⟨S9, (Host.slice S9 ![3] ![4] bb slicesBy_S36_S9_3s4 : (⟨S9, .f32⟩ : BufTy).Contents (Elt Ideal))⟩] concatenates_S9_S9_S9_S9_S9_S9_S54_d0

/-- The same padded, as a row. -/
def bhd (bc : Bias 18) (bb : Bias 36) : (⟨S1x64, .f32⟩ : BufTy).Contents (Elt Ideal) :=
  shapeCast S1x64 (pad S64 ![0] ![10] ![0] (bj bc bb) zr pads_S54_S64_0100 h_S_) shapeCasts_S64_S1x64

/-! ## The terms at an index -/

theorem zr_at (i : S_.Idx) : zr i = 0 := by
  show ((((0#32 : BitVec 32).toInt : ℝ)) : EReal) = 0
  simp

theorem xt_at (x : Feat) (b : Fin 2) (r : Fin 2946) (k : Fin 1024) :
    xt x (ix3 b r k) = padv x b k (r.val / 56) (r.val % 56) := by
  pointwise [xt]
  simp only [zr_at]
  unfold padv
  split_ifs <;> first | rfl | (exfalso; omega)

theorem xs_at (x : Feat) (b : Fin 2) (j : Fin 3) (r : Fin 2944) (k : Fin 1024) :
    xs x (ix4 b j r k) = padv x b k ((r.val + j.val) / 56) ((r.val + j.val) % 56) := by
  fin_cases j
  · pointwise [xs]; rw [xt_at]
  · pointwise [xs]; rw [xt_at]; show padv x b k ((1 + r.val) / 56) ((1 + r.val) % 56) = _; rw [Nat.add_comm]
  · pointwise [xs]; rw [xt_at]; show padv x b k ((2 + r.val) / 56) ((2 + r.val) % 56) = _; rw [Nat.add_comm]

theorem w9_at (w : ConvW) (t : Fin 9) (k : Fin 1024) (o : Fin 512) :
    w9 w (ix3 t k o) = w (ix4 o k ⟨t.val / 3, by omega⟩ ⟨t.val % 3, by omega⟩) := by
  fin_cases t <;> (pointwise [w9])

theorem whd_at_cls (wc : HeadW 18) (wb : HeadW 36) (o : Fin 512) (k : Fin 18) :
    whd wc wb (ix2 o ⟨k.val, by omega⟩) = wc (ix4 k o 0 0) := by
  fin_cases k <;> (pointwise [whd, wj])

theorem whd_at_box (wc : HeadW 18) (wb : HeadW 36) (o : Fin 512) (a : Fin 9) (q : Fin 4) :
    whd wc wb (ix2 o ⟨18 + 9 * q.val + a.val, by omega⟩) = wb (ix4 ⟨4 * a.val + q.val, by omega⟩ o 0 0) := by
  fin_cases q <;> fin_cases a <;> (pointwise [whd, wj])

theorem bhd_at_cls (bc : Bias 18) (bb : Bias 36) (k : Fin 18) :
    bhd bc bb (ix2 0 ⟨k.val, by omega⟩) = bc (ix1 k) := by
  fin_cases k <;> (pointwise [bhd, bj])

theorem bhd_at_box (bc : Bias 18) (bb : Bias 36) (a : Fin 9) (q : Fin 4) :
    bhd bc bb (ix2 0 ⟨18 + 9 * q.val + a.val, by omega⟩) = bb (ix1 ⟨4 * a.val + q.val, by omega⟩) := by
  fin_cases q <;> fin_cases a <;> (pointwise [bhd, bj])

end Cert.KernelIdeal.At

end
-- ==== Proof.Body.lean ====
/-
  What the kernel's body leaves after each grid point.
-/
module

public import proofs.«01_k».proof.Proof.Gen.KernelIdeal.Frame
public import proofs.«01_k».proof.Proof.Prefix
public import Idealize.ShloMosaic.Lib.Pipeline.ValueKit

@[expose] public section

set_option maxRecDepth 16384

noncomputable section

namespace Cert.KernelIdeal.At

open Cert.KernelIdeal Cert.KernelIdeal.Gen Idealize.ShloMosaic Idealize.ShloMosaic.TcCoe Idealize.SL.Sem Cert.Spec

variable (m : (ℓ : Loc nD τ sig) → Buf (Elt Ideal) ℓ) (c : Dev nD)

/-- The windows' block indices. -/
theorem idx : ∀ t : Fin cfg0.N,
    win0_0.index t = ![t.val / 9, t.val % 9 % 3, 0, 0] ∧ win0_1.index t = ![t.val % 9, 0, 0] ∧
    win0_2.index t = ![0, 0] ∧ win0_3.index t = ![0, 0] ∧ win0_4.index t = ![0, 0] ∧ win0_5.index t = ![0, 0] ∧
    win0_6.index t = ![t.val / 9, 0, 0] ∧ win0_7.index t = ![t.val / 9, 0, 0] ∧ win0_8.index t = ![t.val / 9, 0, 0] ∧
    t.val < 18 := (by decide +kernel : ∀ t : Fin grid0.N, _)

/-- The row the tap's pixels start at. -/
theorem off : ∀ t : Fin cfg0.N, k0_off1 (grid0.coords t) = ![0, 0, t.val % 9 / 3 * 56, 0] :=
  (by decide +kernel : ∀ t : Fin grid0.N, _)

/-- The sum of the tap numbered `s` at row `r` of the joined pixels. -/
def px (x : Feat) (w : ConvW) (b : Fin 2) (s : ℕ) (o : Fin 512) (r : ℕ) : EReal :=
  ∑ k : Fin 1024, padv x b k ((r + s / 3 * 56 + s % 3) / 56) ((r + s / 3 * 56 + s % 3) % 56) *
    w (ix4 o k ⟨s / 3 % 3, by omega⟩ ⟨s % 3, by omega⟩)

/-- The taps up to the one numbered `s`, added in order. -/
def run (x : Feat) (w : ConvW) (b : Fin 2) (o : Fin 512) (r : ℕ) : ℕ → EReal
  | 0 => px x w b 0 o r
  | s + 1 => run x w b o r s + px x w b (s + 1) o r

theorem half_lt (t : Fin cfg0.N) : t.val / 9 < 2 := by
  have := (idx t).2.2.2.2.2.2.2.2.2
  omega

section Blocks

variable {x : Feat} {w : ConvW} (hx : V (F := Ideal) m c main_v10 = xs x) (hw : V (F := Ideal) m c main_v47 = w9 w)

include hx in
theorem blk0 (t : Fin cfg0.N) (r : Fin 2944) (k : Fin 1024) :
    iblk m c 0 t (ix4 0 0 r k) =
      padv x ⟨t.val / 9, half_lt t⟩ k ((r.val + t.val % 9 % 3) / 56) ((r.val + t.val % 9 % 3) % 56) := by
  refine Eq.trans (b := V (F := Ideal) m c main_v10 (ix4 ⟨t.val / 9, half_lt t⟩ ⟨t.val % 9 % 3, by omega⟩ r k)) ?_ ?_
  · blk_ext [iblk, idx t]
  · rw [hx]
    exact xs_at x _ _ r k

include hw in
theorem blk1 (t : Fin cfg0.N) (k : Fin 1024) (o : Fin 512) :
    iblk m c 1 t (ix3 0 k o) = w (ix4 o k ⟨t.val % 9 / 3, by omega⟩ ⟨t.val % 9 % 3, by omega⟩) := by
  refine Eq.trans (b := V (F := Ideal) m c main_v47 (ix3 ⟨t.val % 9, by omega⟩ k o)) ?_ ?_
  · blk_ext [iblk, idx t]
  · rw [hw]
    exact w9_at w _ k o

include hx hw in
theorem part (t : Fin cfg0.N) (r : Fin 2816) (o : Fin 512) :
    k0_pay7 (View.ld (iblk m c 0 t) (Rect.unit (s := S1x1x2944x1024) (k0_off1 (grid0.coords t)) S1x1x2816x1024.size (k0_off1_inb (grid0.coords t)))) (iblk m c 1 t) (ix2 r o)
      = px x w ⟨t.val / 9, half_lt t⟩ (t.val % 9) o r.val := by
  pointwise [k0_pay7]
  unfold px
  refine Fin.sum_fin_congr fun k => ?_
  have e : ∀ (h0 : k0_off1 (grid0.coords t) 0 < 1) (h1 : k0_off1 (grid0.coords t) 1 < 1)
      (h2 : k0_off1 (grid0.coords t) 2 + r.val < 2944) (h3 : k0_off1 (grid0.coords t) 3 + k.val < 1024),
      iblk m c 0 t (ix4 ⟨_, h0⟩ ⟨_, h1⟩ ⟨_, h2⟩ ⟨_, h3⟩)
        = iblk m c 0 t (ix4 0 0 ⟨t.val % 9 / 3 * 56 + r.val, by omega⟩ k) := by
    rw [off t]
    intro h0 h1 h2 h3
    blk_ext
  rw [e, blk0 m c hx, blk1 m c hw]
  have e1 : t.val % 9 / 3 * 56 + r.val = r.val + t.val % 9 / 3 * 56 := Nat.add_comm _ _
  have e2 : t.val % 9 / 3 % 3 = t.val % 9 / 3 := by omega
  simp only [e1, e2]

include hx hw in
theorem scr_A (t : Fin cfg0.N) (h0 : t.val % 9 = 0) (h1 : ¬1 ≤ t.val % 9) (h2 : ¬t.val % 9 = 8) (r : Fin 2816) (o : Fin 512) :
    (outsAt0 m c t.val t.isLt).2.2 (ix2 r o) = px x w ⟨t.val / 9, half_lt t⟩ (t.val % 9) o r.val := by
  rw [outsAt0_A m c t h0 h1 h2]
  frame_out
  rw [← part m c hx hw]
  pointwise [k0_pay8]
  rfl

include hx hw in
theorem scr_B (t : Fin cfg0.N) (h0 : ¬ t.val % 9 = 0) (h1 : 1 ≤ t.val % 9) (h2 : ¬t.val % 9 = 8) (r : Fin 2816) (o : Fin 512) :
    (outsAt0 m c t.val t.isLt).2.2 (ix2 r o)
      = (outsAt0 m c (t.val - 1) (Nat.lt_of_le_of_lt (Nat.sub_le _ _) t.isLt)).2.2 (ix2 r o)
        + px x w ⟨t.val / 9, half_lt t⟩ (t.val % 9) o r.val := by
  rw [outsAt0_B m c t h0 h1 h2]
  frame_out
  rw [← part m c hx hw, Memref.IsWhole.read_unread (Memref.isWhole_whole _)]
  pointwise [k0_pay9]
  rfl

include hx hw in
/-- The scratch after each point but a run's last. -/
theorem scr (r : Fin 2816) (o : Fin 512) : ∀ (n : ℕ) (h : n < cfg0.N) (_ : ¬n % 9 = 8),
    (outsAt0 m c n h).2.2 (ix2 r o) = run x w ⟨n / 9, half_lt ⟨n, h⟩⟩ o r.val (n % 9)
  | 0, h, _ => by
    rw [scr_A m c hx hw ⟨0, h⟩ rfl (by dsimp only; omega) (by dsimp only; omega) r o]
    rfl
  | n + 1, h, h2 => by
    by_cases h0 : (n + 1) % 9 = 0
    · rw [scr_A m c hx hw ⟨n + 1, h⟩ h0 (by dsimp only; omega) (by dsimp only; omega) r o]
      dsimp only
      rw [h0]
      rfl
    · rw [scr_B m c hx hw ⟨n + 1, h⟩ h0 (by dsimp only; omega) h2 r o]
      dsimp only
      have e := scr r o n (Nat.lt_of_succ_lt h) (by omega)
      have e1 : (n + 1) % 9 = n % 9 + 1 := by omega
      have e2 : (⟨(n + 1) / 9, half_lt ⟨n + 1, h⟩⟩ : Fin 2) = ⟨n / 9, half_lt ⟨n, Nat.lt_of_succ_lt h⟩⟩ := Fin.ext (by dsimp only; omega)
      rw [e1, e2]
      exact congrArg (· + _) e

/-- The scratch the last point's outputs are computed from. -/
def lastAcc (t : Fin cfg0.N) : Vec Ideal S2816x512 .f32 :=
  k0_pay9 (View.ld (iblk m c 0 t) (Rect.unit (s := S1x1x2944x1024) (k0_off1 (grid0.coords t)) S1x1x2816x1024.size (k0_off1_inb (grid0.coords t)))) (iblk m c 1 t)
    ((outsAt0 m c (t.val - 1) (Nat.lt_of_le_of_lt (Nat.sub_le _ _) t.isLt)).2.2)

include hx hw in
theorem lastAcc_at (t : Fin cfg0.N) (h2 : t.val % 9 = 8) (r : Fin 2816) (o : Fin 512) :
    lastAcc m c t (ix2 r o) = run x w ⟨t.val / 9, half_lt t⟩ o r.val 8 := by
  have e := scr m c hx hw r o (t.val - 1) (Nat.lt_of_le_of_lt (Nat.sub_le _ _) t.isLt) (by omega)
  have e1 : (t.val - 1) % 9 = 7 := by omega
  have e2 : (⟨(t.val - 1) / 9, half_lt ⟨t.val - 1, Nat.lt_of_le_of_lt (Nat.sub_le _ _) t.isLt⟩⟩ : Fin 2) = ⟨t.val / 9, half_lt t⟩ :=
    Fin.ext (by dsimp only; omega)
  have p := part m c hx hw t r o
  rw [e1, e2] at e
  rw [h2] at p
  show _ = run x w ⟨t.val / 9, half_lt t⟩ o r.val 7 + px x w ⟨t.val / 9, half_lt t⟩ 8 o r.val
  rw [← e, ← p]
  unfold lastAcc
  pointwise [k0_pay9]

end Blocks

/-! ## The last point's outputs over their operands -/

section Pure

variable (acc : Vec Ideal S2816x512 .f32) (v35 : Vec Ideal S1x512 .f32) (v41 : Vec Ideal S512x64 .f32) (v44 : Vec Ideal S1x64 .f32)

theorem pay1_at (r : Fin 2816) (n : Fin 64) : k0_pay1 (F := Ideal) acc v35 v41 v44 (ix2 r n) =
    (∑ o : Fin 512, max (acc (ix2 r o) + v35 (ix2 0 o)) 0 * v41 (ix2 o n)) + v44 (ix2 0 n) := by
  pointwise [k0_pay1]

theorem pay2_at (r : Fin 2816) (k : Fin 18) : k0_pay2 (F := Ideal) acc v35 v41 v44 (ix3 0 r k) =
    k0_pay1 (F := Ideal) acc v35 v41 v44 (ix2 r ⟨k.val, by omega⟩) := by
  pointwise [k0_pay2]

/-- A box from its deltas and its anchor's size and centre. -/
def boxR (d tb : Fin 4 → EReal) (h w : EReal) : Fin 4 → EReal
  | 0 => clip (low (d 0) (d 2) (tb 0) (tb 2)) w
  | 1 => clip (low (d 1) (d 3) (tb 1) (tb 3)) h
  | 2 => clip (upp (d 0) (d 2) (tb 0) (tb 2)) w
  | 3 => clip (upp (d 1) (d 3) (tb 1) (tb 3)) h

theorem pay10_at (v56 v57 v59 v62 : Vec Ideal S2816x9 .f32) (v68 v70 : Vec Ideal S1x1x1 .f32) (r : Fin 2816) (a : Fin 9) (q : Fin 4) :
    k0_pay10 (F := Ideal) (k0_pay3 acc v35 v41 v44 v56 v59) (k0_pay4 acc v35 v41 v44 v57 v62) (k0_pay5 acc v35 v41 v44 v56)
      (k0_pay6 acc v35 v41 v44 v57) v68 v70 (ix3 0 r ⟨9 * q.val + a.val, by omega⟩) =
    boxR (fun j => k0_pay1 (F := Ideal) acc v35 v41 v44 (ix2 r ⟨18 + 9 * j.val + a.val, by omega⟩))
      ![v56 (ix2 r a), v57 (ix2 r a), v59 (ix2 r a), v62 (ix2 r a)] (v68 (ix3 0 0 0)) (v70 (ix3 0 0 0)) q := by
  fin_cases a <;> fin_cases q <;> (pointwise [k0_pay10, k0_pay3, k0_pay4, k0_pay5, k0_pay6]; rfl)

end Pure

/-! ## The last point's outputs over the arguments -/

/-- The hidden layer at row `r`. -/
def hidR (x : Feat) (w : ConvW) (bc : Bias 512) (b : Fin 2) (o : Fin 512) (r : ℕ) : EReal :=
  max (run x w b o r 8 + bc (ix1 o)) 0

/-- A head at row `r`. -/
def headR {n : ℕ} (x : Feat) (w : ConvW) (bc : Bias 512) (wh : HeadW n) (bh : Bias n) (b : Fin 2) (k : Fin n) (r : ℕ) : EReal :=
  (∑ o : Fin 512, hidR x w bc b o r * wh (ix4 k o 0 0)) + bh (ix1 k)

section Outs

variable {x : Feat} {w : ConvW} {bc : Bias 512} {wc : HeadW 18} {wb : HeadW 36} {bs : Bias 18} {bb : Bias 36} {im : Info}
  (hx : V (F := Ideal) m c main_v10 = xs x) (hw : V (F := Ideal) m c main_v47 = w9 w)
  (hb : V (F := Ideal) m c main_v68 = (shapeCast S1x512 bc shapeCasts_S512_S1x512 : (⟨S1x512, .f32⟩ : BufTy).Contents (Elt Ideal)))
  (hwh : V (F := Ideal) m c main_v58 = whd wc wb) (hbh : V (F := Ideal) m c main_v67 = bhd bs bb)
  (him : V (F := Ideal) m c main_v69 = (shapeCast S2x1x3 im shapeCasts_S2x3_S2x1x3 : (⟨S2x1x3, .f32⟩ : BufTy).Contents (Elt Ideal)))

include hb in
theorem blk2 (t : Fin cfg0.N) (o : Fin 512) : iblk m c 2 t (ix2 0 o) = bc (ix1 o) := by
  refine Eq.trans (b := V (F := Ideal) m c main_v68 (ix2 0 o)) ?_ ?_
  · blk_ext [iblk, idx t]
  · rw [hb]
    pointwise

theorem blk3 (t : Fin cfg0.N) (o : Fin 512) (n : Fin 64) : iblk m c 3 t (ix2 o n) = V (F := Ideal) m c main_v58 (ix2 o n) := by
  blk_ext [iblk, idx t]

theorem blk4 (t : Fin cfg0.N) (n : Fin 64) : iblk m c 4 t (ix2 0 n) = V (F := Ideal) m c main_v67 (ix2 0 n) := by
  blk_ext [iblk, idx t]

theorem blk5 (t : Fin cfg0.N) (r : Fin 2816) (n : Fin 36) : iblk m c 5 t (ix2 r n) = V (F := Ideal) m c main_cst (ix2 r n) := by
  blk_ext [iblk, idx t]

include him in
theorem blk6 (t : Fin cfg0.N) (j : Fin 3) : iblk m c 6 t (ix3 0 0 j) = im (ix2 ⟨t.val / 9, half_lt t⟩ j) := by
  refine Eq.trans (b := V (F := Ideal) m c main_v69 (ix3 ⟨t.val / 9, half_lt t⟩ 0 j)) ?_ ?_
  · blk_ext [iblk, idx t]
  · rw [him]
    pointwise

include hx hw hb hwh hbh in
theorem cls_last (t : Fin cfg0.N) (h2 : t.val % 9 = 8) (r : Fin 2816) (k : Fin 18) :
    k0_pay1 (F := Ideal) (lastAcc m c t) (iblk m c 2 t) (iblk m c 3 t) (iblk m c 4 t) (ix2 r ⟨k.val, by omega⟩)
      = headR x w bc wc bs ⟨t.val / 9, half_lt t⟩ k r.val := by
  refine (pay1_at _ _ _ _ r _).trans ?_
  unfold headR hidR
  refine congrArg₂ (· + ·) (Fin.sum_fin_congr fun o => ?_) ?_
  · rw [lastAcc_at m c hx hw t h2, blk2 m c hb, blk3, hwh, whd_at_cls]
  · rw [blk4, hbh, bhd_at_cls]

include hx hw hb hwh hbh in
theorem box_last (t : Fin cfg0.N) (h2 : t.val % 9 = 8) (r : Fin 2816) (a : Fin 9) (q : Fin 4) :
    k0_pay1 (F := Ideal) (lastAcc m c t) (iblk m c 2 t) (iblk m c 3 t) (iblk m c 4 t) (ix2 r ⟨18 + 9 * q.val + a.val, by omega⟩)
      = headR x w bc wb bb ⟨t.val / 9, half_lt t⟩ ⟨4 * a.val + q.val, by omega⟩ r.val := by
  refine (pay1_at _ _ _ _ r _).trans ?_
  unfold headR hidR
  refine congrArg₂ (· + ·) (Fin.sum_fin_congr fun o => ?_) ?_
  · rw [lastAcc_at m c hx hw t h2, blk2 m c hb, blk3, hwh, whd_at_box]
  · rw [blk4, hbh, bhd_at_box]

include hx hw hb hwh hbh in
/-- The score logits the last point writes. -/
theorem out7 (t : Fin cfg0.N) (h2 : t.val % 9 = 8) (r : Fin 2816) (k : Fin 18) :
    (outsAt0 m c t.val t.isLt).1 (ix3 0 r k) = headR x w bc wc bs ⟨t.val / 9, half_lt t⟩ k r.val := by
  rw [outsAt0_C m c t (by omega) (by omega) h2]
  frame_out
  rw [Memref.IsWhole.read_unread (Memref.isWhole_whole _)]
  refine Eq.trans ?_ (cls_last m c hx hw hb hwh hbh t h2 r k)
  exact pay2_at (lastAcc m c t) _ _ _ r k

include hx hw hb hwh hbh him in
/-- The boxes the last point writes. -/
theorem out8 (t : Fin cfg0.N) (h2 : t.val % 9 = 8) (r : Fin 2816) (a : Fin 9) (q : Fin 4) :
    (outsAt0 m c t.val t.isLt).2.1 (ix3 0 r ⟨9 * q.val + a.val, by omega⟩) =
      boxR (fun j => headR x w bc wb bb ⟨t.val / 9, half_lt t⟩ ⟨4 * a.val + j.val, by omega⟩ r.val)
        (fun j => V (F := Ideal) m c main_cst (ix2 r ⟨9 * j.val + a.val, by omega⟩))
        (im (ix2 ⟨t.val / 9, half_lt t⟩ 0)) (im (ix2 ⟨t.val / 9, half_lt t⟩ 1)) q := by
  rw [outsAt0_C m c t (by omega) (by omega) h2]
  frame_out
  rw [Memref.IsWhole.read_unread (Memref.isWhole_whole _)]
  refine (pay10_at (lastAcc m c t) _ _ _ _ _ _ _ _ _ r a q).trans ?_
  refine congrFun (congr (congr (congrArg₂ boxR (funext fun j => ?_) (funext fun j => ?_)) ?_) ?_) q
  · exact box_last m c hx hw hb hwh hbh t h2 r a j
  · rw [← blk5 m c t]
    fin_cases j <;> (dsimp only [Matrix.cons_val]; pointwise)
  · refine Eq.trans ?_ (blk6 m c him t 0)
    pointwise
  · refine Eq.trans ?_ (blk6 m c him t 1)
    pointwise

end Outs

end Cert.KernelIdeal.At

end
-- ==== Proof.Final.lean ====
/-
  The region's two result arrays.
-/
module

public import proofs.«01_k».proof.Proof.Gen.KernelIdeal.Frame
public import proofs.«01_k».proof.Proof.Body
public import Idealize.ShloMosaic.Lib.Pipeline.ValueKit

@[expose] public section

set_option maxRecDepth 16384

noncomputable section

namespace Cert.KernelIdeal.At

open Cert.KernelIdeal Cert.KernelIdeal.Gen Idealize.ShloMosaic Idealize.ShloMosaic.TcCoe Idealize.SL.Sem Cert.Spec

variable (m : (ℓ : Loc nD τ sig) → Buf (Elt Ideal) ℓ) (c : Dev nD)

/-- The logits, over all the joined pixels. -/
def G7 (x : Feat) (w : ConvW) (bc : Bias 512) (wc : HeadW 18) (bs : Bias 18) : (⟨S2x2816x18, .f32⟩ : BufTy).Contents (Elt Ideal) :=
  fun i => headR x w bc wc bs (i 0) (i 2) (i 1).val

/-- The boxes, over all the joined pixels, from the table `T`. -/
def G8 (x : Feat) (w : ConvW) (bc : Bias 512) (wb : HeadW 36) (bb : Bias 36) (im : Info)
    (T : (⟨S2816x36, .f32⟩ : BufTy).Contents (Elt Ideal)) : (⟨S2x2816x36, .f32⟩ : BufTy).Contents (Elt Ideal) :=
  fun i =>
    have h : (i 2).val < 36 := (i 2).isLt
    boxR (fun j => headR x w bc wb bb (i 0) ⟨4 * ((i 2).val % 9) + j.val, by omega⟩ (i 1).val)
      (fun j => T (ix2 (i 1) ⟨9 * j.val + (i 2).val % 9, by omega⟩))
      (im (ix2 (i 0) 0)) (im (ix2 (i 0) 1)) ⟨(i 2).val / 9, by omega⟩

section Outs

variable {x : Feat} {w : ConvW} {bc : Bias 512} {wc : HeadW 18} {wb : HeadW 36} {bs : Bias 18} {bb : Bias 36} {im : Info}
  (hx : V (F := Ideal) m c main_v10 = xs x) (hw : V (F := Ideal) m c main_v47 = w9 w)
  (hb : V (F := Ideal) m c main_v68 = (shapeCast S1x512 bc shapeCasts_S512_S1x512 : (⟨S1x512, .f32⟩ : BufTy).Contents (Elt Ideal)))
  (hwh : V (F := Ideal) m c main_v58 = whd wc wb) (hbh : V (F := Ideal) m c main_v67 = bhd bs bb)
  (him : V (F := Ideal) m c main_v69 = (shapeCast S2x1x3 im shapeCasts_S2x3_S2x1x3 : (⟨S2x1x3, .f32⟩ : BufTy).Contents (Elt Ideal)))

include hx hw hb hwh hbh in
theorem final7 : (dats m 0 c).arrAt 7 cfg0.N = G7 x w bc wc bs := by
  refine (dats m 0 c).arrAt_eq_of_covers 7 _ (by decide +kernel) fun t hf y => ?_
  have h2 := (flush0_7 t).mp hf
  blk_simp
  rw [after0_7]
  have hy : y = ix3 0 (y 1) (y 2) := by blk_ext
  have e : (win0_7.blk t).view.emb y = ix3 ⟨t.val / 9, half_lt t⟩ (y 1) (y 2) := by blk_ext [idx t]
  refine Eq.trans (congrArg _ hy) ((out7 m c hx hw hb hwh hbh t h2 (y 1) (y 2)).trans ?_)
  exact (congrArg (G7 x w bc wc bs) e).symm

include hx hw hb hwh hbh him in
theorem final8 : (dats m 0 c).arrAt 8 cfg0.N = G8 x w bc wb bb im (V (F := Ideal) m c main_cst) := by
  refine (dats m 0 c).arrAt_eq_of_covers 8 _ (by decide +kernel) fun t hf y => ?_
  have h2 := (flush0_8 t).mp hf
  blk_simp
  rw [after0_8]
  have h36 : (y 2).val < 36 := (y 2).isLt
  have hy : y = ix3 0 (y 1) ⟨9 * (⟨(y 2).val / 9, by omega⟩ : Fin 4).val + (⟨(y 2).val % 9, by omega⟩ : Fin 9).val, by dsimp only; omega⟩ := by blk_ext
  have e : (win0_8.blk t).view.emb y = ix3 ⟨t.val / 9, half_lt t⟩ (y 1) ⟨(y 2).val, h36⟩ := by blk_ext [idx t]
  refine Eq.trans (congrArg _ hy) ((out8 m c hx hw hb hwh hbh him t h2 (y 1) _ _).trans ?_)
  exact (congrArg (G8 x w bc wb bb im (V (F := Ideal) m c main_cst)) e).symm

end Outs

end Cert.KernelIdeal.At

end
-- ==== Proof.TableDefs.lean ====
/-
  The kernel's table of anchor sizes and centres, entry by entry. Every entry is half of an integer; the
  words are compared with the integers they stand for by evaluation, and `half_spec` reads such a word as
  an extended real.
-/
module

public import proofs.«01_k».proof.KernelIdeal
public import proofs.«01_k».proof.Proof.Spec

@[expose] public section

set_option maxRecDepth 16384

namespace Cert.Table

open Idealize.ShloMosaic Cert.Spec

/-- The f32 word `b` denotes the half of the integer `n` (normal words of magnitude under `2 ^ 24`, and zero). -/
def half (b : BitVec 32) (n : Int) : Bool :=
  let ex : Nat := (b.extractLsb' 23 8).toNat
  let fr : Nat := (b.extractLsb' 0 23).toNat
  let m : Int := if b.extractLsb' 31 1 == 1#1 then -((2 ^ 23 + fr : Nat) : Int) else ((2 ^ 23 + fr : Nat) : Int)
  if ex = 0 then fr == 0 && n == 0
  else Nat.ble ex 150 && m * 2 == n * (2 ^ (150 - ex) : Nat)

/-- The predicate holds at every number below `n`. -/
def allBelow (n : Nat) (p : Nat → Bool) : Bool := Nat.rec true (fun n ih => p n && ih) n

theorem allBelow_spec (n : Nat) (p : Nat → Bool) (h : allBelow n p = true) (i : Nat) (hi : i < n) : p i = true := by
  induction n with
  | zero => omega
  | succ n ih =>
    have h' : (p n && allBelow n p) = true := h
    rw [Bool.and_eq_true] at h'
    rcases Nat.lt_succ_iff_lt_or_eq.mp hi with h1 | h1
    · exact ih h'.2 h1
    · exact h1 ▸ h'.1

/-- The entries of map row `y`: entry `i` is column `i / 36` of the map, quantity `i % 36 / 9`, anchor `i % 9`. -/
noncomputable def rowOk (y : Nat) : Bool :=
  allBelow 1800 fun i => half (KernelIdeal.lit0t (2016 * y + i))
    (entry2 (Fin.ofNat 4 (i % 36 / 9)) (Fin.ofNat 9 (i % 9)) y (i / 36))

end Cert.Table

end
-- ==== Proof.TableRows0.lean ====
/-
  The table's words at map rows 0 to 9.
-/
module

public import proofs.«01_k».proof.Proof.TableDefs

@[expose] public section

set_option maxRecDepth 16384

namespace Cert.Table

theorem row0 : rowOk 0 = true := by decide +kernel
theorem row1 : rowOk 1 = true := by decide +kernel
theorem row2 : rowOk 2 = true := by decide +kernel
theorem row3 : rowOk 3 = true := by decide +kernel
theorem row4 : rowOk 4 = true := by decide +kernel
theorem row5 : rowOk 5 = true := by decide +kernel
theorem row6 : rowOk 6 = true := by decide +kernel
theorem row7 : rowOk 7 = true := by decide +kernel
theorem row8 : rowOk 8 = true := by decide +kernel
theorem row9 : rowOk 9 = true := by decide +kernel

end Cert.Table

end
-- ==== Proof.TableRows1.lean ====
/-
  The table's words at map rows 10 to 19.
-/
module

public import proofs.«01_k».proof.Proof.TableDefs

@[expose] public section

set_option maxRecDepth 16384

namespace Cert.Table

theorem row10 : rowOk 10 = true := by decide +kernel
theorem row11 : rowOk 11 = true := by decide +kernel
theorem row12 : rowOk 12 = true := by decide +kernel
theorem row13 : rowOk 13 = true := by decide +kernel
theorem row14 : rowOk 14 = true := by decide +kernel
theorem row15 : rowOk 15 = true := by decide +kernel
theorem row16 : rowOk 16 = true := by decide +kernel
theorem row17 : rowOk 17 = true := by decide +kernel
theorem row18 : rowOk 18 = true := by decide +kernel
theorem row19 : rowOk 19 = true := by decide +kernel

end Cert.Table

end
-- ==== Proof.TableRows2.lean ====
/-
  The table's words at map rows 20 to 29.
-/
module

public import proofs.«01_k».proof.Proof.TableDefs

@[expose] public section

set_option maxRecDepth 16384

namespace Cert.Table

theorem row20 : rowOk 20 = true := by decide +kernel
theorem row21 : rowOk 21 = true := by decide +kernel
theorem row22 : rowOk 22 = true := by decide +kernel
theorem row23 : rowOk 23 = true := by decide +kernel
theorem row24 : rowOk 24 = true := by decide +kernel
theorem row25 : rowOk 25 = true := by decide +kernel
theorem row26 : rowOk 26 = true := by decide +kernel
theorem row27 : rowOk 27 = true := by decide +kernel
theorem row28 : rowOk 28 = true := by decide +kernel
theorem row29 : rowOk 29 = true := by decide +kernel

end Cert.Table

end
-- ==== Proof.TableRows3.lean ====
/-
  The table's words at map rows 30 to 39.
-/
module

public import proofs.«01_k».proof.Proof.TableDefs

@[expose] public section

set_option maxRecDepth 16384

namespace Cert.Table

theorem row30 : rowOk 30 = true := by decide +kernel
theorem row31 : rowOk 31 = true := by decide +kernel
theorem row32 : rowOk 32 = true := by decide +kernel
theorem row33 : rowOk 33 = true := by decide +kernel
theorem row34 : rowOk 34 = true := by decide +kernel
theorem row35 : rowOk 35 = true := by decide +kernel
theorem row36 : rowOk 36 = true := by decide +kernel
theorem row37 : rowOk 37 = true := by decide +kernel
theorem row38 : rowOk 38 = true := by decide +kernel
theorem row39 : rowOk 39 = true := by decide +kernel

end Cert.Table

end
-- ==== Proof.TableRows4.lean ====
/-
  The table's words at map rows 40 to 49.
-/
module

public import proofs.«01_k».proof.Proof.TableDefs

@[expose] public section

set_option maxRecDepth 16384

namespace Cert.Table

theorem row40 : rowOk 40 = true := by decide +kernel
theorem row41 : rowOk 41 = true := by decide +kernel
theorem row42 : rowOk 42 = true := by decide +kernel
theorem row43 : rowOk 43 = true := by decide +kernel
theorem row44 : rowOk 44 = true := by decide +kernel
theorem row45 : rowOk 45 = true := by decide +kernel
theorem row46 : rowOk 46 = true := by decide +kernel
theorem row47 : rowOk 47 = true := by decide +kernel
theorem row48 : rowOk 48 = true := by decide +kernel
theorem row49 : rowOk 49 = true := by decide +kernel

end Cert.Table

end
-- ==== Proof.Table.lean ====
/-
  Every word of the table that a row of the map uses, as an extended real.
-/
module

public import proofs.«01_k».proof.Proof.TableRows0
public import proofs.«01_k».proof.Proof.TableRows1
public import proofs.«01_k».proof.Proof.TableRows2
public import proofs.«01_k».proof.Proof.TableRows3
public import proofs.«01_k».proof.Proof.TableRows4

@[expose] public section

set_option maxRecDepth 16384

namespace Cert.Table

open Idealize.ShloMosaic Cert.Spec

theorem rows (y : Fin 50) : rowOk y.val = true := by
  fin_cases y
  · exact row0
  · exact row1
  · exact row2
  · exact row3
  · exact row4
  · exact row5
  · exact row6
  · exact row7
  · exact row8
  · exact row9
  · exact row10
  · exact row11
  · exact row12
  · exact row13
  · exact row14
  · exact row15
  · exact row16
  · exact row17
  · exact row18
  · exact row19
  · exact row20
  · exact row21
  · exact row22
  · exact row23
  · exact row24
  · exact row25
  · exact row26
  · exact row27
  · exact row28
  · exact row29
  · exact row30
  · exact row31
  · exact row32
  · exact row33
  · exact row34
  · exact row35
  · exact row36
  · exact row37
  · exact row38
  · exact row39
  · exact row40
  · exact row41
  · exact row42
  · exact row43
  · exact row44
  · exact row45
  · exact row46
  · exact row47
  · exact row48
  · exact row49

theorem words (y x : Fin 50) (q : Fin 4) (a : Fin 9) :
    half (KernelIdeal.lit0t ((56 * y.val + x.val) * 36 + (9 * q.val + a.val))) (entry2 q a y.val x.val) = true := by
  have h := allBelow_spec _ _ (rows y) (36 * x.val + (9 * q.val + a.val)) (by omega)
  have e1 : 2016 * y.val + (36 * x.val + (9 * q.val + a.val)) = (56 * y.val + x.val) * 36 + (9 * q.val + a.val) := by omega
  have e2 : Fin.ofNat 4 ((36 * x.val + (9 * q.val + a.val)) % 36 / 9) = q := by
    apply Fin.ext; simp only [Fin.ofNat]; omega
  have e3 : Fin.ofNat 9 ((36 * x.val + (9 * q.val + a.val)) % 9) = a := by
    apply Fin.ext; simp only [Fin.ofNat]; omega
  have e4 : (36 * x.val + (9 * q.val + a.val)) / 36 = x.val := by omega
  rw [e1, e2, e3, e4] at h
  exact h

theorem half_spec (b : BitVec 32) (n : Int) (h : half b n = true) : Ideal.ofBits .f32 b = (((n : ℝ) / 2 : ℝ) : EReal) := by
  unfold half at h
  show Ideal.ieee 8 23 b = _
  unfold Ideal.ieee
  simp only at h ⊢
  generalize (b.extractLsb' 23 8).toNat = ex at *
  generalize (b.extractLsb' 0 23).toNat = fr at *
  rw [show (b.extractLsb' (8 + 23) 1) = b.extractLsb' 31 1 from rfl]
  generalize (b.extractLsb' 31 1 == 1#1) = neg at *
  by_cases h0 : ex = 0
  · rw [if_pos h0] at h
    rw [if_neg (by omega), if_pos h0]
    simp at h
    rw [h.1, h.2]
    simp
  · rw [if_neg h0] at h
    rw [Bool.and_eq_true] at h
    obtain ⟨h1, h2⟩ := h
    have h1 : ex ≤ 150 := Nat.le_of_ble_eq_true h1
    rw [if_neg (by omega), if_neg h0]
    congr 1
    have h2 := eq_of_beq h2
    have hp : (2 : ℝ) ^ ((ex : ℤ) - (2 ^ (8 - 1) - 1) - (23 : ℕ)) = 1 / 2 ^ (150 - ex) := by
      rw [show (ex : ℤ) - (2 ^ (8 - 1) - 1) - (23 : ℕ) = -((150 - ex : ℕ) : ℤ) by omega, zpow_neg, zpow_natCast, one_div]
    rw [hp]
    have h3 : (if neg then -((2 ^ 23 + fr : ℕ) : ℝ) else ((2 ^ 23 + fr : ℕ) : ℝ)) * 2 = n * (2 ^ (150 - ex) : ℕ) := by
      have := congrArg (fun z : ℤ => (z : ℝ)) h2
      cases neg <;> simpa using this
    have hq : (2 : ℝ) ^ (150 - ex) ≠ 0 := by positivity
    field_simp
    cases neg <;> (push_cast at h3 ⊢; simp at h3 ⊢; linarith)

end Cert.Table

end
-- ==== Proof.Tail.lean ====
/-
  The host lines after the region: the two results as functions of the two arrays the region leaves.
-/
module

public import proofs.«01_k».proof.Proof.Gen.KernelIdeal.Frame
public import proofs.«01_k».proof.Proof.Spec
public import Idealize.ShloMosaic.Lib.Claim
public import Idealize.ShloMosaic.Lib.Pipeline.Value
public import Idealize.ShloMosaic.Lib.Pipeline.ValueKit

@[expose] public section

set_option maxRecDepth 16384

noncomputable section

namespace Cert.KernelIdeal.At

open Cert.KernelIdeal Cert.KernelIdeal.Gen Idealize.ShloMosaic Idealize.ShloMosaic.TcCoe Idealize.SL.Sem Cert.Spec

/-- The flat row number of each position. -/
def rows : IVec S1x2816x9 32 := iotaInDim S1x2816x9 32 1

/-- The row length, guarded against zero. -/
def wid : IVec S_ 32 := select (cmpi .eq (constantI S_ 32 56#32) (constantI S_ 32 0#32)) (constantI S_ 32 1#32) (constantI S_ 32 56#32)

/-- The row length at every position. -/
def widB : IVec S1x2816x9 32 := broadcastInDim S1x2816x9 ![] bcast_S_S1x2816x9 wid

/-- Zero at every position. -/
def zeroB : IVec S1x2816x9 32 := broadcastInDim S1x2816x9 ![] bcast_S_S1x2816x9 (constantI S_ 32 0#32)

/-- The column of each position: the flat row number modulo the row length. -/
def cols : IVec S1x2816x9 32 :=
  select (andi (cmpi .ne (cmpi .slt (Host.remsi rows widB) zeroB)
      (broadcastInDim S1x2816x9 ![] bcast_S_S1x2816x9 (cmpi .slt wid (constantI S_ 32 0#32))))
      (cmpi .ne (Host.remsi rows widB) zeroB))
    (addi (Host.remsi rows widB) widB) (Host.remsi rows widB)

/-- Whether a position lies in the feature map. -/
def inside : IVec S1x2816x9 1 :=
  andi (cmpi .slt cols (broadcastInDim S1x2816x9 ![] bcast_S_S1x2816x9 (constantI S_ 32 50#32)))
    (cmpi .slt rows (broadcastInDim S1x2816x9 ![] bcast_S_S1x2816x9 (constantI S_ 32 2800#32)))

/-- The background logits. -/
def bgs (g : FVec Ideal S2x2816x18 .f32) : FVec Ideal S2x2816x9 .f32 :=
  extractStridedSlice S2x2816x9 ![0, 0, 0] g slices_S2x2816x18_S2x2816x9_0_0_0

/-- The foreground logits. -/
def fgs (g : FVec Ideal S2x2816x18 .f32) : FVec Ideal S2x2816x9 .f32 :=
  extractStridedSlice S2x2816x9 ![0, 0, 9] g slices_S2x2816x18_S2x2816x9_0_0_9

/-- The foreground probability of every position. -/
def prob (g : FVec Ideal S2x2816x18 .f32) : FVec Ideal S2x2816x9 .f32 :=
  Host.divf (Host.exp (subf (fgs g) (maximumf (bgs g) (fgs g))))
    (addf (Host.exp (subf (bgs g) (maximumf (bgs g) (fgs g)))) (Host.exp (subf (fgs g) (maximumf (bgs g) (fgs g)))))

/-- The probabilities with every position outside the map replaced. -/
def probM (g : FVec Ideal S2x2816x18 .f32) : FVec Ideal S2x2816x9 .f32 :=
  select (broadcastInDim S2x2816x9 ![0, 1, 2] bcast_S1x2816x9_S2x2816x9_0_1_2 inside) (prob g)
    (broadcastInDim S2x2816x9 ![] bcast_S_S2x2816x9 (constant (F := Ideal) S_ .f32 0xBF800000#32))

/-- The scores of the map's own positions. -/
def tailS (g : FVec Ideal S2x2816x18 .f32) : FVec Ideal S2x22500 .f32 :=
  shapeCast S2x22500 (extractStridedSlice S2x50x50x9 ![0, 0, 0, 0]
    (shapeCast S2x50x56x9 (extractStridedSlice S2x2800x9 ![0, 0, 0]
      (shapeCast S2x2816x9 (shapeCast S2x25344 (probM g) shapeCasts_S2x2816x9_S2x25344) shapeCasts_S2x25344_S2x2816x9)
      slices_S2x2816x9_S2x2800x9_0_0_0) shapeCasts_S2x2800x9_S2x50x56x9)
    slices_S2x50x56x9_S2x50x50x9_0_0_0_0) shapeCasts_S2x50x50x9_S2x22500

/-- The boxes of the map's own positions. -/
def tailB (h : FVec Ideal S2x2816x36 .f32) : FVec Ideal S2x22500x4 .f32 :=
  shapeCast S2x22500x4 (extractStridedSlice S2x50x50x9x4 ![0, 0, 0, 0, 0]
    (shapeCast S2x50x56x9x4 (extractStridedSlice S2x2800x9x4 ![0, 0, 0, 0]
      (shapeCast S2x2816x9x4 (shapeCast S2x25344x4 (transpose S2x2816x9x4 [0, 1, 3, 2]
        (shapeCast S2x2816x4x9 h shapeCasts_S2x2816x36_S2x2816x4x9) transposes_S2x2816x4x9_S2x2816x9x4_0_1_3_2)
        shapeCasts_S2x2816x9x4_S2x25344x4) shapeCasts_S2x25344x4_S2x2816x9x4)
      slices_S2x2816x9x4_S2x2800x9x4_0_0_0_0) shapeCasts_S2x2800x9x4_S2x50x56x9x4)
    slices_S2x50x56x9x4_S2x50x50x9x4_0_0_0_0_0) shapeCasts_S2x50x50x9x4_S2x22500x4

theorem tail_scores (W : Valuation τ sig (Elt Ideal)) :
    StableHlo.after [hostOps1 (F := Ideal), hostOps1_1, hostOps1_2, hostOps1_3, hostOps1_4].flatten W (Proc.devRef .tc main_v100)
      = tailS (W (Proc.devRef .tc main_v70_0)) := by
  simp only [hostOps1, hostOps1_1, hostOps1_2, hostOps1_3, hostOps1_4,
    List.flatten_cons, List.flatten_nil, List.append_nil, List.cons_append, List.nil_append]
  after_results
  try simp only [StableHlo.TRef.ofBuf, StableHlo.TRef.toBuf, cast_eq]
  rfl

theorem tail_boxes (W : Valuation τ sig (Elt Ideal)) :
    StableHlo.after [hostOps1 (F := Ideal), hostOps1_1, hostOps1_2, hostOps1_3, hostOps1_4].flatten W (Proc.devRef .tc main_v101)
      = tailB (W (Proc.devRef .tc main_v70_1)) := by
  simp only [hostOps1, hostOps1_1, hostOps1_2, hostOps1_3, hostOps1_4,
    List.flatten_cons, List.flatten_nil, List.append_nil, List.cons_append, List.nil_append]
  after_results
  try simp only [StableHlo.TRef.ofBuf, StableHlo.TRef.toBuf, cast_eq]
  rfl

section Run

variable (m : (ℓ : Loc nD τ sig) → Buf (Elt Ideal) ℓ) (c : Dev nD)

theorem end_scores : Pipeline.afterTail₀ cfgs (dats m) 0 (V0 m) [hostOps1, hostOps1_1, hostOps1_2, hostOps1_3, hostOps1_4] c main_v100
    = tailS ((dats m 0 c).arrAt 7 cfg0.N) := by
  unfold Pipeline.afterTail₀
  rw [tail_scores]
  exact congrArg tailS (Pipeline.withArrays_arr spec0 (by decide) c (V0 m c) (fun w => (dats m 0 c).arrAt w cfg0.N) 7)

theorem end_boxes : Pipeline.afterTail₀ cfgs (dats m) 0 (V0 m) [hostOps1, hostOps1_1, hostOps1_2, hostOps1_3, hostOps1_4] c main_v101
    = tailB ((dats m 0 c).arrAt 8 cfg0.N) := by
  unfold Pipeline.afterTail₀
  rw [tail_boxes]
  exact congrArg tailB (Pipeline.withArrays_arr spec0 (by decide) c (V0 m c) (fun w => (dats m 0 c).arrAt w cfg0.N) 8)

end Run

/-! ## The results at an index -/

theorem inside_at (r : Fin 2816) (a : Fin 9) : inside (ix3 0 r a) = if r.val % 56 < 50 ∧ r.val < 2800 then 1#1 else 0#1 := by
  pointwise [inside, cols, rows, widB, zeroB, wid]
  revert r
  decide +kernel

theorem prob_at (g : FVec Ideal S2x2816x18 .f32) (b : Fin 2) (r : Fin 2816) (a : Fin 9) :
    prob g (ix3 b r a) = score (g (ix3 b r ⟨a.val, by omega⟩)) (g (ix3 b r ⟨9 + a.val, by omega⟩)) := by
  pointwise [prob, bgs, fgs, score]

theorem probM_at (g : FVec Ideal S2x2816x18 .f32) (b : Fin 2) (r : Fin 2816) (a : Fin 9) (h : r.val % 56 < 50 ∧ r.val < 2800) :
    probM g (ix3 b r a) = prob g (ix3 b r a) := by
  have e := inside_at r a
  rw [if_pos h] at e
  pointwise [probM]
  rw [e]
  rfl

theorem tailS_at (g : FVec Ideal S2x2816x18 .f32) (b : Fin 2) (k : Fin 22500) :
    tailS g (ix2 b k) = probM g (ix3 b ⟨56 * (k.val / 450) + k.val / 9 % 50, by omega⟩ ⟨k.val % 9, by omega⟩) := by
  pointwise [tailS]
  exact congrArg (fun r => probM g (ix3 b r _)) (Fin.ext (by dsimp only; omega))

theorem tailB_at (h : FVec Ideal S2x2816x36 .f32) (b : Fin 2) (k : Fin 22500) (q : Fin 4) :
    tailB h (ix3 b k q) = h (ix3 b ⟨56 * (k.val / 450) + k.val / 9 % 50, by omega⟩ ⟨9 * q.val + k.val % 9, by omega⟩) := by
  pointwise [tailB]
  exact congrArg₂ (fun r n => h (ix3 b r n)) (Fin.ext (by dsimp only; omega)) (Fin.ext (by dsimp only; omega))

end Cert.KernelIdeal.At

end
-- ==== Proof.Equate.lean ====
/-
  The kernel's arrays at the map's own positions are the mathematics of `Spec`.
-/
module

public import proofs.«01_k».proof.Proof.Final
public import proofs.«01_k».proof.Proof.Table
public import proofs.«01_k».proof.Proof.Tail

@[expose] public section

set_option maxRecDepth 16384

noncomputable section

namespace Cert.KernelIdeal.At

open Cert.KernelIdeal Cert.KernelIdeal.Gen Idealize.ShloMosaic Idealize.ShloMosaic.TcCoe Idealize.SL.Sem Cert.Spec

theorem px_tap (x : Feat) (w : ConvW) (b : Fin 2) (o : Fin 512) (y z : ℕ) (hz : z < 50) (s : ℕ) (dy dx : Fin 3)
    (h : s = 3 * dy.val + dx.val) : px x w b s o (56 * y + z) = tap x w dy dx b o y z := by
  unfold px tap
  refine Finset.sum_congr rfl fun k _ => ?_
  have e1 : (56 * y + z + s / 3 * 56 + s % 3) / 56 = y + dy.val := by omega
  have e2 : (56 * y + z + s / 3 * 56 + s % 3) % 56 = z + dx.val := by omega
  have e3 : (⟨s / 3 % 3, by omega⟩ : Fin 3) = dy := Fin.ext (by dsimp only; omega)
  have e4 : (⟨s % 3, by omega⟩ : Fin 3) = dx := Fin.ext (by dsimp only; omega)
  rw [e1, e2, e3, e4]

theorem taps_conv (x : Feat) (w : ConvW) (b : Fin 2) (o : Fin 512) (y z : ℕ) (hz : z < 50) :
    run x w b o (56 * y + z) 8 = conv x w b o y z := by
  unfold conv
  rw [← px_tap x w b o y z hz 0 0 0 rfl, ← px_tap x w b o y z hz 1 0 1 rfl, ← px_tap x w b o y z hz 2 0 2 rfl,
    ← px_tap x w b o y z hz 3 1 0 rfl, ← px_tap x w b o y z hz 4 1 1 rfl, ← px_tap x w b o y z hz 5 1 2 rfl,
    ← px_tap x w b o y z hz 6 2 0 rfl, ← px_tap x w b o y z hz 7 2 1 rfl, ← px_tap x w b o y z hz 8 2 2 rfl]
  rfl

theorem headR_head {n : ℕ} (x : Feat) (w : ConvW) (bc : Bias 512) (wh : HeadW n) (bh : Bias n) (b : Fin 2) (k : Fin n)
    (y z : ℕ) (hz : z < 50) : headR x w bc wh bh b k (56 * y + z) = head x w bc wh bh b k y z := by
  unfold headR head hidR hid
  refine congrArg (· + _) (Finset.sum_congr rfl fun o _ => ?_)
  rw [taps_conv x w b o y z hz]

/-- The anchor table as the region holds it. -/
def tbl : FVec Ideal S2816x36 .f32 := fun i => (FloatOps.ofBits .f32 (lit0 (S2816x36.rowMajor i)) : Ideal .f32)

theorem tbl_at (y z : Fin 50) (q : Fin 4) (a : Fin 9) :
    tbl (ix2 ⟨56 * y.val + z.val, by omega⟩ ⟨9 * q.val + a.val, by omega⟩) = ent q a y.val z.val := by
  refine Eq.trans ?_ (Cert.Table.half_spec _ _ (Cert.Table.words y z q a))
  unfold tbl
  refine congrArg (Ideal.ofBits .f32) ?_
  show KernelIdeal.lit0t (S2816x36.rowMajor (ix2 _ _)).val = _
  refine congrArg KernelIdeal.lit0t ?_
  exact Shape.rowMajor_val_two _

theorem boxR_box (d : Fin 4 → EReal) (tb : Fin 4 → EReal) (h w : EReal) (a : Fin 9) (y z : ℕ) (e : ∀ j, tb j = ent j a y z) (q : Fin 4) :
    boxR d tb h w q = box d h w a y z q := by
  have : tb = fun j => ent j a y z := funext e
  subst this
  fin_cases q <;> rfl

/-- The kernel's scores. -/
theorem scores_eq (x : Feat) (w : ConvW) (bc : Bias 512) (wc : HeadW 18) (bs : Bias 18) (b : Fin 2) (k : Fin 22500) :
    tailS (G7 x w bc wc bs) (ix2 b k) =
      score (head x w bc wc bs b ⟨k.val % 9, by omega⟩ (k.val / 450) (k.val / 9 % 50))
        (head x w bc wc bs b ⟨9 + k.val % 9, by omega⟩ (k.val / 450) (k.val / 9 % 50)) := by
  rw [tailS_at, probM_at _ _ _ _ (by dsimp only; omega), prob_at]
  exact congrArg₂ score (headR_head x w bc wc bs b _ _ _ (by omega)) (headR_head x w bc wc bs b _ _ _ (by omega))

/-- The kernel's boxes. -/
theorem boxes_eq (x : Feat) (w : ConvW) (bc : Bias 512) (wb : HeadW 36) (bb : Bias 36) (im : Info) (b : Fin 2) (k : Fin 22500) (q : Fin 4) :
    tailB (G8 x w bc wb bb im tbl) (ix3 b k q) =
      box (fun j => head x w bc wb bb b ⟨k.val % 9 * 4 + j.val, by omega⟩ (k.val / 450) (k.val / 9 % 50))
        (im (ix2 b 0)) (im (ix2 b 1)) ⟨k.val % 9, by omega⟩ (k.val / 450) (k.val / 9 % 50) q := by
  rw [tailB_at]
  have e1 : (9 * q.val + k.val % 9) % 9 = k.val % 9 := by omega
  have e2 : (⟨(9 * q.val + k.val % 9) / 9, by omega⟩ : Fin 4) = q := Fin.ext (by dsimp only; omega)
  have e3 : ∀ j : Fin 4, headR x w bc wb bb b ⟨4 * ((9 * q.val + k.val % 9) % 9) + j.val, by omega⟩ (56 * (k.val / 450) + k.val / 9 % 50)
      = head x w bc wb bb b ⟨k.val % 9 * 4 + j.val, by omega⟩ (k.val / 450) (k.val / 9 % 50) := fun j => by
    rw [headR_head x w bc wb bb b _ _ _ (by omega)]
    exact congrArg (fun n => head x w bc wb bb b n _ _) (Fin.ext (by dsimp only; omega))
  have e4 : ∀ j : Fin 4, tbl (ix2 ⟨56 * (k.val / 450) + k.val / 9 % 50, by omega⟩ ⟨9 * j.val + (9 * q.val + k.val % 9) % 9, by omega⟩)
      = ent j ⟨k.val % 9, by omega⟩ (k.val / 450) (k.val / 9 % 50) := fun j => by
    refine Eq.trans ?_ (tbl_at ⟨k.val / 450, by omega⟩ ⟨k.val / 9 % 50, by omega⟩ j ⟨k.val % 9, by omega⟩)
    exact congrArg (fun n => tbl (ix2 _ n)) (Fin.ext (by dsimp only; omega))
  refine Eq.trans (b := boxR (fun j => headR x w bc wb bb b ⟨4 * ((9 * q.val + k.val % 9) % 9) + j.val, by omega⟩ (56 * (k.val / 450) + k.val / 9 % 50))
    (fun j => tbl (ix2 ⟨56 * (k.val / 450) + k.val / 9 % 50, by omega⟩ ⟨9 * j.val + (9 * q.val + k.val % 9) % 9, by omega⟩))
    (im (ix2 b 0)) (im (ix2 b 1)) ⟨(9 * q.val + k.val % 9) / 9, by omega⟩) rfl ?_
  rw [e2, boxR_box _ _ _ _ _ _ _ e4]
  exact congrArg (fun d => box d _ _ _ _ _ q) (funext e3)

end Cert.KernelIdeal.At

end
-- ==== Proof.Terms.lean ====
/-
  The arrays the host hands to the region, as terms in the arguments.
-/
module

public import proofs.«01_k».proof.Proof.Gen.KernelIdeal.Frame
public import proofs.«01_k».proof.Proof.Prefix
public import Idealize.ShloMosaic.Lib.Claim
public import Idealize.ShloMosaic.Lib.Pipeline.Value

@[expose] public section

set_option maxRecDepth 16384

noncomputable section

namespace Cert.KernelIdeal.At

open Cert.KernelIdeal Cert.KernelIdeal.Gen Idealize.ShloMosaic Idealize.ShloMosaic.TcCoe Idealize.SL.Sem Cert.Spec

/-! ## The region's operands are these terms -/

section Terms

variable (m : (ℓ : Loc nD τ sig) → Buf (Elt Ideal) ℓ) (c : Dev nD)

theorem v10_term : V (F := Ideal) m c main_v10 = xs (m (c, Proc.devRef .tc main_arg0)) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  dsimp only [Matrix.cons_val]
  after_results_loop
  try simp only [StableHlo.TRef.ofBuf, StableHlo.TRef.toBuf, cast_eq]
  rfl

theorem v47_term : V (F := Ideal) m c main_v47 = w9 (m (c, Proc.devRef .tc main_arg4)) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  dsimp only [Matrix.cons_val]
  after_results_loop
  try simp only [StableHlo.TRef.ofBuf, StableHlo.TRef.toBuf, cast_eq]
  rfl

theorem v58_term : V (F := Ideal) m c main_v58 = whd (m (c, Proc.devRef .tc main_arg6)) (m (c, Proc.devRef .tc main_arg8)) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  dsimp only [Matrix.cons_val]
  after_results_loop
  try simp only [StableHlo.TRef.ofBuf, StableHlo.TRef.toBuf, cast_eq]
  rfl

theorem v67_term : V (F := Ideal) m c main_v67 = bhd (m (c, Proc.devRef .tc main_arg7)) (m (c, Proc.devRef .tc main_arg9)) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  dsimp only [Matrix.cons_val]
  after_results_loop
  try simp only [StableHlo.TRef.ofBuf, StableHlo.TRef.toBuf, cast_eq]
  rfl

theorem v68_term : V (F := Ideal) m c main_v68 = (shapeCast S1x512 (m (c, Proc.devRef .tc main_arg5)) shapeCasts_S512_S1x512 : (⟨S1x512, .f32⟩ : BufTy).Contents (Elt Ideal)) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

theorem v69_term : V (F := Ideal) m c main_v69 = (shapeCast S2x1x3 (m (c, Proc.devRef .tc main_arg1)) shapeCasts_S2x3_S2x1x3 : (⟨S2x1x3, .f32⟩ : BufTy).Contents (Elt Ideal)) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

theorem cst_term : V (F := Ideal) m c main_cst =
    (fun i => (FloatOps.ofBits .f32 (lit0 (S2816x36.rowMajor i)) : Ideal .f32) : (⟨S2816x36, .f32⟩ : BufTy).Contents (Elt Ideal)) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

end Terms

end Cert.KernelIdeal.At

end
-- ==== Proof.Ref.lean ====
/-
  The reference read at an index.
-/
module

public import proofs.«01_k».proof.Proof.Gen.ReferenceIdeal.Read
public import proofs.«01_k».proof.Proof.Spec

@[expose] public section

set_option maxRecDepth 16384

noncomputable section

namespace Cert.ReferenceIdeal.At

open Cert.ReferenceIdeal Cert.ReferenceIdeal.Gen Cert.ReferenceIdeal.Read Idealize.ShloMosaic Cert.Spec

theorem v0_at (x : Feat) (b : Fin 2) (c : Fin 1024) (i j : Fin 52) :
    val_main_v0 (F := Ideal) x (ix4 b c i j) = padv x b c i.val j.val := by
  pointwise [val_main_v0, val_main_call0_v0, val_main_c]
  have h0 : (FloatOps.sitofp .f32 (0#32) : Ideal .f32) = 0 := by
    show ((((0#32 : BitVec 32).toInt : ℝ)) : EReal) = 0
    simp
  unfold padv
  rw [h0]
  refine dite_congr (propext ⟨fun h => ⟨⟨h.1.1, by omega⟩, h.2.1, by omega⟩, fun h => ⟨⟨h.1.1, by omega⟩, h.2.1, by omega⟩⟩)
    (fun _ => rfl) (fun _ => rfl)

/-- A tap's product, with the weight on the left as the reference has it. -/
theorem tap_of (x : Feat) (w : ConvW) (dy dx : Fin 3) (b : Fin 2) (o : Fin 512) (y z : ℕ) {i j : ℕ}
    (hi : i = y + dy.val) (hj : j = z + dx.val) :
    (∑ c : Fin 1024, w (ix4 o c dy dx) * padv x b c i j) = tap x w dy dx b o y z := by
  subst hi hj
  exact Finset.sum_congr rfl fun _ _ => mul_comm _ _

theorem v6_at (x : Feat) (w : ConvW) (b : Fin 2) (o : Fin 512) (y z : Fin 50) :
    val_main_v6 (F := Ideal) x w (ix4 b o y z) = tap x w 0 0 b o y.val z.val := by
  pointwise [val_main_v6, val_main_v5, val_main_v4, val_main_v3, val_main_v2]
  simp only [v0_at]
  exact tap_of x w 0 0 b o y.val z.val rfl rfl

theorem v12_at (x : Feat) (w : ConvW) (b : Fin 2) (o : Fin 512) (y z : Fin 50) :
    val_main_v12 (F := Ideal) x w (ix4 b o y z) = tap x w 0 1 b o y.val z.val := by
  pointwise [val_main_v12, val_main_v11, val_main_v10, val_main_v9, val_main_v8]
  simp only [v0_at]
  exact tap_of x w 0 1 b o y.val z.val rfl (Nat.add_comm _ _)

theorem v18_at (x : Feat) (w : ConvW) (b : Fin 2) (o : Fin 512) (y z : Fin 50) :
    val_main_v18 (F := Ideal) x w (ix4 b o y z) = tap x w 0 2 b o y.val z.val := by
  pointwise [val_main_v18, val_main_v17, val_main_v16, val_main_v15, val_main_v14]
  simp only [v0_at]
  exact tap_of x w 0 2 b o y.val z.val rfl (Nat.add_comm _ _)

theorem v24_at (x : Feat) (w : ConvW) (b : Fin 2) (o : Fin 512) (y z : Fin 50) :
    val_main_v24 (F := Ideal) x w (ix4 b o y z) = tap x w 1 0 b o y.val z.val := by
  pointwise [val_main_v24, val_main_v23, val_main_v22, val_main_v21, val_main_v20]
  simp only [v0_at]
  exact tap_of x w 1 0 b o y.val z.val (Nat.add_comm _ _) rfl

theorem v30_at (x : Feat) (w : ConvW) (b : Fin 2) (o : Fin 512) (y z : Fin 50) :
    val_main_v30 (F := Ideal) x w (ix4 b o y z) = tap x w 1 1 b o y.val z.val := by
  pointwise [val_main_v30, val_main_v29, val_main_v28, val_main_v27, val_main_v26]
  simp only [v0_at]
  exact tap_of x w 1 1 b o y.val z.val (Nat.add_comm _ _) (Nat.add_comm _ _)

theorem v36_at (x : Feat) (w : ConvW) (b : Fin 2) (o : Fin 512) (y z : Fin 50) :
    val_main_v36 (F := Ideal) x w (ix4 b o y z) = tap x w 1 2 b o y.val z.val := by
  pointwise [val_main_v36, val_main_v35, val_main_v34, val_main_v33, val_main_v32]
  simp only [v0_at]
  exact tap_of x w 1 2 b o y.val z.val (Nat.add_comm _ _) (Nat.add_comm _ _)

theorem v42_at (x : Feat) (w : ConvW) (b : Fin 2) (o : Fin 512) (y z : Fin 50) :
    val_main_v42 (F := Ideal) x w (ix4 b o y z) = tap x w 2 0 b o y.val z.val := by
  pointwise [val_main_v42, val_main_v41, val_main_v40, val_main_v39, val_main_v38]
  simp only [v0_at]
  exact tap_of x w 2 0 b o y.val z.val (Nat.add_comm _ _) rfl

theorem v48_at (x : Feat) (w : ConvW) (b : Fin 2) (o : Fin 512) (y z : Fin 50) :
    val_main_v48 (F := Ideal) x w (ix4 b o y z) = tap x w 2 1 b o y.val z.val := by
  pointwise [val_main_v48, val_main_v47, val_main_v46, val_main_v45, val_main_v44]
  simp only [v0_at]
  exact tap_of x w 2 1 b o y.val z.val (Nat.add_comm _ _) (Nat.add_comm _ _)

theorem v54_at (x : Feat) (w : ConvW) (b : Fin 2) (o : Fin 512) (y z : Fin 50) :
    val_main_v54 (F := Ideal) x w (ix4 b o y z) = tap x w 2 2 b o y.val z.val := by
  pointwise [val_main_v54, val_main_v53, val_main_v52, val_main_v51, val_main_v50]
  simp only [v0_at]
  exact tap_of x w 2 2 b o y.val z.val (Nat.add_comm _ _) (Nat.add_comm _ _)

theorem conv_at (x : Feat) (w : ConvW) (b : Fin 2) (o : Fin 512) (y z : Fin 50) :
    val_main_v55 (F := Ideal) x w (ix4 b o y z) = conv x w b o y.val z.val := by
  pointwise [val_main_v55, val_main_v49, val_main_v43, val_main_v37, val_main_v31, val_main_v25, val_main_v19,
    val_main_v13, val_main_v7, val_main_v1, val_main_cst]
  simp only [v6_at, v12_at, v18_at, v24_at, v30_at, v36_at, v42_at, v48_at, v54_at]
  unfold conv
  simp only [zero_add]

theorem hid_at (x : Feat) (w : ConvW) (bc : Bias 512) (b : Fin 2) (o : Fin 512) (y z : Fin 50) :
    val_main_v59 (F := Ideal) x w bc (ix4 b o y z) = hid x w bc b o y.val z.val := by
  pointwise [val_main_v59, val_main_call1_v0, val_main_call1_cst, val_main_v58, val_main_v57, val_main_v56]
  simp only [conv_at]
  rfl

theorem cls_at (x : Feat) (w : ConvW) (bc : Bias 512) (wh : HeadW 18) (bh : Bias 18) (b : Fin 2) (k : Fin 18) (y z : Fin 50) :
    val_main_v65 (F := Ideal) x w bc wh bh (ix4 b k y z) = head x w bc wh bh b k y.val z.val := by
  pointwise [val_main_v65, val_main_v64, val_main_v63, val_main_v62, val_main_v61, val_main_v60]
  simp only [hid_at]
  simp only [head, mul_comm]

theorem bbx_at (x : Feat) (w : ConvW) (bc : Bias 512) (wh : HeadW 36) (bh : Bias 36) (b : Fin 2) (k : Fin 36) (y z : Fin 50) :
    val_main_v84 (F := Ideal) x w bc wh bh (ix4 b k y z) = head x w bc wh bh b k y.val z.val := by
  pointwise [val_main_v84, val_main_v83, val_main_v82, val_main_v81, val_main_v80, val_main_v79]
  simp only [hid_at]
  simp only [head, mul_comm]

theorem ofBits_neg_inf : Ideal.ofBits .f32 0xFF800000#32 = ⊥ := by simp [Ideal.ofBits, Ideal.ieee]

theorem max_at (x : Feat) (w : ConvW) (bc : Bias 512) (wh : HeadW 18) (bh : Bias 18) (b : Fin 2) (r : Fin 450) (z : Fin 50) :
    val_main_v69 (F := Ideal) x w bc wh bh (ix3 b r z) =
     max (val_main_v66 (F := Ideal) x w bc wh bh (ix4 b 0 r z)) (val_main_v66 (F := Ideal) x w bc wh bh (ix4 b 1 r z)) := by
  pointwise [val_main_v69, val_main_v68, val_main_v67, val_main_cst_0, val_main_cst_1]
  rw [show (4286578688#32 : BitVec 32) = 0xFF800000#32 from rfl, ofBits_neg_inf, bot_sup_eq,
    show (Finset.univ : Finset (Fin 2)) = {0, 1} from rfl, Finset.fold_insert (by decide), Finset.fold_singleton]
  simp

theorem prob_at (x : Feat) (w : ConvW) (bc : Bias 512) (wh : HeadW 18) (bh : Bias 18) (b : Fin 2) (r : Fin 450) (z : Fin 50) :
    val_main_v77 (F := Ideal) x w bc wh bh (ix4 b 1 r z)
      = score (val_main_v66 (F := Ideal) x w bc wh bh (ix4 b 0 r z)) (val_main_v66 (F := Ideal) x w bc wh bh (ix4 b 1 r z)) := by
  pointwise [val_main_v77, val_main_v76, val_main_v75, val_main_v74, val_main_v73, val_main_v72, val_main_v71, val_main_v70, val_main_cst_2]
  rw [max_at, Fin.sum_univ_two]
  rfl

theorem v66_at (x : Feat) (w : ConvW) (bc : Bias 512) (wh : HeadW 18) (bh : Bias 18) (b : Fin 2) (k : Fin 2) (y z : Fin 50)
    (a : Fin 9) (n : Fin 18) (hn : n.val = 9 * k.val + a.val) (r : Fin 450) (hr : r.val = a.val * 50 + y.val) :
    val_main_v66 (F := Ideal) x w bc wh bh (ix4 b k r z) = head x w bc wh bh b n y.val z.val := by
  obtain ⟨r, hr'⟩ := r
  subst hr
  obtain ⟨n, hn'⟩ := n
  subst hn
  rw [← cls_at]
  have e : ∀ (u v : Fin 18) (y' : Fin 50), u.val = v.val → y'.val = y.val →
      val_main_v65 (F := Ideal) x w bc wh bh (ix4 b u y' z) = val_main_v65 (F := Ideal) x w bc wh bh (ix4 b v y z) :=
    fun u v y' h h' => by rw [Fin.ext h, Fin.ext h']
  pointwise [val_main_v66]
  exact e _ _ _ (by show k.val * 9 + (a.val * 50 + y.val) / 50 = 9 * k.val + a.val; omega) rfl

theorem v86_at (x : Feat) (w : ConvW) (bc : Bias 512) (wh : HeadW 18) (bh : Bias 18) (b : Fin 2) (y z : Fin 50) (a : Fin 9) :
    val_main_v86 (F := Ideal) x w bc wh bh (ix4 b y z a) =
      score (head x w bc wh bh b ⟨a.val, by omega⟩ y.val z.val) (head x w bc wh bh b ⟨9 + a.val, by omega⟩ y.val z.val) := by
  have e : val_main_v86 (F := Ideal) x w bc wh bh (ix4 b y z a)
      = val_main_v77 (F := Ideal) x w bc wh bh (ix4 b 1 ⟨a.val * 50 + y.val, by omega⟩ z) := by
    have e : ∀ (u : Fin 2) (v : Fin 450), u.val = 1 → v.val = a.val * 50 + y.val →
        val_main_v77 (F := Ideal) x w bc wh bh (ix4 b u v z)
          = val_main_v77 (F := Ideal) x w bc wh bh (ix4 b 1 ⟨a.val * 50 + y.val, by omega⟩ z) :=
      fun u v h h' => by rw [show u = 1 from Fin.ext h, show v = ⟨a.val * 50 + y.val, by omega⟩ from Fin.ext h']
    pointwise [val_main_v86, val_main_v85, val_main_v78]
    exact e _ _ (by show (9 + a.val) / 9 = 1; omega) (by show (9 + a.val) % 9 * 50 + y.val = _; omega)
  rw [e, prob_at, v66_at x w bc wh bh b 0 y z a ⟨a.val, by omega⟩ (by simp) _ rfl,
    v66_at x w bc wh bh b 1 y z a ⟨9 + a.val, by omega⟩ (by simp) _ rfl]

/-- The row, the column and the anchor of a flat index of the map's anchors. -/
abbrev ky (k : Fin 22500) : Fin 50 := ⟨k.val / 450, by omega⟩
abbrev kx (k : Fin 22500) : Fin 50 := ⟨k.val / 9 % 50, by omega⟩
abbrev ka (k : Fin 22500) : Fin 9 := ⟨k.val % 9, by omega⟩

theorem scores_at (x : Feat) (w : ConvW) (bc : Bias 512) (wh : HeadW 18) (bh : Bias 18) (b : Fin 2) (k : Fin 22500) :
    val_main_v87 (F := Ideal) x w bc wh bh (ix2 b k) =
      score (head x w bc wh bh b ⟨k.val % 9, by omega⟩ (k.val / 450) (k.val / 9 % 50))
        (head x w bc wh bh b ⟨9 + k.val % 9, by omega⟩ (k.val / 450) (k.val / 9 % 50)) := by
  pointwise [val_main_v87]
  exact v86_at x w bc wh bh b (ky k) (kx k) (ka k)

theorem deltas_at (x : Feat) (w : ConvW) (bc : Bias 512) (wh : HeadW 36) (bh : Bias 36) (b : Fin 2) (k : Fin 22500) (q : Fin 4) :
    val_main_v89 (F := Ideal) x w bc wh bh (ix3 b k q)
      = head x w bc wh bh b ⟨k.val % 9 * 4 + q.val, by omega⟩ (k.val / 450) (k.val / 9 % 50) := by
  pointwise [val_main_v89, val_main_v88]
  exact bbx_at x w bc wh bh b _ (ky k) (kx k)

theorem corner_at (a : Fin 9) (q : Fin 4) : val_main_v130 (F := Ideal) (ix2 a q) = ((corner a q : ℝ) : EReal) := by
  fin_cases a <;> fin_cases q <;>
    (pointwise [val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38]
     simp [corner, Ideal.ofBits, Ideal.ieee, -EReal.coe_mul, -EReal.coe_neg]
     try norm_num)

/-- Sixteen times a row or column number, as a word and then as an extended real. -/
theorem shift16 (n : ℕ) (h : n < 50) :
    (FloatOps.sitofp .f32 (IntOp.muli (BitVec.ofNat 32 n) 16#32) : Ideal .f32) = ((16 * n : ℝ) : EReal) := by
  show ((((BitVec.ofNat 32 n * 16#32 : BitVec 32).toInt : ℝ)) : EReal) = _
  have e : ∀ m : Fin 50, (BitVec.ofNat 32 m.val * 16#32 : BitVec 32).toInt = 16 * (m.val : ℤ) := by decide
  rw [e ⟨n, h⟩]
  push_cast
  rfl

theorem shift_at (p : Fin 2500) (q : Fin 4) :
    (FloatOps.sitofp .f32 (val_main_v147 (F := Ideal) (ix2 p q)) : Ideal .f32)
      = ((16 * ((if q.val % 2 = 0 then p.val % 50 else p.val / 50 : ℕ) : ℝ) : ℝ) : EReal) := by
  fin_cases q <;>
    (pointwise [val_main_v131, val_main_v132, val_main_v133, val_main_v134, val_main_v135, val_main_v136, val_main_v137, val_main_v138, val_main_v139, val_main_v140, val_main_v141, val_main_v142, val_main_v143, val_main_v144, val_main_v145, val_main_v146, val_main_v147, val_main_c_39, val_main_c_40]
     rw [shift16 _ (by omega)])

theorem anchors_at (k : Fin 22500) (q : Fin 4) :
    val_main_v155 (F := Ideal) (ix3 0 k q)
      = (((corner (ka k) q : ℝ) + 16 * ((if q.val % 2 = 0 then k.val / 9 % 50 else k.val / 450 : ℕ) : ℝ) : ℝ) : EReal) := by
  pointwise [val_main_v148, val_main_v149, val_main_v150, val_main_v151, val_main_v152, val_main_v153, val_main_v154, val_main_v155]
  rw [shift_at, corner_at, EReal.coe_add, show k.val / 9 / 50 = k.val / 450 by omega]

theorem hf_def : Ideal.ofBits .f32 1056964608#32 = hf := rfl

theorem hf_eq : hf = ((1 / 2 : ℝ) : EReal) := by
  simp [hf, Ideal.ofBits, Ideal.ieee, -EReal.coe_mul]; norm_num

theorem width_at (k : Fin 22500) :
    (val_main_v155 (F := Ideal) (ix3 0 k 2) : EReal) - (val_main_v155 (F := Ideal) (ix3 0 k 0) : EReal) + 1
      = ent 0 (ka k) (k.val / 450) (k.val / 9 % 50) := by
  rw [anchors_at, anchors_at, ← EReal.coe_sub, ← EReal.coe_one, ← EReal.coe_add]
  congr 1
  simp [entry2]

theorem height_at (k : Fin 22500) :
    (val_main_v155 (F := Ideal) (ix3 0 k 3) : EReal) - (val_main_v155 (F := Ideal) (ix3 0 k 1) : EReal) + 1
      = ent 1 (ka k) (k.val / 450) (k.val / 9 % 50) := by
  rw [anchors_at, anchors_at, ← EReal.coe_sub, ← EReal.coe_one, ← EReal.coe_add]
  congr 1
  simp [entry2]

theorem centre_x_at (k : Fin 22500) :
    (val_main_v155 (F := Ideal) (ix3 0 k 0) : EReal) + hf * ent 0 (ka k) (k.val / 450) (k.val / 9 % 50)
      = ent 2 (ka k) (k.val / 450) (k.val / 9 % 50) := by
  rw [anchors_at, hf_eq, ent, ent, ← EReal.coe_mul, ← EReal.coe_add]
  congr 1
  simp only [entry2]
  generalize k.val / 9 % 50 = n
  simp
  ring

theorem centre_y_at (k : Fin 22500) :
    (val_main_v155 (F := Ideal) (ix3 0 k 1) : EReal) + hf * ent 1 (ka k) (k.val / 450) (k.val / 9 % 50)
      = ent 3 (ka k) (k.val / 450) (k.val / 9 % 50) := by
  rw [anchors_at, hf_eq, ent, ent, ← EReal.coe_mul, ← EReal.coe_add]
  congr 1
  simp only [entry2]
  generalize k.val / 450 = n
  simp
  ring

end Cert.ReferenceIdeal.At

end
-- ==== Proof.RefBox.lean ====
/-
  The reference's boxes read at an index.
-/
module

public import proofs.«01_k».proof.Proof.Ref

@[expose] public section

set_option maxRecDepth 16384

noncomputable section

namespace Cert.ReferenceIdeal.At

open Cert.ReferenceIdeal Cert.ReferenceIdeal.Gen Cert.ReferenceIdeal.Read Idealize.ShloMosaic Cert.Spec

theorem boxes_at (x : Feat) (im : Info) (w : ConvW) (bc : Bias 512) (wh : HeadW 36) (bh : Bias 36) (b : Fin 2) (k : Fin 22500)
    (q : Fin 4) :
    val_main_v245 (F := Ideal) x im w bc wh bh (ix3 b k q) =
      box (fun j => head x w bc wh bh b ⟨k.val % 9 * 4 + j.val, by omega⟩ (k.val / 450) (k.val / 9 % 50))
        (im (ix2 b 0)) (im (ix2 b 1)) (ka k) (k.val / 450) (k.val / 9 % 50) q := by
  have h0 : id (constant (F := Ideal) S_ .f32 0#32) ix0 = 0 := Ideal.ofBits_zero_f32
  have d := fun q => deltas_at x w bc wh bh b k q
  fin_cases q
  · pointwise [val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v208, val_main_v209, val_main_v210, val_main_v211, val_main_v212, val_main_v213, val_main_v214, val_main_v215, val_main_v216, val_main_v217, val_main_v218, val_main_v219, val_main_v220, val_main_v221, val_main_v222, val_main_v223, val_main_v224, val_main_v225, val_main_v226, val_main_v227, val_main_v228, val_main_v229, val_main_v230, val_main_v231, val_main_v232, val_main_v233, val_main_v234, val_main_v235, val_main_v236, val_main_v237, val_main_v238, val_main_v239, val_main_v240, val_main_v241, val_main_v242, val_main_v243, val_main_v244, val_main_v245, val_main_cst_41, val_main_cst_42, val_main_cst_43, val_main_cst_44, val_main_cst_45, val_main_cst_46, val_main_cst_47, val_main_cst_48, val_main_cst_49, val_main_cst_50, val_main_cst_51, val_main_cst_52, val_main_cst_53, val_main_cst_54, val_main_cst_55, val_main_cst_56, val_main_call2_v0, val_main_call2_v1, val_main_call2_v2, val_main_call2_v3, val_main_call3_v0, val_main_call3_v1, val_main_call3_v2, val_main_call3_v3, val_main_call4_v0, val_main_call4_v1, val_main_call4_v2, val_main_call4_v3, val_main_call5_v0, val_main_call5_v1, val_main_call5_v2, val_main_call5_v3]
    rw [h0]
    show clip (low (val_main_v89 (F := Ideal) x w bc wh bh (ix3 b k 0)) (val_main_v89 (F := Ideal) x w bc wh bh (ix3 b k 2)) (val_main_v155 (F := Ideal) (ix3 0 k 2) - val_main_v155 (F := Ideal) (ix3 0 k 0) + 1 : EReal)
      (val_main_v155 (F := Ideal) (ix3 0 k 0) + hf * (val_main_v155 (F := Ideal) (ix3 0 k 2) - val_main_v155 (F := Ideal) (ix3 0 k 0) + 1 : EReal) : EReal)) (im (ix2 b 1)) = _
    rw [width_at, centre_x_at, d, d]
    rfl
  · pointwise [val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v208, val_main_v209, val_main_v210, val_main_v211, val_main_v212, val_main_v213, val_main_v214, val_main_v215, val_main_v216, val_main_v217, val_main_v218, val_main_v219, val_main_v220, val_main_v221, val_main_v222, val_main_v223, val_main_v224, val_main_v225, val_main_v226, val_main_v227, val_main_v228, val_main_v229, val_main_v230, val_main_v231, val_main_v232, val_main_v233, val_main_v234, val_main_v235, val_main_v236, val_main_v237, val_main_v238, val_main_v239, val_main_v240, val_main_v241, val_main_v242, val_main_v243, val_main_v244, val_main_v245, val_main_cst_41, val_main_cst_42, val_main_cst_43, val_main_cst_44, val_main_cst_45, val_main_cst_46, val_main_cst_47, val_main_cst_48, val_main_cst_49, val_main_cst_50, val_main_cst_51, val_main_cst_52, val_main_cst_53, val_main_cst_54, val_main_cst_55, val_main_cst_56, val_main_call2_v0, val_main_call2_v1, val_main_call2_v2, val_main_call2_v3, val_main_call3_v0, val_main_call3_v1, val_main_call3_v2, val_main_call3_v3, val_main_call4_v0, val_main_call4_v1, val_main_call4_v2, val_main_call4_v3, val_main_call5_v0, val_main_call5_v1, val_main_call5_v2, val_main_call5_v3]
    rw [h0]
    show clip (low (val_main_v89 (F := Ideal) x w bc wh bh (ix3 b k 1)) (val_main_v89 (F := Ideal) x w bc wh bh (ix3 b k 3)) (val_main_v155 (F := Ideal) (ix3 0 k 3) - val_main_v155 (F := Ideal) (ix3 0 k 1) + 1 : EReal)
      (val_main_v155 (F := Ideal) (ix3 0 k 1) + hf * (val_main_v155 (F := Ideal) (ix3 0 k 3) - val_main_v155 (F := Ideal) (ix3 0 k 1) + 1 : EReal) : EReal)) (im (ix2 b 0)) = _
    rw [height_at, centre_y_at, d, d]
    rfl
  · pointwise [val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v208, val_main_v209, val_main_v210, val_main_v211, val_main_v212, val_main_v213, val_main_v214, val_main_v215, val_main_v216, val_main_v217, val_main_v218, val_main_v219, val_main_v220, val_main_v221, val_main_v222, val_main_v223, val_main_v224, val_main_v225, val_main_v226, val_main_v227, val_main_v228, val_main_v229, val_main_v230, val_main_v231, val_main_v232, val_main_v233, val_main_v234, val_main_v235, val_main_v236, val_main_v237, val_main_v238, val_main_v239, val_main_v240, val_main_v241, val_main_v242, val_main_v243, val_main_v244, val_main_v245, val_main_cst_41, val_main_cst_42, val_main_cst_43, val_main_cst_44, val_main_cst_45, val_main_cst_46, val_main_cst_47, val_main_cst_48, val_main_cst_49, val_main_cst_50, val_main_cst_51, val_main_cst_52, val_main_cst_53, val_main_cst_54, val_main_cst_55, val_main_cst_56, val_main_call2_v0, val_main_call2_v1, val_main_call2_v2, val_main_call2_v3, val_main_call3_v0, val_main_call3_v1, val_main_call3_v2, val_main_call3_v3, val_main_call4_v0, val_main_call4_v1, val_main_call4_v2, val_main_call4_v3, val_main_call5_v0, val_main_call5_v1, val_main_call5_v2, val_main_call5_v3]
    rw [h0]
    show clip (upp (val_main_v89 (F := Ideal) x w bc wh bh (ix3 b k 0)) (val_main_v89 (F := Ideal) x w bc wh bh (ix3 b k 2)) (val_main_v155 (F := Ideal) (ix3 0 k 2) - val_main_v155 (F := Ideal) (ix3 0 k 0) + 1 : EReal)
      (val_main_v155 (F := Ideal) (ix3 0 k 0) + hf * (val_main_v155 (F := Ideal) (ix3 0 k 2) - val_main_v155 (F := Ideal) (ix3 0 k 0) + 1 : EReal) : EReal)) (im (ix2 b 1)) = _
    rw [width_at, centre_x_at, d, d]
    rfl
  · pointwise [val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v208, val_main_v209, val_main_v210, val_main_v211, val_main_v212, val_main_v213, val_main_v214, val_main_v215, val_main_v216, val_main_v217, val_main_v218, val_main_v219, val_main_v220, val_main_v221, val_main_v222, val_main_v223, val_main_v224, val_main_v225, val_main_v226, val_main_v227, val_main_v228, val_main_v229, val_main_v230, val_main_v231, val_main_v232, val_main_v233, val_main_v234, val_main_v235, val_main_v236, val_main_v237, val_main_v238, val_main_v239, val_main_v240, val_main_v241, val_main_v242, val_main_v243, val_main_v244, val_main_v245, val_main_cst_41, val_main_cst_42, val_main_cst_43, val_main_cst_44, val_main_cst_45, val_main_cst_46, val_main_cst_47, val_main_cst_48, val_main_cst_49, val_main_cst_50, val_main_cst_51, val_main_cst_52, val_main_cst_53, val_main_cst_54, val_main_cst_55, val_main_cst_56, val_main_call2_v0, val_main_call2_v1, val_main_call2_v2, val_main_call2_v3, val_main_call3_v0, val_main_call3_v1, val_main_call3_v2, val_main_call3_v3, val_main_call4_v0, val_main_call4_v1, val_main_call4_v2, val_main_call4_v3, val_main_call5_v0, val_main_call5_v1, val_main_call5_v2, val_main_call5_v3]
    rw [h0]
    show clip (upp (val_main_v89 (F := Ideal) x w bc wh bh (ix3 b k 1)) (val_main_v89 (F := Ideal) x w bc wh bh (ix3 b k 3)) (val_main_v155 (F := Ideal) (ix3 0 k 3) - val_main_v155 (F := Ideal) (ix3 0 k 1) + 1 : EReal)
      (val_main_v155 (F := Ideal) (ix3 0 k 1) + hf * (val_main_v155 (F := Ideal) (ix3 0 k 3) - val_main_v155 (F := Ideal) (ix3 0 k 1) + 1 : EReal) : EReal)) (im (ix2 b 0)) = _
    rw [height_at, centre_y_at, d, d]
    rfl

end Cert.ReferenceIdeal.At

end
-- ==== Proof.Algebraic.lean ====
/-
  The two programs, read over the extended reals, end with the same scores and the same boxes.
-/
module

public import proofs.«01_k».proof.Defs
public import proofs.«01_k».proof.Proof.Equate
public import proofs.«01_k».proof.Proof.Terms
public import proofs.«01_k».proof.Proof.RefBox
public import proofs.«01_k».proof.Proof.Gen.KernelIdeal.Frame
public import proofs.«01_k».proof.Proof.Gen.ReferenceIdeal.Run
public import proofs.«01_k».proof.Proof.Gen.ReferenceIdeal.Read
public import Idealize.ShloMosaic.Lib.Claim

@[expose] public section

set_option maxRecDepth 16384

noncomputable section

namespace Cert.KernelIdeal.At

open Cert.KernelIdeal Cert.KernelIdeal.Gen Idealize.ShloMosaic Idealize.ShloMosaic.TcCoe Idealize.SL.Sem Cert.Spec

variable (m : (ℓ : Loc nD τ sig) → Buf (Elt Ideal) ℓ)

/-- The scores, from the arguments. -/
def endS (c : Dev nD) : FVec Ideal S2x22500 .f32 :=
  tailS (G7 (m (c, Proc.devRef .tc main_arg0)) (m (c, Proc.devRef .tc main_arg4)) (m (c, Proc.devRef .tc main_arg5))
    (m (c, Proc.devRef .tc main_arg6)) (m (c, Proc.devRef .tc main_arg7)))

/-- The boxes, from the arguments. -/
def endB (c : Dev nD) : FVec Ideal S2x22500x4 .f32 :=
  tailB (G8 (m (c, Proc.devRef .tc main_arg0)) (m (c, Proc.devRef .tc main_arg4)) (m (c, Proc.devRef .tc main_arg5))
    (m (c, Proc.devRef .tc main_arg8)) (m (c, Proc.devRef .tc main_arg9)) (m (c, Proc.devRef .tc main_arg1)) tbl)

theorem arr7 (c : Dev nD) : tailS ((dats m 0 c).arrAt 7 cfg0.N) = endS m c :=
  congrArg tailS (final7 m c (v10_term m c) (v47_term m c) (v68_term m c) (v58_term m c) (v67_term m c))

theorem arr8 (c : Dev nD) : tailB ((dats m 0 c).arrAt 8 cfg0.N) = endB m c := by
  refine congrArg tailB ?_
  refine (final8 m c (v10_term m c) (v47_term m c) (v68_term m c) (v58_term m c) (v67_term m c) (v69_term m c)).trans ?_
  rw [cst_term]
  rfl

theorem ends (g : Dev nD → PrngReg) : θ_run defs (onTc (τ := τ) (main (F := Ideal))) ⟨m, fun _ => 0, g⟩ (fun r => ∀ c : Dev nD,
    r.2.mem ((c.tc : Thread nD τ).loc main_v100) = endS m c ∧ r.2.mem ((c.tc : Thread nD τ).loc main_v101) = endB m c) := by
  refine (θ_run defs _ _).mono (fun r h c => ⟨?_, ?_⟩) (run_main m g)
  · exact (h.rest_eq c main_v100 (by decide)).trans ((end_scores m c).trans (arr7 m c))
  · exact (h.rest_eq c main_v101 (by decide)).trans ((end_boxes m c).trans (arr8 m c))

end Cert.KernelIdeal.At

namespace Cert.Proof

open Idealize.ShloMosaic Idealize.ShloMosaic.TcCoe Idealize.SL.Sem Cert.Spec

theorem same_scores (x : Feat) (w : ConvW) (bc : Bias 512) (wc : HeadW 18) (bs : Bias 18) :
    Cert.ReferenceIdeal.Read.val_main_v87 (F := Ideal) x w bc wc bs = Cert.KernelIdeal.At.tailS (Cert.KernelIdeal.At.G7 x w bc wc bs) := by
  funext i
  obtain ⟨b, k, rfl⟩ : ∃ (b : Fin 2) (k : Fin 22500), i = ix2 b k := ⟨i 0, i 1, by funext a; fin_cases a <;> rfl⟩
  rw [Cert.ReferenceIdeal.At.scores_at, Cert.KernelIdeal.At.scores_eq]

theorem same_boxes (x : Feat) (im : Info) (w : ConvW) (bc : Bias 512) (wb : HeadW 36) (bb : Bias 36) :
    Cert.ReferenceIdeal.Read.val_main_v245 (F := Ideal) x im w bc wb bb
      = Cert.KernelIdeal.At.tailB (Cert.KernelIdeal.At.G8 x w bc wb bb im Cert.KernelIdeal.At.tbl) := by
  funext i
  obtain ⟨b, k, q, rfl⟩ : ∃ (b : Fin 2) (k : Fin 22500) (q : Fin 4), i = ix3 b k q := ⟨i 0, i 1, i 2, by funext a; fin_cases a <;> rfl⟩
  rw [Cert.ReferenceIdeal.At.boxes_at, Cert.KernelIdeal.At.boxes_eq]

/-- The value claim. -/
theorem algebraic : Cert.algebraic_KernelIdeal_ReferenceIdeal
    (hKernelIdeal := Cert.KernelIdeal.Gen.facts) (hReferenceIdeal := Cert.ReferenceIdeal.Gen.facts) := by
  intro m g m' g' _ hagree
  refine ⟨Cert.KernelIdeal.At.endS m, Cert.KernelIdeal.At.endB m, ?_, ?_⟩
  · refine (θ_run Cert.KernelIdeal.defs _ _).mono (fun r h c => ?_)
      (θ_run_and (Cert.KernelIdeal.At.ends m g) (Cert.KernelIdeal.Gen.unchanged m g))
    exact ⟨(h.1 c).1, (h.1 c).2, h.2 c⟩
  · refine (θ_run Cert.ReferenceIdeal.defs _ _).mono (fun r h c => ?_) (Cert.ReferenceIdeal.Value.run m' g')
    obtain ⟨e0, e1, -, -, e4, e5, e6, e7, e8, e9⟩ := hagree c
    refine ⟨(h c).1.trans ?_, (h c).2.1.trans ?_, (h c).2.2⟩
    · refine (Cert.ReferenceIdeal.Read.val_main_v87_eq _).trans ?_
      refine (same_scores _ _ _ _ _).trans ?_
      unfold Cert.KernelIdeal.At.endS
      exact congrArg Cert.KernelIdeal.At.tailS (congr (congr (congr (congr (congrArg Cert.KernelIdeal.At.G7 e0) e4) e5) e6) e7)
    · refine (Cert.ReferenceIdeal.Read.val_main_v245_eq _).trans ?_
      refine (same_boxes _ _ _ _ _ _).trans ?_
      unfold Cert.KernelIdeal.At.endB
      exact congrArg Cert.KernelIdeal.At.tailB (congrFun (congr (congr (congr (congr (congr (congrArg Cert.KernelIdeal.At.G8 e0) e4) e5) e8) e9) e1) _)

end Cert.Proof

end
-- ==== Proof.Nms.Launch.lean ====
/-
  The suppression kernel's launch: its windows, its host lines before and after the region, and its staging buffers.
-/
module

public import proofs.«01_k».proof.Proof.Gen.Kernel2Ideal
public import proofs.«01_k».proof.Proof.Gen.Kernel2Ideal.Skeleton
public import Idealize.ShloMosaic.Lib.Pipeline.Kit
public import Idealize.ShloMosaic.Lib.Pipeline.Regions
public import Idealize.ShloMosaic.Lib.Pipeline.FrameBody
public import Idealize.ShloMosaic.Lib.Pipeline.FrameSuffix
public import Idealize.ShloMosaic.Lib.Tactic
public import Idealize.ShloMosaic.PureOps.Ideal.Laws
public import Idealize.ShloMosaic.Lib.Pipeline.ValueKit

@[expose] public section

set_option maxRecDepth 8192

noncomputable section

namespace Cert.Kernel2Ideal.At

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

abbrev cfgI := cfg0 (F := Ideal)

local notation "𝕄" => MT nD τ sig Unit (Elt Ideal) ℕ (UR sig nD τ) ℕ

abbrev semTab : Fin 1 → List (DmaSem sig) :=
  fun | 0 => Pipeline.specSems spec0 | ⟨_ + 1, h⟩ => absurd h (Nat.not_lt.2 (Nat.le_add_left _ _))
theorem sems_distinct : ∀ p : Fin 1, (semTab p).Nodup := by decide
theorem sems_disjoint : ∀ p p' : Fin 1, p ≠ p' → (semTab p).Forall (· ∉ semTab p') := by decide
theorem cell_inj : Function.Injective (Pipeline.cellOf (nD := nD) (τ := τ) (cfgs (F := Ideal))) :=
  Pipeline.cellOf_injective_of_table (cfgs (F := Ideal)) semTab (fun | 0 => rfl | ⟨_ + 1, h⟩ => absurd h (Nat.not_lt.2 (Nat.le_add_left _ _))) sems_distinct sems_disjoint

theorem win_facts : Pipeline.WinFacts spec0 := by decide
theorem block_pos : ∀ w : Fin 9, 0 < (spec0 w).block.numel := by decide
theorem arr_whole : ∀ w : Fin 9, (spec0 w).arr.IsWhole :=
  fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | 8 => Memref.isWhole_whole _
theorem stage_whole : ∀ (w : Fin 9) (s : Fin (spec0 w).nbuf), ((spec0 w).stage s).IsWhole :=
  fun | 0 => fun s => hstage0_0 (s.cast nbuf0_0) | 1 => fun s => hstage0_1 (s.cast nbuf0_1) | 2 => fun s => hstage0_2 (s.cast nbuf0_2) | 3 => fun s => hstage0_3 (s.cast nbuf0_3) | 4 => fun s => hstage0_4 (s.cast nbuf0_4) | 5 => fun s => hstage0_5 (s.cast nbuf0_5) | 6 => fun s => hstage0_6 (s.cast nbuf0_6) | 7 => fun s => hstage0_7 (s.cast nbuf0_7) | 8 => fun s => hstage0_8 (s.cast nbuf0_8)
theorem launch : Pipeline.LaunchFacts (nD := nD) (τ := τ) (cfgs (F := Ideal)) 0 := ⟨cell_inj, win_facts, block_pos, arr_whole, stage_whole⟩

theorem points : grid0.N = 2 := by decide

theorem sep_windows {M : Type} [URA M] (Φ : Fin 9 → sProp M) : bigSep Finset.univ Φ = iprop(Φ (0 : Fin 9) ∗ Φ (1 : Fin 9) ∗ Φ (2 : Fin 9) ∗ Φ (3 : Fin 9) ∗ Φ (4 : Fin 9) ∗ Φ (5 : Fin 9) ∗ Φ (6 : Fin 9) ∗ Φ (7 : Fin 9) ∗ Φ (8 : Fin 9)) :=
  bigSep_univ_eq_bigSepL [(0 : Fin 9), (1 : Fin 9), (2 : Fin 9), (3 : Fin 9), (4 : Fin 9), (5 : Fin 9), (6 : Fin 9), (7 : Fin 9), (8 : Fin 9)] (by decide) (by decide) Φ
theorem scoped_rest {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop((∃ f : Buf Val ((c : Thread nD τ).loc cc0_scratch0), ((c : Thread nD τ).loc cc0_scratch0) ↦{fullShare} f)) :=
  Pipeline.scopedRest_eq_of_list spec0 c [cc0_scratch0] (by decide) (by decide)

/-! ## The host lines -/

def h0 : List (HloOp τ sig (Elt Ideal)) :=
  [ StableHlo.nullary main_c (constantI S_ 32 0#32) ]
theorem h0_sub : h0.Forall fun op => op.bufs ⊆ StableHlo.tcRefs τ sig :=
  StableHlo.nullary_bufs_sub ..
theorem h0_fresh : h0.Forall fun op => op.fresh = ∅ := by
  simp only [h0, List.Forall]; repeat' constructor
def h0_W : List (Ref sig .tc) := [main_c]
theorem h0_writes : h0.Forall fun op => op.writes ⊆ (h0_W.map (Proc.devRef (τ := τ) .tc)).toFinset :=
  StableHlo.forall_writes_sub_of_map rfl
def h1 : List (HloOp τ sig (Elt Ideal)) :=
  [ StableHlo.TRef.unary (.of main_c : StableHlo.TRef sig ⟨S_, .i32⟩) (.of main_call0_v0 : StableHlo.TRef sig ⟨S_, .f32⟩) (sitofp (F := Ideal) .f32),
    StableHlo.TRef.binary (.of main_arg0 : StableHlo.TRef sig ⟨S2x6000x4, .f32⟩) (.of main_call0_v0 : StableHlo.TRef sig ⟨S_, .f32⟩) (.of main_v0 : StableHlo.TRef sig ⟨S2x6016x4, .f32⟩) (fun x v => pad S2x6016x4 ![0, 0, 0] ![0, 16, 0] ![0, 0, 0] x v pads_S2x6000x4_S2x6016x4_000_0160_000 h_S_) ]
theorem h1_sub : h1.Forall fun op => op.bufs ⊆ StableHlo.tcRefs τ sig :=
  ⟨StableHlo.unary_bufs_sub .., StableHlo.binary_bufs_sub ..⟩
theorem h1_fresh : h1.Forall fun op => op.fresh = ∅ := by
  simp only [h1, List.Forall]; repeat' constructor
def h1_W : List (Ref sig .tc) := [main_call0_v0, main_v0]
theorem h1_writes : h1.Forall fun op => op.writes ⊆ (h1_W.map (Proc.devRef (τ := τ) .tc)).toFinset :=
  StableHlo.forall_writes_sub_of_map rfl
def h2 : List (HloOp τ sig (Elt Ideal)) :=
  [ StableHlo.unary main_v0 main_v1 ((extractStridedSlice S2x6016x1 ![0, 0, 0] · slices_S2x6016x4_S2x6016x1_0_0_0) : (⟨S2x6016x4, .f32⟩ : BufTy).Contents (Elt Ideal) → (⟨S2x6016x1, .f32⟩ : BufTy).Contents (Elt Ideal)),
    StableHlo.unary main_v0 main_v2 ((extractStridedSlice S2x6016x1 ![0, 0, 1] · slices_S2x6016x4_S2x6016x1_0_0_1) : (⟨S2x6016x4, .f32⟩ : BufTy).Contents (Elt Ideal) → (⟨S2x6016x1, .f32⟩ : BufTy).Contents (Elt Ideal)),
    StableHlo.unary main_v0 main_v3 ((extractStridedSlice S2x6016x1 ![0, 0, 2] · slices_S2x6016x4_S2x6016x1_0_0_2) : (⟨S2x6016x4, .f32⟩ : BufTy).Contents (Elt Ideal) → (⟨S2x6016x1, .f32⟩ : BufTy).Contents (Elt Ideal)),
    StableHlo.unary main_v0 main_v4 ((extractStridedSlice S2x6016x1 ![0, 0, 3] · slices_S2x6016x4_S2x6016x1_0_0_3) : (⟨S2x6016x4, .f32⟩ : BufTy).Contents (Elt Ideal) → (⟨S2x6016x1, .f32⟩ : BufTy).Contents (Elt Ideal)),
    StableHlo.reshape main_v0 main_v5 (rfl : (.f32 : EltTy) = .f32) shapeCasts_S2x6016x4_S2x47x128x4,
    StableHlo.unary main_v5 main_v6 ((extractStridedSlice S2x47x128x1 ![0, 0, 0, 0] · slices_S2x47x128x4_S2x47x128x1_0_0_0_0) : (⟨S2x47x128x4, .f32⟩ : BufTy).Contents (Elt Ideal) → (⟨S2x47x128x1, .f32⟩ : BufTy).Contents (Elt Ideal)),
    StableHlo.reshape main_v6 main_v7 (rfl : (.f32 : EltTy) = .f32) shapeCasts_S2x47x128x1_S2x47x128,
    StableHlo.unary main_v5 main_v8 ((extractStridedSlice S2x47x128x1 ![0, 0, 0, 1] · slices_S2x47x128x4_S2x47x128x1_0_0_0_1) : (⟨S2x47x128x4, .f32⟩ : BufTy).Contents (Elt Ideal) → (⟨S2x47x128x1, .f32⟩ : BufTy).Contents (Elt Ideal)),
    StableHlo.reshape main_v8 main_v9 (rfl : (.f32 : EltTy) = .f32) shapeCasts_S2x47x128x1_S2x47x128,
    StableHlo.unary main_v5 main_v10 ((extractStridedSlice S2x47x128x1 ![0, 0, 0, 2] · slices_S2x47x128x4_S2x47x128x1_0_0_0_2) : (⟨S2x47x128x4, .f32⟩ : BufTy).Contents (Elt Ideal) → (⟨S2x47x128x1, .f32⟩ : BufTy).Contents (Elt Ideal)),
    StableHlo.reshape main_v10 main_v11 (rfl : (.f32 : EltTy) = .f32) shapeCasts_S2x47x128x1_S2x47x128,
    StableHlo.unary main_v5 main_v12 ((extractStridedSlice S2x47x128x1 ![0, 0, 0, 3] · slices_S2x47x128x4_S2x47x128x1_0_0_0_3) : (⟨S2x47x128x4, .f32⟩ : BufTy).Contents (Elt Ideal) → (⟨S2x47x128x1, .f32⟩ : BufTy).Contents (Elt Ideal)),
    StableHlo.reshape main_v12 main_v13 (rfl : (.f32 : EltTy) = .f32) shapeCasts_S2x47x128x1_S2x47x128 ]
theorem h2_sub : h2.Forall fun op => op.bufs ⊆ StableHlo.tcRefs τ sig :=
  ⟨StableHlo.unary_bufs_sub .., StableHlo.unary_bufs_sub .., StableHlo.unary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub ..⟩
theorem h2_fresh : h2.Forall fun op => op.fresh = ∅ := by
  simp only [h2, List.Forall]; repeat' constructor
def h2_W : List (Ref sig .tc) := [main_v1, main_v2, main_v3, main_v4, main_v5, main_v6, main_v7, main_v8, main_v9, main_v10, main_v11, main_v12, main_v13]
theorem h2_writes : h2.Forall fun op => op.writes ⊆ (h2_W.map (Proc.devRef (τ := τ) .tc)).toFinset :=
  StableHlo.forall_writes_sub_of_map rfl
def t0 : List (HloOp τ sig (Elt Ideal)) :=
  [ StableHlo.reshape main_v14 main_v15 (rfl : (.f32 : EltTy) = .f32) shapeCasts_S2x47x128_S2x6016,
    StableHlo.unary main_v15 main_v16 ((extractStridedSlice S1x6016 ![0, 0] · slices_S2x6016_S1x6016_0_0) : (⟨S2x6016, .f32⟩ : BufTy).Contents (Elt Ideal) → (⟨S1x6016, .f32⟩ : BufTy).Contents (Elt Ideal)),
    StableHlo.reshape main_v16 main_v17 (rfl : (.f32 : EltTy) = .f32) shapeCasts_S1x6016_S6016,
    StableHlo.nullary main_cst (constant (F := Ideal) S_ .f32 0x3F000000#32),
    StableHlo.unary main_cst main_v18 (broadcastInDim S6016 ![] bcast_S_S6016 : (⟨S_, .f32⟩ : BufTy).Contents (Elt Ideal) → (⟨S6016, .f32⟩ : BufTy).Contents (Elt Ideal)),
    StableHlo.binary main_v17 main_v18 main_v19 (cmpf (F := Ideal) (φ := .f32) .ogt : (⟨S6016, .f32⟩ : BufTy).Contents (Elt Ideal) → (⟨S6016, .f32⟩ : BufTy).Contents (Elt Ideal) → (⟨S6016, .i1⟩ : BufTy).Contents (Elt Ideal)) ]
theorem t0_sub : t0.Forall fun op => op.bufs ⊆ StableHlo.tcRefs τ sig :=
  ⟨StableHlo.reshape_bufs_sub .., StableHlo.unary_bufs_sub .., StableHlo.reshape_bufs_sub .., StableHlo.nullary_bufs_sub .., StableHlo.unary_bufs_sub .., StableHlo.binary_bufs_sub ..⟩
theorem t0_fresh : t0.Forall fun op => op.fresh = ∅ := by
  simp only [t0, List.Forall]; repeat' constructor
def t0_W : List (Ref sig .tc) := [main_v15, main_v16, main_v17, main_cst, main_v18, main_v19]
theorem t0_writes : t0.Forall fun op => op.writes ⊆ (t0_W.map (Proc.devRef (τ := τ) .tc)).toFinset :=
  StableHlo.forall_writes_sub_of_map rfl
def t1 : List (HloOp τ sig (Elt Ideal)) :=
  [ StableHlo.TRef.unary (.of main_v19 : StableHlo.TRef sig ⟨S6016, .i1⟩) (.of main_call1_v0 : StableHlo.TRef sig ⟨S6016, .i32⟩) (extui 32 · natLt_1_32),
    StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_call1_v0 : StableHlo.TRef sig ⟨S6016, .i32⟩) (.of main_call1_call0_v0 : StableHlo.TRef sig ⟨S_, .i32⟩) (.of main_v20 : StableHlo.TRef sig ⟨S6016, .i32⟩) (fun x v => Host.reduceWindow IntOp.addi ![6016] ![1] ![6015] ![0] x v reduceWindows_S6016_S6016_w6016s1p6015_0 h_S_) ]
theorem t1_sub : t1.Forall fun op => op.bufs ⊆ StableHlo.tcRefs τ sig :=
  ⟨StableHlo.unary_bufs_sub .., StableHlo.nullary_bufs_sub .., StableHlo.unary_bufs_sub .., StableHlo.binary_bufs_sub ..⟩
theorem t1_fresh : t1.Forall fun op => op.fresh = ∅ := by
  simp only [t1, List.Forall]; repeat' constructor
def t1_W : List (Ref sig .tc) := [main_call1_v0, main_call1_call0_c, main_call1_call0_v0, main_v20]
theorem t1_writes : t1.Forall fun op => op.writes ⊆ (t1_W.map (Proc.devRef (τ := τ) .tc)).toFinset :=
  StableHlo.forall_writes_sub_of_map rfl
def t2 : List (HloOp τ sig (Elt Ideal)) :=
  [ StableHlo.nullary main_c_0 (constantI S_ 32 0#32),
    StableHlo.unary main_c_0 main_v21 (broadcastInDim S300 ![] bcast_S_S300 : (⟨S_, .i32⟩ : BufTy).Contents (Elt Ideal) → (⟨S300, .i32⟩ : BufTy).Contents (Elt Ideal)),
    StableHlo.nullary main_c_1 (constantI S_ 32 0#32),
    StableHlo.unary main_c_1 main_v22 (broadcastInDim S6016 ![] bcast_S_S6016 : (⟨S_, .i32⟩ : BufTy).Contents (Elt Ideal) → (⟨S6016, .i32⟩ : BufTy).Contents (Elt Ideal)),
    StableHlo.binary main_v20 main_v22 main_v23 (cmpi .slt : (⟨S6016, .i32⟩ : BufTy).Contents (Elt Ideal) → (⟨S6016, .i32⟩ : BufTy).Contents (Elt Ideal) → (⟨S6016, .i1⟩ : BufTy).Contents (Elt Ideal)),
    StableHlo.nullary main_c_2 (constantI S_ 32 300#32),
    StableHlo.unary main_c_2 main_v24 (broadcastInDim S6016 ![] bcast_S_S6016 : (⟨S_, .i32⟩ : BufTy).Contents (Elt Ideal) → (⟨S6016, .i32⟩ : BufTy).Contents (Elt Ideal)),
    StableHlo.binary main_v20 main_v24 main_v25 (addi : (⟨S6016, .i32⟩ : BufTy).Contents (Elt Ideal) → (⟨S6016, .i32⟩ : BufTy).Contents (Elt Ideal) → (⟨S6016, .i32⟩ : BufTy).Contents (Elt Ideal)),
    StableHlo.ternary main_v23 main_v25 main_v20 main_v26 (select : (⟨S6016, .i1⟩ : BufTy).Contents (Elt Ideal) → (⟨S6016, .i32⟩ : BufTy).Contents (Elt Ideal) → (⟨S6016, .i32⟩ : BufTy).Contents (Elt Ideal) → (⟨S6016, .i32⟩ : BufTy).Contents (Elt Ideal)),
    StableHlo.unary main_v26 main_v27 (broadcastInDim S6016x1 ![0] bcast_S6016_S6016x1_0 : (⟨S6016, .i32⟩ : BufTy).Contents (Elt Ideal) → (⟨S6016x1, .i32⟩ : BufTy).Contents (Elt Ideal)),
    StableHlo.nullary main_c_3 (constantI S_ 32 1#32),
    StableHlo.unary main_c_3 main_v28 (broadcastInDim S6016 ![] bcast_S_S6016 : (⟨S_, .i32⟩ : BufTy).Contents (Elt Ideal) → (⟨S6016, .i32⟩ : BufTy).Contents (Elt Ideal)),
    StableHlo.ternary main_v21 main_v27 main_v28 main_v29 ((fun x i u => Host.scatter scatter_S300_S6016x1_S6016_n_0_0_1 IntOp.addi x i u) : (⟨S300, .i32⟩ : BufTy).Contents (Elt Ideal) → (⟨S6016x1, .i32⟩ : BufTy).Contents (Elt Ideal) → (⟨S6016, .i32⟩ : BufTy).Contents (Elt Ideal) → (⟨S300, .i32⟩ : BufTy).Contents (Elt Ideal)) ]
theorem t2_sub : t2.Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub ..⟩
theorem t2_fresh : t2.Forall fun op => op.fresh = ∅ := by
  simp only [t2, List.Forall]; repeat' constructor
def t2_W : List (Ref sig .tc) := [main_c_0, main_v21, main_c_1, main_v22, main_v23, main_c_2, main_v24, main_v25, main_v26, main_v27, main_c_3, main_v28, main_v29]
theorem t2_writes : t2.Forall fun op => op.writes ⊆ (t2_W.map (Proc.devRef (τ := τ) .tc)).toFinset :=
  StableHlo.forall_writes_sub_of_map rfl
def t3 : List (HloOp τ sig (Elt Ideal)) :=
  [ StableHlo.TRef.nullary (.of main_call2_call0_c : StableHlo.TRef sig ⟨S_, .i32⟩) (constantI S_ 32 0#32),
    StableHlo.TRef.unary (.of main_call2_call0_c : StableHlo.TRef sig ⟨S_, .i32⟩) (.of main_call2_call0_v0 : StableHlo.TRef sig ⟨S_, .i32⟩) (broadcastInDim S_ ![] bcast_S_S_),
    StableHlo.TRef.binary (.of main_v29 : StableHlo.TRef sig ⟨S300, .i32⟩) (.of main_call2_call0_v0 : StableHlo.TRef sig ⟨S_, .i32⟩) (.of main_v30 : StableHlo.TRef sig ⟨S300, .i32⟩) (fun x v => Host.reduceWindow IntOp.addi ![300] ![1] ![299] ![0] x v reduceWindows_S300_S300_w300s1p299_0 h_S_) ]
theorem t3_sub : t3.Forall fun op => op.bufs ⊆ StableHlo.tcRefs τ sig :=
  ⟨StableHlo.nullary_bufs_sub .., StableHlo.unary_bufs_sub .., StableHlo.binary_bufs_sub ..⟩
theorem t3_fresh : t3.Forall fun op => op.fresh = ∅ := by
  simp only [t3, List.Forall]; repeat' constructor
def t3_W : List (Ref sig .tc) := [main_call2_call0_c, main_call2_call0_v0, main_v30]
theorem t3_writes : t3.Forall fun op => op.writes ⊆ (t3_W.map (Proc.devRef (τ := τ) .tc)).toFinset :=
  StableHlo.forall_writes_sub_of_map rfl
def t4 : List (HloOp τ sig (Elt Ideal)) :=
  [ StableHlo.nullary main_c_4 (constantI S_ 32 1#32) ]
theorem t4_sub : t4.Forall fun op => op.bufs ⊆ StableHlo.tcRefs τ sig :=
  StableHlo.nullary_bufs_sub ..
theorem t4_fresh : t4.Forall fun op => op.fresh = ∅ := by
  simp only [t4, List.Forall]; repeat' constructor
def t4_W : List (Ref sig .tc) := [main_c_4]
theorem t4_writes : t4.Forall fun op => op.writes ⊆ (t4_W.map (Proc.devRef (τ := τ) .tc)).toFinset :=
  StableHlo.forall_writes_sub_of_map rfl
def t5 : List (HloOp τ sig (Elt Ideal)) :=
  [ StableHlo.TRef.unary (.of main_c_4 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S300, .i32⟩) (broadcastInDim S300 ![] bcast_S_S300),
    StableHlo.TRef.binary (.of main_v30 : StableHlo.TRef sig ⟨S300, .i32⟩) (.of main_call3_v1 : StableHlo.TRef sig ⟨S300, .i32⟩) (.of main_call3_v2 : StableHlo.TRef sig ⟨S300, .i32⟩) Host.divsi,
    StableHlo.TRef.unary (.of main_v30 : StableHlo.TRef sig ⟨S300, .i32⟩) (.of main_call3_v3 : StableHlo.TRef sig ⟨S300, .i32⟩) signi,
    StableHlo.TRef.unary (.of main_call3_v0 : StableHlo.TRef sig ⟨S_, .i32⟩) (.of main_call3_v4 : StableHlo.TRef sig ⟨S_, .i32⟩) signi,
    StableHlo.TRef.unary (.of main_call3_v4 : StableHlo.TRef sig ⟨S_, .i32⟩) (.of main_call3_v5 : StableHlo.TRef sig ⟨S300, .i32⟩) (broadcastInDim S300 ![] bcast_S_S300),
    StableHlo.TRef.binary (.of main_call3_v3 : StableHlo.TRef sig ⟨S300, .i32⟩) (.of main_call3_v5 : StableHlo.TRef sig ⟨S300, .i32⟩) (.of main_call3_v6 : StableHlo.TRef sig ⟨S300, .i1⟩) (cmpi .ne),
    StableHlo.TRef.unary (.of main_call3_v0 : StableHlo.TRef sig ⟨S_, .i32⟩) (.of main_call3_v7 : StableHlo.TRef sig ⟨S300, .i32⟩) (broadcastInDim S300 ![] bcast_S_S300),
    StableHlo.TRef.binary (.of main_v30 : StableHlo.TRef sig ⟨S300, .i32⟩) (.of main_call3_v7 : StableHlo.TRef sig ⟨S300, .i32⟩) (.of main_call3_v8 : StableHlo.TRef sig ⟨S300, .i32⟩) Host.remsi,
    StableHlo.TRef.nullary (.of main_call3_c : StableHlo.TRef sig ⟨S_, .i32⟩) (constantI S_ 32 0#32),
    StableHlo.TRef.unary (.of main_call3_c : StableHlo.TRef sig ⟨S_, .i32⟩) (.of main_call3_v9 : StableHlo.TRef sig ⟨S300, .i32⟩) (broadcastInDim S300 ![] bcast_S_S300),
    StableHlo.TRef.binary (.of main_call3_v8 : StableHlo.TRef sig ⟨S300, .i32⟩) (.of main_call3_v9 : StableHlo.TRef sig ⟨S300, .i32⟩) (.of main_call3_v10 : StableHlo.TRef sig ⟨S300, .i1⟩) (cmpi .ne),
    StableHlo.TRef.binary (.of main_call3_v6 : StableHlo.TRef sig ⟨S300, .i1⟩) (.of main_call3_v10 : StableHlo.TRef sig ⟨S300, .i1⟩) (.of main_call3_v11 : StableHlo.TRef sig ⟨S300, .i1⟩) andi,
    StableHlo.TRef.nullary (.of main_call3_c_0 : StableHlo.TRef sig ⟨S_, .i32⟩) (constantI S_ 32 1#32),
    StableHlo.TRef.unary (.of main_call3_c_0 : StableHlo.TRef sig ⟨S_, .i32⟩) (.of main_call3_v12 : StableHlo.TRef sig ⟨S300, .i32⟩) (broadcastInDim S300 ![] bcast_S_S300),
    StableHlo.TRef.binary (.of main_call3_v2 : StableHlo.TRef sig ⟨S300, .i32⟩) (.of main_call3_v12 : StableHlo.TRef sig ⟨S300, .i32⟩) (.of main_call3_v13 : StableHlo.TRef sig ⟨S300, .i32⟩) subi,
    StableHlo.TRef.ternary (.of main_call3_v11 : StableHlo.TRef sig ⟨S300, .i1⟩) (.of main_call3_v13 : StableHlo.TRef sig ⟨S300, .i32⟩) (.of main_call3_v2 : StableHlo.TRef sig ⟨S300, .i32⟩) (.of main_v31 : StableHlo.TRef sig ⟨S300, .i32⟩) select ]
theorem t5_sub : t5.Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem t5_fresh : t5.Forall fun op => op.fresh = ∅ := by
  simp only [t5, List.Forall]; repeat' constructor
def t5_W : List (Ref sig .tc) := [main_call3_v0, main_call3_v1, main_call3_v2, main_call3_v3, main_call3_v4, main_call3_v5, main_call3_v6, main_call3_v7, main_call3_v8, main_call3_c, main_call3_v9, main_call3_v10, main_call3_v11, main_call3_c_0, main_call3_v12, main_call3_v13, main_v31]
theorem t5_writes : t5.Forall fun op => op.writes ⊆ (t5_W.map (Proc.devRef (τ := τ) .tc)).toFinset :=
  StableHlo.forall_writes_sub_of_map rfl
def t6 : List (HloOp τ sig (Elt Ideal)) :=
  [ StableHlo.nullary main_c_5 (constantI S_ 32 6016#32) ]
theorem t6_sub : t6.Forall fun op => op.bufs ⊆ StableHlo.tcRefs τ sig :=
  StableHlo.nullary_bufs_sub ..
theorem t6_fresh : t6.Forall fun op => op.fresh = ∅ := by
  simp only [t6, List.Forall]; repeat' constructor
def t6_W : List (Ref sig .tc) := [main_c_5]
theorem t6_writes : t6.Forall fun op => op.writes ⊆ (t6_W.map (Proc.devRef (τ := τ) .tc)).toFinset :=
  StableHlo.forall_writes_sub_of_map rfl
def t7 : List (HloOp τ sig (Elt Ideal)) :=
  [ StableHlo.TRef.unary (.of main_c_5 : StableHlo.TRef sig ⟨S_, .i32⟩) (.of main_call4_v0 : StableHlo.TRef sig ⟨S_, .i32⟩) id,
    StableHlo.TRef.nullary (.of main_call4_c : StableHlo.TRef sig ⟨S_, .i32⟩) (constantI S_ 32 0#32),
    StableHlo.TRef.binary (.of main_call4_v0 : StableHlo.TRef sig ⟨S_, .i32⟩) (.of main_call4_c : StableHlo.TRef sig ⟨S_, .i32⟩) (.of main_call4_v1 : StableHlo.TRef sig ⟨S_, .i1⟩) (cmpi .eq),
    StableHlo.TRef.nullary (.of main_call4_c_0 : StableHlo.TRef sig ⟨S_, .i32⟩) (constantI S_ 32 1#32),
    StableHlo.TRef.ternary (.of main_call4_v1 : StableHlo.TRef sig ⟨S_, .i1⟩) (.of main_call4_c_0 : StableHlo.TRef sig ⟨S_, .i32⟩) (.of main_call4_v0 : StableHlo.TRef sig ⟨S_, .i32⟩) (.of main_call4_v2 : StableHlo.TRef sig ⟨S_, .i32⟩) select,
    StableHlo.TRef.unary (.of main_call4_v2 : StableHlo.TRef sig ⟨S_, .i32⟩) (.of main_call4_v3 : StableHlo.TRef sig ⟨S300, .i32⟩) (broadcastInDim S300 ![] bcast_S_S300),
    StableHlo.TRef.binary (.of main_v31 : StableHlo.TRef sig ⟨S300, .i32⟩) (.of main_call4_v3 : StableHlo.TRef sig ⟨S300, .i32⟩) (.of main_call4_v4 : StableHlo.TRef sig ⟨S300, .i32⟩) Host.remsi,
    StableHlo.TRef.nullary (.of main_call4_c_1 : StableHlo.TRef sig ⟨S_, .i32⟩) (constantI S_ 32 0#32),
    StableHlo.TRef.unary (.of main_call4_c_1 : StableHlo.TRef sig ⟨S_, .i32⟩) (.of main_call4_v5 : StableHlo.TRef sig ⟨S300, .i32⟩) (broadcastInDim S300 ![] bcast_S_S300),
    StableHlo.TRef.binary (.of main_call4_v4 : StableHlo.TRef sig ⟨S300, .i32⟩) (.of main_call4_v5 : StableHlo.TRef sig ⟨S300, .i32⟩) (.of main_call4_v6 : StableHlo.TRef sig ⟨S300, .i1⟩) (cmpi .ne),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v7 : StableHlo.TRef sig ⟨S300, .i32⟩) (broadcastInDim S300 ![] bcast_S_S300),
    StableHlo.TRef.binary (.of main_call4_v4 : StableHlo.TRef sig ⟨S300, .i32⟩) (.of main_call4_v7 : StableHlo.TRef sig ⟨S300, .i32⟩) (.of main_call4_v8 : StableHlo.TRef sig ⟨S300, .i1⟩) (cmpi .slt),
    StableHlo.TRef.nullary (.of main_call4_c_3 : StableHlo.TRef sig ⟨S_, .i32⟩) (constantI S_ 32 0#32),
    StableHlo.TRef.binary (.of main_call4_v2 : StableHlo.TRef sig ⟨S_, .i32⟩) (.of main_call4_c_3 : StableHlo.TRef sig ⟨S_, .i32⟩) (.of main_call4_v9 : StableHlo.TRef sig ⟨S_, .i1⟩) (cmpi .slt),
    StableHlo.TRef.unary (.of main_call4_v9 : StableHlo.TRef sig ⟨S_, .i1⟩) (.of main_call4_v10 : StableHlo.TRef sig ⟨S300, .i1⟩) (broadcastInDim S300 ![] bcast_S_S300),
    StableHlo.TRef.binary (.of main_call4_v8 : StableHlo.TRef sig ⟨S300, .i1⟩) (.of main_call4_v10 : StableHlo.TRef sig ⟨S300, .i1⟩) (.of main_call4_v11 : StableHlo.TRef sig ⟨S300, .i1⟩) (cmpi .ne),
    StableHlo.TRef.binary (.of main_call4_v11 : StableHlo.TRef sig ⟨S300, .i1⟩) (.of main_call4_v6 : StableHlo.TRef sig ⟨S300, .i1⟩) (.of main_call4_v12 : StableHlo.TRef sig ⟨S300, .i1⟩) andi,
    StableHlo.TRef.unary (.of main_call4_v2 : StableHlo.TRef sig ⟨S_, .i32⟩) (.of main_call4_v13 : StableHlo.TRef sig ⟨S300, .i32⟩) (broadcastInDim S300 ![] bcast_S_S300),
    StableHlo.TRef.binary (.of main_call4_v4 : StableHlo.TRef sig ⟨S300, .i32⟩) (.of main_call4_v13 : StableHlo.TRef sig ⟨S300, .i32⟩) (.of main_call4_v14 : StableHlo.TRef sig ⟨S300, .i32⟩) addi,
    StableHlo.TRef.ternary (.of main_call4_v12 : StableHlo.TRef sig ⟨S300, .i1⟩) (.of main_call4_v14 : StableHlo.TRef sig ⟨S300, .i32⟩) (.of main_call4_v4 : StableHlo.TRef sig ⟨S300, .i32⟩) (.of main_v32 : StableHlo.TRef sig ⟨S300, .i32⟩) select ]
theorem t7_sub : t7.Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
theorem t7_fresh : t7.Forall fun op => op.fresh = ∅ := by
  simp only [t7, List.Forall]; repeat' constructor
def t7_W : List (Ref sig .tc) := [main_call4_v0, main_call4_c, main_call4_v1, main_call4_c_0, main_call4_v2, main_call4_v3, main_call4_v4, main_call4_c_1, main_call4_v5, main_call4_v6, main_call4_c_2, main_call4_v7, main_call4_v8, main_call4_c_3, main_call4_v9, main_call4_v10, main_call4_v11, main_call4_v12, main_call4_v13, main_call4_v14, main_v32]
theorem t7_writes : t7.Forall fun op => op.writes ⊆ (t7_W.map (Proc.devRef (τ := τ) .tc)).toFinset :=
  StableHlo.forall_writes_sub_of_map rfl
def t8 : List (HloOp τ sig (Elt Ideal)) :=
  [ StableHlo.unary main_v19 main_v33 ((extui 32 · natLt_1_32) : (⟨S6016, .i1⟩ : BufTy).Contents (Elt Ideal) → (⟨S6016, .i32⟩ : BufTy).Contents (Elt Ideal)),
    StableHlo.nullary main_c_6 (constantI S_ 32 0#32),
    StableHlo.binary main_v33 main_c_6 main_v34 ((fun x v => Host.reduce IntOp.addi x v reducesTo_S6016_S_d0 h_S_) : (⟨S6016, .i32⟩ : BufTy).Contents (Elt Ideal) → (⟨S_, .i32⟩ : BufTy).Contents (Elt Ideal) → (⟨S_, .i32⟩ : BufTy).Contents (Elt Ideal)),
    StableHlo.unary main_v34 main_v35 (broadcastInDim S1 ![] bcast_S_S1 : (⟨S_, .i32⟩ : BufTy).Contents (Elt Ideal) → (⟨S1, .i32⟩ : BufTy).Contents (Elt Ideal)),
    StableHlo.nullary main_v36 (iotaInDim S300 32 0),
    StableHlo.unary main_v35 main_v37 (broadcastInDim S300 ![0] bcast_S1_S300_0 : (⟨S1, .i32⟩ : BufTy).Contents (Elt Ideal) → (⟨S300, .i32⟩ : BufTy).Contents (Elt Ideal)),
    StableHlo.binary main_v36 main_v37 main_v38 (cmpi .sge : (⟨S300, .i32⟩ : BufTy).Contents (Elt Ideal) → (⟨S300, .i32⟩ : BufTy).Contents (Elt Ideal) → (⟨S300, .i1⟩ : BufTy).Contents (Elt Ideal)),
    StableHlo.nullary main_c_7 (constantI S_ 32 0#32),
    StableHlo.unary main_c_7 main_v39 (broadcastInDim S1 ![] bcast_S_S1 : (⟨S_, .i32⟩ : BufTy).Contents (Elt Ideal) → (⟨S1, .i32⟩ : BufTy).Contents (Elt Ideal)) ]
theorem t8_sub : t8.Forall fun op => op.bufs ⊆ StableHlo.tcRefs τ sig :=
  ⟨StableHlo.unary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub ..⟩
theorem t8_fresh : t8.Forall fun op => op.fresh = ∅ := by
  simp only [t8, List.Forall]; repeat' constructor
def t8_W : List (Ref sig .tc) := [main_v33, main_c_6, main_v34, main_v35, main_v36, main_v37, main_v38, main_c_7, main_v39]
theorem t8_writes : t8.Forall fun op => op.writes ⊆ (t8_W.map (Proc.devRef (τ := τ) .tc)).toFinset :=
  StableHlo.forall_writes_sub_of_map rfl
def t9 : List (HloOp τ sig (Elt Ideal)) :=
  [ StableHlo.TRef.unary (.of main_v39 : StableHlo.TRef sig ⟨S1, .i32⟩) (.of main_call5_v0 : StableHlo.TRef sig ⟨S300, .i32⟩) (broadcastInDim S300 ![0] bcast_S1_S300_0),
    StableHlo.TRef.ternary (.of main_v38 : StableHlo.TRef sig ⟨S300, .i1⟩) (.of main_call5_v0 : StableHlo.TRef sig ⟨S300, .i32⟩) (.of main_v32 : StableHlo.TRef sig ⟨S300, .i32⟩) (.of main_v40 : StableHlo.TRef sig ⟨S300, .i32⟩) select ]
theorem t9_sub : t9.Forall fun op => op.bufs ⊆ StableHlo.tcRefs τ sig :=
  ⟨StableHlo.unary_bufs_sub .., StableHlo.ternary_bufs_sub ..⟩
theorem t9_fresh : t9.Forall fun op => op.fresh = ∅ := by
  simp only [t9, List.Forall]; repeat' constructor
def t9_W : List (Ref sig .tc) := [main_call5_v0, main_v40]
theorem t9_writes : t9.Forall fun op => op.writes ⊆ (t9_W.map (Proc.devRef (τ := τ) .tc)).toFinset :=
  StableHlo.forall_writes_sub_of_map rfl
def t10 : List (HloOp τ sig (Elt Ideal)) :=
  [ StableHlo.unary main_arg0 main_v41 ((extractStridedSlice S1x6000x4 ![0, 0, 0] · slices_S2x6000x4_S1x6000x4_0_0_0) : (⟨S2x6000x4, .f32⟩ : BufTy).Contents (Elt Ideal) → (⟨S1x6000x4, .f32⟩ : BufTy).Contents (Elt Ideal)),
    StableHlo.reshape main_v41 main_v42 (rfl : (.f32 : EltTy) = .f32) shapeCasts_S1x6000x4_S6000x4,
    StableHlo.nullary main_c_8 (constantI S_ 32 0#32),
    StableHlo.unary main_c_8 main_v43 (broadcastInDim S300 ![] bcast_S_S300 : (⟨S_, .i32⟩ : BufTy).Contents (Elt Ideal) → (⟨S300, .i32⟩ : BufTy).Contents (Elt Ideal)),
    StableHlo.binary main_v40 main_v43 main_v44 (cmpi .slt : (⟨S300, .i32⟩ : BufTy).Contents (Elt Ideal) → (⟨S300, .i32⟩ : BufTy).Contents (Elt Ideal) → (⟨S300, .i1⟩ : BufTy).Contents (Elt Ideal)),
    StableHlo.nullary main_c_9 (constantI S_ 32 6000#32),
    StableHlo.unary main_c_9 main_v45 (broadcastInDim S300 ![] bcast_S_S300 : (⟨S_, .i32⟩ : BufTy).Contents (Elt Ideal) → (⟨S300, .i32⟩ : BufTy).Contents (Elt Ideal)),
    StableHlo.binary main_v40 main_v45 main_v46 (addi : (⟨S300, .i32⟩ : BufTy).Contents (Elt Ideal) → (⟨S300, .i32⟩ : BufTy).Contents (Elt Ideal) → (⟨S300, .i32⟩ : BufTy).Contents (Elt Ideal)),
    StableHlo.ternary main_v44 main_v46 main_v40 main_v47 (select : (⟨S300, .i1⟩ : BufTy).Contents (Elt Ideal) → (⟨S300, .i32⟩ : BufTy).Contents (Elt Ideal) → (⟨S300, .i32⟩ : BufTy).Contents (Elt Ideal) → (⟨S300, .i32⟩ : BufTy).Contents (Elt Ideal)) ]
theorem t10_sub : t10.Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩
theorem t10_fresh : t10.Forall fun op => op.fresh = ∅ := by
  simp only [t10, List.Forall]; repeat' constructor
def t10_W : List (Ref sig .tc) := [main_v41, main_v42, main_c_8, main_v43, main_v44, main_c_9, main_v45, main_v46, main_v47]
theorem t10_writes : t10.Forall fun op => op.writes ⊆ (t10_W.map (Proc.devRef (τ := τ) .tc)).toFinset :=
  StableHlo.forall_writes_sub_of_map rfl
def t11 : List (HloOp τ sig (Elt Ideal)) :=
  [ StableHlo.unary main_v47 main_v48 (broadcastInDim S300x1 ![0] bcast_S300_S300x1_0 : (⟨S300, .i32⟩ : BufTy).Contents (Elt Ideal) → (⟨S300x1, .i32⟩ : BufTy).Contents (Elt Ideal)),
    StableHlo.binary main_v42 main_v48 main_v49 ((fun x i => Host.gather gather_S6000x4_S300x1_S300x4_1_0_n_n_0_1_14 x i) : (⟨S6000x4, .f32⟩ : BufTy).Contents (Elt Ideal) → (⟨S300x1, .i32⟩ : BufTy).Contents (Elt Ideal) → (⟨S300x4, .f32⟩ : BufTy).Contents (Elt Ideal)),
    StableHlo.nullary main_cst_10 (constant (F := Ideal) S_ .f32 0x00000000#32),
    StableHlo.unary main_cst_10 main_v50 (broadcastInDim S300x1 ![] bcast_S_S300x1 : (⟨S_, .f32⟩ : BufTy).Contents (Elt Ideal) → (⟨S300x1, .f32⟩ : BufTy).Contents (Elt Ideal)) ]
theorem t11_sub : t11.Forall fun op => op.bufs ⊆ StableHlo.tcRefs τ sig :=
  ⟨StableHlo.unary_bufs_sub .., StableHlo.binary_bufs_sub .., StableHlo.nullary_bufs_sub .., StableHlo.unary_bufs_sub ..⟩
theorem t11_fresh : t11.Forall fun op => op.fresh = ∅ := by
  simp only [t11, List.Forall]; repeat' constructor
def t11_W : List (Ref sig .tc) := [main_v48, main_v49, main_cst_10, main_v50]
theorem t11_writes : t11.Forall fun op => op.writes ⊆ (t11_W.map (Proc.devRef (τ := τ) .tc)).toFinset :=
  StableHlo.forall_writes_sub_of_map rfl
def t12 : List (HloOp τ sig (Elt Ideal)) :=
  [ StableHlo.binary main_v50 main_v49 main_v51 ((fun a b => concatenate S300x5 1 [⟨S300x1, a⟩, ⟨S300x4, b⟩] concatenates_S300x1_S300x4_S300x5_d1) : (⟨S300x1, .f32⟩ : BufTy).Contents (Elt Ideal) → (⟨S300x4, .f32⟩ : BufTy).Contents (Elt Ideal) → (⟨S300x5, .f32⟩ : BufTy).Contents (Elt Ideal)) ]
theorem t12_sub : t12.Forall fun op => op.bufs ⊆ StableHlo.tcRefs τ sig :=
  StableHlo.binary_bufs_sub ..
theorem t12_fresh : t12.Forall fun op => op.fresh = ∅ := by
  simp only [t12, List.Forall]; repeat' constructor
def t12_W : List (Ref sig .tc) := [main_v51]
theorem t12_writes : t12.Forall fun op => op.writes ⊆ (t12_W.map (Proc.devRef (τ := τ) .tc)).toFinset :=
  StableHlo.forall_writes_sub_of_map rfl
def t13 : List (HloOp τ sig (Elt Ideal)) :=
  [ StableHlo.unary main_v15 main_v52 ((extractStridedSlice S1x6016 ![1, 0] · slices_S2x6016_S1x6016_1_0) : (⟨S2x6016, .f32⟩ : BufTy).Contents (Elt Ideal) → (⟨S1x6016, .f32⟩ : BufTy).Contents (Elt Ideal)),
    StableHlo.reshape main_v52 main_v53 (rfl : (.f32 : EltTy) = .f32) shapeCasts_S1x6016_S6016,
    StableHlo.nullary main_cst_11 (constant (F := Ideal) S_ .f32 0x3F000000#32),
    StableHlo.unary main_cst_11 main_v54 (broadcastInDim S6016 ![] bcast_S_S6016 : (⟨S_, .f32⟩ : BufTy).Contents (Elt Ideal) → (⟨S6016, .f32⟩ : BufTy).Contents (Elt Ideal)),
    StableHlo.binary main_v53 main_v54 main_v55 (cmpf (F := Ideal) (φ := .f32) .ogt : (⟨S6016, .f32⟩ : BufTy).Contents (Elt Ideal) → (⟨S6016, .f32⟩ : BufTy).Contents (Elt Ideal) → (⟨S6016, .i1⟩ : BufTy).Contents (Elt Ideal)) ]
theorem t13_sub : t13.Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub ..⟩
theorem t13_fresh : t13.Forall fun op => op.fresh = ∅ := by
  simp only [t13, List.Forall]; repeat' constructor
def t13_W : List (Ref sig .tc) := [main_v52, main_v53, main_cst_11, main_v54, main_v55]
theorem t13_writes : t13.Forall fun op => op.writes ⊆ (t13_W.map (Proc.devRef (τ := τ) .tc)).toFinset :=
  StableHlo.forall_writes_sub_of_map rfl
def t14 : List (HloOp τ sig (Elt Ideal)) :=
  [ StableHlo.TRef.unary (.of main_v55 : StableHlo.TRef sig ⟨S6016, .i1⟩) (.of main_call6_v0 : StableHlo.TRef sig ⟨S6016, .i32⟩) (extui 32 · natLt_1_32),
    StableHlo.TRef.nullary (.of main_call6_call0_c : StableHlo.TRef sig ⟨S_, .i32⟩) (constantI S_ 32 0#32),
    StableHlo.TRef.unary (.of main_call6_call0_c : StableHlo.TRef sig ⟨S_, .i32⟩) (.of main_call6_call0_v0 : StableHlo.TRef sig ⟨S_, .i32⟩) (broadcastInDim S_ ![] bcast_S_S_),
    StableHlo.TRef.binary (.of main_call6_v0 : StableHlo.TRef sig ⟨S6016, .i32⟩) (.of main_call6_call0_v0 : StableHlo.TRef sig ⟨S_, .i32⟩) (.of main_v56 : StableHlo.TRef sig ⟨S6016, .i32⟩) (fun x v => Host.reduceWindow IntOp.addi ![6016] ![1] ![6015] ![0] x v reduceWindows_S6016_S6016_w6016s1p6015_0 h_S_) ]
theorem t14_sub : t14.Forall fun op => op.bufs ⊆ StableHlo.tcRefs τ sig :=
  ⟨StableHlo.unary_bufs_sub .., StableHlo.nullary_bufs_sub .., StableHlo.unary_bufs_sub .., StableHlo.binary_bufs_sub ..⟩
theorem t14_fresh : t14.Forall fun op => op.fresh = ∅ := by
  simp only [t14, List.Forall]; repeat' constructor
def t14_W : List (Ref sig .tc) := [main_call6_v0, main_call6_call0_c, main_call6_call0_v0, main_v56]
theorem t14_writes : t14.Forall fun op => op.writes ⊆ (t14_W.map (Proc.devRef (τ := τ) .tc)).toFinset :=
  StableHlo.forall_writes_sub_of_map rfl
def t15 : List (HloOp τ sig (Elt Ideal)) :=
  [ StableHlo.nullary main_c_12 (constantI S_ 32 0#32),
    StableHlo.unary main_c_12 main_v57 (broadcastInDim S300 ![] bcast_S_S300 : (⟨S_, .i32⟩ : BufTy).Contents (Elt Ideal) → (⟨S300, .i32⟩ : BufTy).Contents (Elt Ideal)),
    StableHlo.nullary main_c_13 (constantI S_ 32 0#32),
    StableHlo.unary main_c_13 main_v58 (broadcastInDim S6016 ![] bcast_S_S6016 : (⟨S_, .i32⟩ : BufTy).Contents (Elt Ideal) → (⟨S6016, .i32⟩ : BufTy).Contents (Elt Ideal)),
    StableHlo.binary main_v56 main_v58 main_v59 (cmpi .slt : (⟨S6016, .i32⟩ : BufTy).Contents (Elt Ideal) → (⟨S6016, .i32⟩ : BufTy).Contents (Elt Ideal) → (⟨S6016, .i1⟩ : BufTy).Contents (Elt Ideal)),
    StableHlo.nullary main_c_14 (constantI S_ 32 300#32),
    StableHlo.unary main_c_14 main_v60 (broadcastInDim S6016 ![] bcast_S_S6016 : (⟨S_, .i32⟩ : BufTy).Contents (Elt Ideal) → (⟨S6016, .i32⟩ : BufTy).Contents (Elt Ideal)),
    StableHlo.binary main_v56 main_v60 main_v61 (addi : (⟨S6016, .i32⟩ : BufTy).Contents (Elt Ideal) → (⟨S6016, .i32⟩ : BufTy).Contents (Elt Ideal) → (⟨S6016, .i32⟩ : BufTy).Contents (Elt Ideal)),
    StableHlo.ternary main_v59 main_v61 main_v56 main_v62 (select : (⟨S6016, .i1⟩ : BufTy).Contents (Elt Ideal) → (⟨S6016, .i32⟩ : BufTy).Contents (Elt Ideal) → (⟨S6016, .i32⟩ : BufTy).Contents (Elt Ideal) → (⟨S6016, .i32⟩ : BufTy).Contents (Elt Ideal)),
    StableHlo.unary main_v62 main_v63 (broadcastInDim S6016x1 ![0] bcast_S6016_S6016x1_0 : (⟨S6016, .i32⟩ : BufTy).Contents (Elt Ideal) → (⟨S6016x1, .i32⟩ : BufTy).Contents (Elt Ideal)),
    StableHlo.nullary main_c_15 (constantI S_ 32 1#32),
    StableHlo.unary main_c_15 main_v64 (broadcastInDim S6016 ![] bcast_S_S6016 : (⟨S_, .i32⟩ : BufTy).Contents (Elt Ideal) → (⟨S6016, .i32⟩ : BufTy).Contents (Elt Ideal)),
    StableHlo.ternary main_v57 main_v63 main_v64 main_v65 ((fun x i u => Host.scatter scatter_S300_S6016x1_S6016_n_0_0_1 IntOp.addi x i u) : (⟨S300, .i32⟩ : BufTy).Contents (Elt Ideal) → (⟨S6016x1, .i32⟩ : BufTy).Contents (Elt Ideal) → (⟨S6016, .i32⟩ : BufTy).Contents (Elt Ideal) → (⟨S300, .i32⟩ : BufTy).Contents (Elt Ideal)) ]
theorem t15_sub : t15.Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub ..⟩
theorem t15_fresh : t15.Forall fun op => op.fresh = ∅ := by
  simp only [t15, List.Forall]; repeat' constructor
def t15_W : List (Ref sig .tc) := [main_c_12, main_v57, main_c_13, main_v58, main_v59, main_c_14, main_v60, main_v61, main_v62, main_v63, main_c_15, main_v64, main_v65]
theorem t15_writes : t15.Forall fun op => op.writes ⊆ (t15_W.map (Proc.devRef (τ := τ) .tc)).toFinset :=
  StableHlo.forall_writes_sub_of_map rfl
def t16 : List (HloOp τ sig (Elt Ideal)) :=
  [ StableHlo.TRef.nullary (.of main_call7_call0_c : StableHlo.TRef sig ⟨S_, .i32⟩) (constantI S_ 32 0#32),
    StableHlo.TRef.unary (.of main_call7_call0_c : StableHlo.TRef sig ⟨S_, .i32⟩) (.of main_call7_call0_v0 : StableHlo.TRef sig ⟨S_, .i32⟩) (broadcastInDim S_ ![] bcast_S_S_),
    StableHlo.TRef.binary (.of main_v65 : StableHlo.TRef sig ⟨S300, .i32⟩) (.of main_call7_call0_v0 : StableHlo.TRef sig ⟨S_, .i32⟩) (.of main_v66 : StableHlo.TRef sig ⟨S300, .i32⟩) (fun x v => Host.reduceWindow IntOp.addi ![300] ![1] ![299] ![0] x v reduceWindows_S300_S300_w300s1p299_0 h_S_) ]
theorem t16_sub : t16.Forall fun op => op.bufs ⊆ StableHlo.tcRefs τ sig :=
  ⟨StableHlo.nullary_bufs_sub .., StableHlo.unary_bufs_sub .., StableHlo.binary_bufs_sub ..⟩
theorem t16_fresh : t16.Forall fun op => op.fresh = ∅ := by
  simp only [t16, List.Forall]; repeat' constructor
def t16_W : List (Ref sig .tc) := [main_call7_call0_c, main_call7_call0_v0, main_v66]
theorem t16_writes : t16.Forall fun op => op.writes ⊆ (t16_W.map (Proc.devRef (τ := τ) .tc)).toFinset :=
  StableHlo.forall_writes_sub_of_map rfl
def t17 : List (HloOp τ sig (Elt Ideal)) :=
  [ StableHlo.nullary main_c_16 (constantI S_ 32 1#32) ]
theorem t17_sub : t17.Forall fun op => op.bufs ⊆ StableHlo.tcRefs τ sig :=
  StableHlo.nullary_bufs_sub ..
theorem t17_fresh : t17.Forall fun op => op.fresh = ∅ := by
  simp only [t17, List.Forall]; repeat' constructor
def t17_W : List (Ref sig .tc) := [main_c_16]
theorem t17_writes : t17.Forall fun op => op.writes ⊆ (t17_W.map (Proc.devRef (τ := τ) .tc)).toFinset :=
  StableHlo.forall_writes_sub_of_map rfl
def t18 : List (HloOp τ sig (Elt Ideal)) :=
  [ StableHlo.TRef.unary (.of main_c_16 : StableHlo.TRef sig ⟨S_, .i32⟩) (.of main_call8_v0 : StableHlo.TRef sig ⟨S_, .i32⟩) id,
    StableHlo.TRef.unary (.of main_call8_v0 : StableHlo.TRef sig ⟨S_, .i32⟩) (.of main_call8_v1 : StableHlo.TRef sig ⟨S300, .i32⟩) (broadcastInDim S300 ![] bcast_S_S300),
    StableHlo.TRef.binary (.of main_v66 : StableHlo.TRef sig ⟨S300, .i32⟩) (.of main_call8_v1 : StableHlo.TRef sig ⟨S300, .i32⟩) (.of main_call8_v2 : StableHlo.TRef sig ⟨S300, .i32⟩) Host.divsi,
    StableHlo.TRef.unary (.of main_v66 : StableHlo.TRef sig ⟨S300, .i32⟩) (.of main_call8_v3 : StableHlo.TRef sig ⟨S300, .i32⟩) signi,
    StableHlo.TRef.unary (.of main_call8_v0 : StableHlo.TRef sig ⟨S_, .i32⟩) (.of main_call8_v4 : StableHlo.TRef sig ⟨S_, .i32⟩) signi,
    StableHlo.TRef.unary (.of main_call8_v4 : StableHlo.TRef sig ⟨S_, .i32⟩) (.of main_call8_v5 : StableHlo.TRef sig ⟨S300, .i32⟩) (broadcastInDim S300 ![] bcast_S_S300),
    StableHlo.TRef.binary (.of main_call8_v3 : StableHlo.TRef sig ⟨S300, .i32⟩) (.of main_call8_v5 : StableHlo.TRef sig ⟨S300, .i32⟩) (.of main_call8_v6 : StableHlo.TRef sig ⟨S300, .i1⟩) (cmpi .ne),
    StableHlo.TRef.unary (.of main_call8_v0 : StableHlo.TRef sig ⟨S_, .i32⟩) (.of main_call8_v7 : StableHlo.TRef sig ⟨S300, .i32⟩) (broadcastInDim S300 ![] bcast_S_S300),
    StableHlo.TRef.binary (.of main_v66 : StableHlo.TRef sig ⟨S300, .i32⟩) (.of main_call8_v7 : StableHlo.TRef sig ⟨S300, .i32⟩) (.of main_call8_v8 : StableHlo.TRef sig ⟨S300, .i32⟩) Host.remsi,
    StableHlo.TRef.nullary (.of main_call8_c : StableHlo.TRef sig ⟨S_, .i32⟩) (constantI S_ 32 0#32),
    StableHlo.TRef.unary (.of main_call8_c : StableHlo.TRef sig ⟨S_, .i32⟩) (.of main_call8_v9 : StableHlo.TRef sig ⟨S300, .i32⟩) (broadcastInDim S300 ![] bcast_S_S300),
    StableHlo.TRef.binary (.of main_call8_v8 : StableHlo.TRef sig ⟨S300, .i32⟩) (.of main_call8_v9 : StableHlo.TRef sig ⟨S300, .i32⟩) (.of main_call8_v10 : StableHlo.TRef sig ⟨S300, .i1⟩) (cmpi .ne),
    StableHlo.TRef.binary (.of main_call8_v6 : StableHlo.TRef sig ⟨S300, .i1⟩) (.of main_call8_v10 : StableHlo.TRef sig ⟨S300, .i1⟩) (.of main_call8_v11 : StableHlo.TRef sig ⟨S300, .i1⟩) andi,
    StableHlo.TRef.nullary (.of main_call8_c_0 : StableHlo.TRef sig ⟨S_, .i32⟩) (constantI S_ 32 1#32),
    StableHlo.TRef.unary (.of main_call8_c_0 : StableHlo.TRef sig ⟨S_, .i32⟩) (.of main_call8_v12 : StableHlo.TRef sig ⟨S300, .i32⟩) (broadcastInDim S300 ![] bcast_S_S300),
    StableHlo.TRef.binary (.of main_call8_v2 : StableHlo.TRef sig ⟨S300, .i32⟩) (.of main_call8_v12 : StableHlo.TRef sig ⟨S300, .i32⟩) (.of main_call8_v13 : StableHlo.TRef sig ⟨S300, .i32⟩) subi,
    StableHlo.TRef.ternary (.of main_call8_v11 : StableHlo.TRef sig ⟨S300, .i1⟩) (.of main_call8_v13 : StableHlo.TRef sig ⟨S300, .i32⟩) (.of main_call8_v2 : StableHlo.TRef sig ⟨S300, .i32⟩) (.of main_v67 : StableHlo.TRef sig ⟨S300, .i32⟩) select ]
theorem t18_sub : t18.Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem t18_fresh : t18.Forall fun op => op.fresh = ∅ := by
  simp only [t18, List.Forall]; repeat' constructor
def t18_W : List (Ref sig .tc) := [main_call8_v0, main_call8_v1, main_call8_v2, main_call8_v3, main_call8_v4, main_call8_v5, main_call8_v6, main_call8_v7, main_call8_v8, main_call8_c, main_call8_v9, main_call8_v10, main_call8_v11, main_call8_c_0, main_call8_v12, main_call8_v13, main_v67]
theorem t18_writes : t18.Forall fun op => op.writes ⊆ (t18_W.map (Proc.devRef (τ := τ) .tc)).toFinset :=
  StableHlo.forall_writes_sub_of_map rfl
def t19 : List (HloOp τ sig (Elt Ideal)) :=
  [ StableHlo.nullary main_c_17 (constantI S_ 32 6016#32) ]
theorem t19_sub : t19.Forall fun op => op.bufs ⊆ StableHlo.tcRefs τ sig :=
  StableHlo.nullary_bufs_sub ..
theorem t19_fresh : t19.Forall fun op => op.fresh = ∅ := by
  simp only [t19, List.Forall]; repeat' constructor
def t19_W : List (Ref sig .tc) := [main_c_17]
theorem t19_writes : t19.Forall fun op => op.writes ⊆ (t19_W.map (Proc.devRef (τ := τ) .tc)).toFinset :=
  StableHlo.forall_writes_sub_of_map rfl
def t20 : List (HloOp τ sig (Elt Ideal)) :=
  [ StableHlo.TRef.unary (.of main_c_17 : StableHlo.TRef sig ⟨S_, .i32⟩) (.of main_call9_v0 : StableHlo.TRef sig ⟨S_, .i32⟩) id,
    StableHlo.TRef.nullary (.of main_call9_c : StableHlo.TRef sig ⟨S_, .i32⟩) (constantI S_ 32 0#32),
    StableHlo.TRef.binary (.of main_call9_v0 : StableHlo.TRef sig ⟨S_, .i32⟩) (.of main_call9_c : StableHlo.TRef sig ⟨S_, .i32⟩) (.of main_call9_v1 : StableHlo.TRef sig ⟨S_, .i1⟩) (cmpi .eq),
    StableHlo.TRef.nullary (.of main_call9_c_0 : StableHlo.TRef sig ⟨S_, .i32⟩) (constantI S_ 32 1#32),
    StableHlo.TRef.ternary (.of main_call9_v1 : StableHlo.TRef sig ⟨S_, .i1⟩) (.of main_call9_c_0 : StableHlo.TRef sig ⟨S_, .i32⟩) (.of main_call9_v0 : StableHlo.TRef sig ⟨S_, .i32⟩) (.of main_call9_v2 : StableHlo.TRef sig ⟨S_, .i32⟩) select,
    StableHlo.TRef.unary (.of main_call9_v2 : StableHlo.TRef sig ⟨S_, .i32⟩) (.of main_call9_v3 : StableHlo.TRef sig ⟨S300, .i32⟩) (broadcastInDim S300 ![] bcast_S_S300),
    StableHlo.TRef.binary (.of main_v67 : StableHlo.TRef sig ⟨S300, .i32⟩) (.of main_call9_v3 : StableHlo.TRef sig ⟨S300, .i32⟩) (.of main_call9_v4 : StableHlo.TRef sig ⟨S300, .i32⟩) Host.remsi,
    StableHlo.TRef.nullary (.of main_call9_c_1 : StableHlo.TRef sig ⟨S_, .i32⟩) (constantI S_ 32 0#32),
    StableHlo.TRef.unary (.of main_call9_c_1 : StableHlo.TRef sig ⟨S_, .i32⟩) (.of main_call9_v5 : StableHlo.TRef sig ⟨S300, .i32⟩) (broadcastInDim S300 ![] bcast_S_S300),
    StableHlo.TRef.binary (.of main_call9_v4 : StableHlo.TRef sig ⟨S300, .i32⟩) (.of main_call9_v5 : StableHlo.TRef sig ⟨S300, .i32⟩) (.of main_call9_v6 : StableHlo.TRef sig ⟨S300, .i1⟩) (cmpi .ne),
    StableHlo.TRef.nullary (.of main_call9_c_2 : StableHlo.TRef sig ⟨S_, .i32⟩) (constantI S_ 32 0#32),
    StableHlo.TRef.unary (.of main_call9_c_2 : StableHlo.TRef sig ⟨S_, .i32⟩) (.of main_call9_v7 : StableHlo.TRef sig ⟨S300, .i32⟩) (broadcastInDim S300 ![] bcast_S_S300),
    StableHlo.TRef.binary (.of main_call9_v4 : StableHlo.TRef sig ⟨S300, .i32⟩) (.of main_call9_v7 : StableHlo.TRef sig ⟨S300, .i32⟩) (.of main_call9_v8 : StableHlo.TRef sig ⟨S300, .i1⟩) (cmpi .slt),
    StableHlo.TRef.nullary (.of main_call9_c_3 : StableHlo.TRef sig ⟨S_, .i32⟩) (constantI S_ 32 0#32),
    StableHlo.TRef.binary (.of main_call9_v2 : StableHlo.TRef sig ⟨S_, .i32⟩) (.of main_call9_c_3 : StableHlo.TRef sig ⟨S_, .i32⟩) (.of main_call9_v9 : StableHlo.TRef sig ⟨S_, .i1⟩) (cmpi .slt),
    StableHlo.TRef.unary (.of main_call9_v9 : StableHlo.TRef sig ⟨S_, .i1⟩) (.of main_call9_v10 : StableHlo.TRef sig ⟨S300, .i1⟩) (broadcastInDim S300 ![] bcast_S_S300),
    StableHlo.TRef.binary (.of main_call9_v8 : StableHlo.TRef sig ⟨S300, .i1⟩) (.of main_call9_v10 : StableHlo.TRef sig ⟨S300, .i1⟩) (.of main_call9_v11 : StableHlo.TRef sig ⟨S300, .i1⟩) (cmpi .ne),
    StableHlo.TRef.binary (.of main_call9_v11 : StableHlo.TRef sig ⟨S300, .i1⟩) (.of main_call9_v6 : StableHlo.TRef sig ⟨S300, .i1⟩) (.of main_call9_v12 : StableHlo.TRef sig ⟨S300, .i1⟩) andi,
    StableHlo.TRef.unary (.of main_call9_v2 : StableHlo.TRef sig ⟨S_, .i32⟩) (.of main_call9_v13 : StableHlo.TRef sig ⟨S300, .i32⟩) (broadcastInDim S300 ![] bcast_S_S300),
    StableHlo.TRef.binary (.of main_call9_v4 : StableHlo.TRef sig ⟨S300, .i32⟩) (.of main_call9_v13 : StableHlo.TRef sig ⟨S300, .i32⟩) (.of main_call9_v14 : StableHlo.TRef sig ⟨S300, .i32⟩) addi,
    StableHlo.TRef.ternary (.of main_call9_v12 : StableHlo.TRef sig ⟨S300, .i1⟩) (.of main_call9_v14 : StableHlo.TRef sig ⟨S300, .i32⟩) (.of main_call9_v4 : StableHlo.TRef sig ⟨S300, .i32⟩) (.of main_v68 : StableHlo.TRef sig ⟨S300, .i32⟩) select ]
theorem t20_sub : t20.Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
theorem t20_fresh : t20.Forall fun op => op.fresh = ∅ := by
  simp only [t20, List.Forall]; repeat' constructor
def t20_W : List (Ref sig .tc) := [main_call9_v0, main_call9_c, main_call9_v1, main_call9_c_0, main_call9_v2, main_call9_v3, main_call9_v4, main_call9_c_1, main_call9_v5, main_call9_v6, main_call9_c_2, main_call9_v7, main_call9_v8, main_call9_c_3, main_call9_v9, main_call9_v10, main_call9_v11, main_call9_v12, main_call9_v13, main_call9_v14, main_v68]
theorem t20_writes : t20.Forall fun op => op.writes ⊆ (t20_W.map (Proc.devRef (τ := τ) .tc)).toFinset :=
  StableHlo.forall_writes_sub_of_map rfl
def t21 : List (HloOp τ sig (Elt Ideal)) :=
  [ StableHlo.unary main_v55 main_v69 ((extui 32 · natLt_1_32) : (⟨S6016, .i1⟩ : BufTy).Contents (Elt Ideal) → (⟨S6016, .i32⟩ : BufTy).Contents (Elt Ideal)),
    StableHlo.nullary main_c_18 (constantI S_ 32 0#32),
    StableHlo.binary main_v69 main_c_18 main_v70 ((fun x v => Host.reduce IntOp.addi x v reducesTo_S6016_S_d0 h_S_) : (⟨S6016, .i32⟩ : BufTy).Contents (Elt Ideal) → (⟨S_, .i32⟩ : BufTy).Contents (Elt Ideal) → (⟨S_, .i32⟩ : BufTy).Contents (Elt Ideal)),
    StableHlo.unary main_v70 main_v71 (broadcastInDim S1 ![] bcast_S_S1 : (⟨S_, .i32⟩ : BufTy).Contents (Elt Ideal) → (⟨S1, .i32⟩ : BufTy).Contents (Elt Ideal)),
    StableHlo.nullary main_v72 (iotaInDim S300 32 0),
    StableHlo.unary main_v71 main_v73 (broadcastInDim S300 ![0] bcast_S1_S300_0 : (⟨S1, .i32⟩ : BufTy).Contents (Elt Ideal) → (⟨S300, .i32⟩ : BufTy).Contents (Elt Ideal)),
    StableHlo.binary main_v72 main_v73 main_v74 (cmpi .sge : (⟨S300, .i32⟩ : BufTy).Contents (Elt Ideal) → (⟨S300, .i32⟩ : BufTy).Contents (Elt Ideal) → (⟨S300, .i1⟩ : BufTy).Contents (Elt Ideal)),
    StableHlo.nullary main_c_19 (constantI S_ 32 0#32),
    StableHlo.unary main_c_19 main_v75 (broadcastInDim S1 ![] bcast_S_S1 : (⟨S_, .i32⟩ : BufTy).Contents (Elt Ideal) → (⟨S1, .i32⟩ : BufTy).Contents (Elt Ideal)) ]
theorem t21_sub : t21.Forall fun op => op.bufs ⊆ StableHlo.tcRefs τ sig :=
  ⟨StableHlo.unary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub ..⟩
theorem t21_fresh : t21.Forall fun op => op.fresh = ∅ := by
  simp only [t21, List.Forall]; repeat' constructor
def t21_W : List (Ref sig .tc) := [main_v69, main_c_18, main_v70, main_v71, main_v72, main_v73, main_v74, main_c_19, main_v75]
theorem t21_writes : t21.Forall fun op => op.writes ⊆ (t21_W.map (Proc.devRef (τ := τ) .tc)).toFinset :=
  StableHlo.forall_writes_sub_of_map rfl
def t22 : List (HloOp τ sig (Elt Ideal)) :=
  [ StableHlo.TRef.unary (.of main_v75 : StableHlo.TRef sig ⟨S1, .i32⟩) (.of main_call10_v0 : StableHlo.TRef sig ⟨S300, .i32⟩) (broadcastInDim S300 ![0] bcast_S1_S300_0),
    StableHlo.TRef.ternary (.of main_v74 : StableHlo.TRef sig ⟨S300, .i1⟩) (.of main_call10_v0 : StableHlo.TRef sig ⟨S300, .i32⟩) (.of main_v68 : StableHlo.TRef sig ⟨S300, .i32⟩) (.of main_v76 : StableHlo.TRef sig ⟨S300, .i32⟩) select ]
theorem t22_sub : t22.Forall fun op => op.bufs ⊆ StableHlo.tcRefs τ sig :=
  ⟨StableHlo.unary_bufs_sub .., StableHlo.ternary_bufs_sub ..⟩
theorem t22_fresh : t22.Forall fun op => op.fresh = ∅ := by
  simp only [t22, List.Forall]; repeat' constructor
def t22_W : List (Ref sig .tc) := [main_call10_v0, main_v76]
theorem t22_writes : t22.Forall fun op => op.writes ⊆ (t22_W.map (Proc.devRef (τ := τ) .tc)).toFinset :=
  StableHlo.forall_writes_sub_of_map rfl
def t23 : List (HloOp τ sig (Elt Ideal)) :=
  [ StableHlo.unary main_arg0 main_v77 ((extractStridedSlice S1x6000x4 ![1, 0, 0] · slices_S2x6000x4_S1x6000x4_1_0_0) : (⟨S2x6000x4, .f32⟩ : BufTy).Contents (Elt Ideal) → (⟨S1x6000x4, .f32⟩ : BufTy).Contents (Elt Ideal)),
    StableHlo.reshape main_v77 main_v78 (rfl : (.f32 : EltTy) = .f32) shapeCasts_S1x6000x4_S6000x4,
    StableHlo.nullary main_c_20 (constantI S_ 32 0#32),
    StableHlo.unary main_c_20 main_v79 (broadcastInDim S300 ![] bcast_S_S300 : (⟨S_, .i32⟩ : BufTy).Contents (Elt Ideal) → (⟨S300, .i32⟩ : BufTy).Contents (Elt Ideal)),
    StableHlo.binary main_v76 main_v79 main_v80 (cmpi .slt : (⟨S300, .i32⟩ : BufTy).Contents (Elt Ideal) → (⟨S300, .i32⟩ : BufTy).Contents (Elt Ideal) → (⟨S300, .i1⟩ : BufTy).Contents (Elt Ideal)),
    StableHlo.nullary main_c_21 (constantI S_ 32 6000#32),
    StableHlo.unary main_c_21 main_v81 (broadcastInDim S300 ![] bcast_S_S300 : (⟨S_, .i32⟩ : BufTy).Contents (Elt Ideal) → (⟨S300, .i32⟩ : BufTy).Contents (Elt Ideal)),
    StableHlo.binary main_v76 main_v81 main_v82 (addi : (⟨S300, .i32⟩ : BufTy).Contents (Elt Ideal) → (⟨S300, .i32⟩ : BufTy).Contents (Elt Ideal) → (⟨S300, .i32⟩ : BufTy).Contents (Elt Ideal)),
    StableHlo.ternary main_v80 main_v82 main_v76 main_v83 (select : (⟨S300, .i1⟩ : BufTy).Contents (Elt Ideal) → (⟨S300, .i32⟩ : BufTy).Contents (Elt Ideal) → (⟨S300, .i32⟩ : BufTy).Contents (Elt Ideal) → (⟨S300, .i32⟩ : BufTy).Contents (Elt Ideal)),
    StableHlo.unary main_v83 main_v84 (broadcastInDim S300x1 ![0] bcast_S300_S300x1_0 : (⟨S300, .i32⟩ : BufTy).Contents (Elt Ideal) → (⟨S300x1, .i32⟩ : BufTy).Contents (Elt Ideal)),
    StableHlo.binary main_v78 main_v84 main_v85 ((fun x i => Host.gather gather_S6000x4_S300x1_S300x4_1_0_n_n_0_1_14 x i) : (⟨S6000x4, .f32⟩ : BufTy).Contents (Elt Ideal) → (⟨S300x1, .i32⟩ : BufTy).Contents (Elt Ideal) → (⟨S300x4, .f32⟩ : BufTy).Contents (Elt Ideal)),
    StableHlo.nullary main_cst_22 (constant (F := Ideal) S_ .f32 0x3F800000#32),
    StableHlo.unary main_cst_22 main_v86 (broadcastInDim S300x1 ![] bcast_S_S300x1 : (⟨S_, .f32⟩ : BufTy).Contents (Elt Ideal) → (⟨S300x1, .f32⟩ : BufTy).Contents (Elt Ideal)) ]
theorem t23_sub : t23.Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub ..⟩
theorem t23_fresh : t23.Forall fun op => op.fresh = ∅ := by
  simp only [t23, List.Forall]; repeat' constructor
def t23_W : List (Ref sig .tc) := [main_v77, main_v78, main_c_20, main_v79, main_v80, main_c_21, main_v81, main_v82, main_v83, main_v84, main_v85, main_cst_22, main_v86]
theorem t23_writes : t23.Forall fun op => op.writes ⊆ (t23_W.map (Proc.devRef (τ := τ) .tc)).toFinset :=
  StableHlo.forall_writes_sub_of_map rfl
def t24 : List (HloOp τ sig (Elt Ideal)) :=
  [ StableHlo.binary main_v86 main_v85 main_v87 ((fun a b => concatenate S300x5 1 [⟨S300x1, a⟩, ⟨S300x4, b⟩] concatenates_S300x1_S300x4_S300x5_d1) : (⟨S300x1, .f32⟩ : BufTy).Contents (Elt Ideal) → (⟨S300x4, .f32⟩ : BufTy).Contents (Elt Ideal) → (⟨S300x5, .f32⟩ : BufTy).Contents (Elt Ideal)) ]
theorem t24_sub : t24.Forall fun op => op.bufs ⊆ StableHlo.tcRefs τ sig :=
  StableHlo.binary_bufs_sub ..
theorem t24_fresh : t24.Forall fun op => op.fresh = ∅ := by
  simp only [t24, List.Forall]; repeat' constructor
def t24_W : List (Ref sig .tc) := [main_v87]
theorem t24_writes : t24.Forall fun op => op.writes ⊆ (t24_W.map (Proc.devRef (τ := τ) .tc)).toFinset :=
  StableHlo.forall_writes_sub_of_map rfl
def t25 : List (HloOp τ sig (Elt Ideal)) :=
  [ StableHlo.unary main_v51 main_v88 (broadcastInDim S1x300x5 ![1, 2] bcast_S300x5_S1x300x5_1_2 : (⟨S300x5, .f32⟩ : BufTy).Contents (Elt Ideal) → (⟨S1x300x5, .f32⟩ : BufTy).Contents (Elt Ideal)),
    StableHlo.unary main_v87 main_v89 (broadcastInDim S1x300x5 ![1, 2] bcast_S300x5_S1x300x5_1_2 : (⟨S300x5, .f32⟩ : BufTy).Contents (Elt Ideal) → (⟨S1x300x5, .f32⟩ : BufTy).Contents (Elt Ideal)) ]
theorem t25_sub : t25.Forall fun op => op.bufs ⊆ StableHlo.tcRefs τ sig :=
  ⟨StableHlo.unary_bufs_sub .., StableHlo.unary_bufs_sub ..⟩
theorem t25_fresh : t25.Forall fun op => op.fresh = ∅ := by
  simp only [t25, List.Forall]; repeat' constructor
def t25_W : List (Ref sig .tc) := [main_v88, main_v89]
theorem t25_writes : t25.Forall fun op => op.writes ⊆ (t25_W.map (Proc.devRef (τ := τ) .tc)).toFinset :=
  StableHlo.forall_writes_sub_of_map rfl
def t26 : List (HloOp τ sig (Elt Ideal)) :=
  [ StableHlo.binary main_v88 main_v89 main_v90 ((fun a b => concatenate S2x300x5 0 [⟨S1x300x5, a⟩, ⟨S1x300x5, b⟩] concatenates_S1x300x5_S1x300x5_S2x300x5_d0) : (⟨S1x300x5, .f32⟩ : BufTy).Contents (Elt Ideal) → (⟨S1x300x5, .f32⟩ : BufTy).Contents (Elt Ideal) → (⟨S2x300x5, .f32⟩ : BufTy).Contents (Elt Ideal)) ]
theorem t26_sub : t26.Forall fun op => op.bufs ⊆ StableHlo.tcRefs τ sig :=
  StableHlo.binary_bufs_sub ..
theorem t26_fresh : t26.Forall fun op => op.fresh = ∅ := by
  simp only [t26, List.Forall]; repeat' constructor
def t26_W : List (Ref sig .tc) := [main_v90]
theorem t26_writes : t26.Forall fun op => op.writes ⊆ (t26_W.map (Proc.devRef (τ := τ) .tc)).toFinset :=
  StableHlo.forall_writes_sub_of_map rfl
/-- The host lines before the region, and after it. -/
abbrev opss0 : List (List (HloOp τ sig (Elt Ideal))) := [h0, h1, h2]
abbrev opss1 : List (List (HloOp τ sig (Elt Ideal))) := [t0, t1, t2, t3, t4, t5, t6, t7, t8, t9, t10, t11, t12, t13, t14, t15, t16, t17, t18, t19, t20, t21, t22, t23, t24, t25, t26]
theorem part0_eq (c : Dev nD) : main_part0 (F := Ideal) c = (Pipeline.chainK
  [ StableHlo.seq h0,
    StableHlo.seq h1,
    StableHlo.seq h2,
    Prog.lift (.customCall (Pipeline.entry 0) ()),
    StableHlo.seq t0,
    StableHlo.seq t1,
    StableHlo.seq t2,
    StableHlo.seq t3,
    StableHlo.seq t4,
    StableHlo.seq t5,
    StableHlo.seq t6,
    StableHlo.seq t7,
    StableHlo.seq t8,
    StableHlo.seq t9 ]
  (StableHlo.seq t10) : Prog (TpuEff nD τ sig (Elt Ideal) (Pipeline.Sig (Λ₀ Ideal) (Fin 1) fun p => (pcfgs (F := Ideal) p).Adm) .tc) PUnit) := by
  rewrite [StableHlo.chainK_seq_cons, Pipeline.chainK_cons, StableHlo.chainK_seq_cons, Pipeline.chainK_cons, StableHlo.chainK_seq_cons, Pipeline.chainK_cons, StableHlo.chainK_seq_cons, Pipeline.chainK_cons, StableHlo.chainK_seq_cons, Pipeline.chainK_cons, StableHlo.chainK_seq_cons, Pipeline.chainK_cons, StableHlo.chainK_seq_cons, Pipeline.chainK_cons]
  chain_rfl
theorem part1_eq (c : Dev nD) : main_part1 (F := Ideal) c = (Pipeline.chain
  [ StableHlo.seq t11,
    StableHlo.seq t12,
    StableHlo.seq t13,
    StableHlo.seq t14,
    StableHlo.seq t15,
    StableHlo.seq t16,
    StableHlo.seq t17,
    StableHlo.seq t18,
    StableHlo.seq t19,
    StableHlo.seq t20,
    StableHlo.seq t21,
    StableHlo.seq t22,
    StableHlo.seq t23,
    StableHlo.seq t24,
    StableHlo.seq t25,
    StableHlo.seq t26 ] : Prog (TpuEff nD τ sig (Elt Ideal) (Pipeline.Sig (Λ₀ Ideal) (Fin 1) fun p => (pcfgs (F := Ideal) p).Adm) .tc) PUnit) := by
  rewrite [StableHlo.chain_seq_cons, StableHlo.chain_seq_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, StableHlo.chain_seq_cons, StableHlo.chain_seq_cons, StableHlo.chain_seq_cons]
  chain_rfl
theorem main_eq (c : Dev nD) : main (F := Ideal) c = (Pipeline.chain
  [ StableHlo.seq h0,
    StableHlo.seq h1,
    StableHlo.seq h2,
    Prog.lift (.customCall (Pipeline.entry 0) ()),
    StableHlo.seq t0,
    StableHlo.seq t1,
    StableHlo.seq t2,
    StableHlo.seq t3,
    StableHlo.seq t4,
    StableHlo.seq t5,
    StableHlo.seq t6,
    StableHlo.seq t7,
    StableHlo.seq t8,
    StableHlo.seq t9,
    StableHlo.seq t10,
    StableHlo.seq t11,
    StableHlo.seq t12,
    StableHlo.seq t13,
    StableHlo.seq t14,
    StableHlo.seq t15,
    StableHlo.seq t16,
    StableHlo.seq t17,
    StableHlo.seq t18,
    StableHlo.seq t19,
    StableHlo.seq t20,
    StableHlo.seq t21,
    StableHlo.seq t22,
    StableHlo.seq t23,
    StableHlo.seq t24,
    StableHlo.seq t25,
    StableHlo.seq t26 ] : Prog (TpuEff nD τ sig (Elt Ideal) (Pipeline.Sig (Λ₀ Ideal) (Fin 1) fun p => (pcfgs (F := Ideal) p).Adm) .tc) PUnit) := by
  show (main_part0 (F := Ideal) c >>= fun _ => main_part1 (F := Ideal) c) = _
  rewrite [part1_eq, part0_eq, Pipeline.chainK_bind_chain]
  chain_rfl

variable (m : (ℓ : Loc nD τ sig) → Buf (Elt Ideal) ℓ) (ρ : Dev nD → PrngReg)

/-- The buffers' contents as the region is entered. -/
abbrev V0 (c : Dev nD) : Valuation τ sig (Elt Ideal) := StableHlo.after (List.flatten opss0) (fun b => m (c, b))
abbrev V (c : Dev nD) (b : Ref sig .tc) : Buf (Elt Ideal) ((c : Thread nD τ).loc b) := V0 m c (Proc.devRef .tc b)

theorem main_around (𝒱₀ : Variants) : Pipeline.HMainK (Ix := Unit) (Name := ℕ) (U := UR sig nD τ) (Lvl := ℕ) (cfgs (F := Ideal)) 0 defs₀ 𝒱₀ m (main (F := Ideal)) (V m)
      (fun _ => Pipeline.chain (opss1.map StableHlo.seq)) :=
  Pipeline.hmain_around (cfgs (F := Ideal)) 0 defs₀ 𝒱₀ m main opss0 opss1 (by simp only [List.Forall]; exact ⟨h0_sub, h1_sub, h2_sub⟩)
    (by simp only [List.Forall]; exact ⟨h0_fresh, h1_fresh, h2_fresh⟩) main_eq

/-- What each list of the tail has, every op of the tail has. -/
theorem tail_all {P : HloOp τ sig (Elt Ideal) → Prop} (h : opss1.Forall fun l => l.Forall P) : ∀ ops ∈ opss1, ∀ op ∈ ops, P op :=
  fun ops ho op hop => List.forall_iff_forall_mem.mp (List.forall_iff_forall_mem.mp h ops ho) op hop

theorem tail_sub : ∀ ops ∈ opss1, ∀ op ∈ ops, op.bufs ⊆ Pipeline.tailRefs sig Pipeline.Prefetch.none spec0 := by
  rw [Pipeline.tailRefs_none spec0 launch.win.arr_unscoped]
  intro ops hops op hop
  exact Pipeline.sub_ucRefs op (tail_all (P := fun op => op.bufs ⊆ StableHlo.tcRefs τ sig) (by simp only [List.Forall]; exact ⟨t0_sub, t1_sub, t2_sub, t3_sub, t4_sub, t5_sub, t6_sub, t7_sub, t8_sub, t9_sub, t10_sub, t11_sub, t12_sub, t13_sub, t14_sub, t15_sub, t16_sub, t17_sub, t18_sub, t19_sub, t20_sub, t21_sub, t22_sub, t23_sub, t24_sub, t25_sub, t26_sub⟩) ops hops op hop)
theorem tail_fresh : ∀ ops ∈ opss1, ∀ op ∈ ops, op.fresh = ∅ :=
  tail_all (by simp only [List.Forall]; exact ⟨t0_fresh, t1_fresh, t2_fresh, t3_fresh, t4_fresh, t5_fresh, t6_fresh, t7_fresh, t8_fresh, t9_fresh, t10_fresh, t11_fresh, t12_fresh, t13_fresh, t14_fresh, t15_fresh, t16_fresh, t17_fresh, t18_fresh, t19_fresh, t20_fresh, t21_fresh, t22_fresh, t23_fresh, t24_fresh, t25_fresh, t26_fresh⟩)

theorem not_written {l : List (HloOp τ sig (Elt Ideal))} {W : List (Ref sig .tc)} (h : l.Forall fun op => op.writes ⊆ (W.map (Proc.devRef (τ := τ) .tc)).toFinset)
    (hW : ∀ w, Pipeline.arrRef spec0 w ∉ W) : l.Forall fun op => ∀ w, Proc.devRef .tc (Pipeline.arrRef spec0 w) ∉ op.writes :=
  List.forall_iff_forall_mem.mpr fun op hop w hw => by
    obtain ⟨y, hy, he⟩ := List.mem_map.mp (List.mem_toFinset.mp ((List.forall_iff_forall_mem.mp h) op hop hw))
    have hne : y ≠ Pipeline.arrRef spec0 w := fun e => hW w (e ▸ hy)
    exact StableHlo.devRef_ne_of_ne hne he
theorem tail_keeps : ∀ ops ∈ opss1, ∀ op ∈ ops, ∀ w, Proc.devRef .tc (Pipeline.arrRef spec0 w) ∉ op.writes :=
  tail_all (by simp only [List.Forall]; exact ⟨not_written t0_writes (by decide +kernel), not_written t1_writes (by decide +kernel), not_written t2_writes (by decide +kernel), not_written t3_writes (by decide +kernel), not_written t4_writes (by decide +kernel), not_written t5_writes (by decide +kernel), not_written t6_writes (by decide +kernel), not_written t7_writes (by decide +kernel), not_written t8_writes (by decide +kernel), not_written t9_writes (by decide +kernel), not_written t10_writes (by decide +kernel), not_written t11_writes (by decide +kernel), not_written t12_writes (by decide +kernel), not_written t13_writes (by decide +kernel), not_written t14_writes (by decide +kernel), not_written t15_writes (by decide +kernel), not_written t16_writes (by decide +kernel), not_written t17_writes (by decide +kernel), not_written t18_writes (by decide +kernel), not_written t19_writes (by decide +kernel), not_written t20_writes (by decide +kernel), not_written t21_writes (by decide +kernel), not_written t22_writes (by decide +kernel), not_written t23_writes (by decide +kernel), not_written t24_writes (by decide +kernel), not_written t25_writes (by decide +kernel), not_written t26_writes (by decide +kernel)⟩)

/-- A list of lists runs one list after the other. -/
theorem after_cons (l : List (HloOp τ sig (Elt Ideal))) (ls : List (List (HloOp τ sig (Elt Ideal)))) (W : Valuation τ sig (Elt Ideal)) :
    StableHlo.after (List.flatten (l :: ls)) W = StableHlo.after (List.flatten ls) (StableHlo.after l W) := by
  rw [List.flatten_cons]
  induction l generalizing W with
  | nil => rfl
  | cons op l ih => exact ih _
theorem after_nil (W : Valuation τ sig (Elt Ideal)) : StableHlo.after (List.flatten ([] : List (List (HloOp τ sig (Elt Ideal))))) W = W := rfl

theorem V_arg (c : Dev nD) : V m c main_arg0 = m ((c : Thread nD τ).loc main_arg0) := by
  dsimp only [V, V0, opss0]
  rw [after_cons, after_cons, after_cons, after_nil, StableHlo.after_of_writes_sub (r := main_arg0) h2 _ h2_writes (by decide +kernel),
    StableHlo.after_of_writes_sub (r := main_arg0) h1 _ h1_writes (by decide +kernel),
    StableHlo.after_of_writes_sub (r := main_arg0) h0 _ h0_writes (by decide +kernel)]

theorem W_arg (dats : (p : Fin _) → (c : Dev nD) → Dat τ (Elt Ideal) Unit ℕ (UR sig nD τ) ℕ (cfgs (F := Ideal) p) c) (c : Dev nD) :
    Pipeline.afterTail₀ (cfgs (F := Ideal)) dats 0 (V0 m) opss1 c main_arg0 = m ((c : Thread nD τ).loc main_arg0) := by
  unfold Pipeline.afterTail₀
  rw [after_cons, after_cons, after_cons, after_cons, after_cons, after_cons, after_cons, after_cons, after_cons, after_cons, after_cons, after_cons, after_cons, after_cons, after_cons, after_cons, after_cons, after_cons, after_cons, after_cons, after_cons, after_cons, after_cons, after_cons, after_cons, after_cons, after_cons, after_nil, StableHlo.after_of_writes_sub (r := main_arg0) t26 _ t26_writes (by decide +kernel),
    StableHlo.after_of_writes_sub (r := main_arg0) t25 _ t25_writes (by decide +kernel),
    StableHlo.after_of_writes_sub (r := main_arg0) t24 _ t24_writes (by decide +kernel),
    StableHlo.after_of_writes_sub (r := main_arg0) t23 _ t23_writes (by decide +kernel),
    StableHlo.after_of_writes_sub (r := main_arg0) t22 _ t22_writes (by decide +kernel),
    StableHlo.after_of_writes_sub (r := main_arg0) t21 _ t21_writes (by decide +kernel),
    StableHlo.after_of_writes_sub (r := main_arg0) t20 _ t20_writes (by decide +kernel),
    StableHlo.after_of_writes_sub (r := main_arg0) t19 _ t19_writes (by decide +kernel),
    StableHlo.after_of_writes_sub (r := main_arg0) t18 _ t18_writes (by decide +kernel),
    StableHlo.after_of_writes_sub (r := main_arg0) t17 _ t17_writes (by decide +kernel),
    StableHlo.after_of_writes_sub (r := main_arg0) t16 _ t16_writes (by decide +kernel),
    StableHlo.after_of_writes_sub (r := main_arg0) t15 _ t15_writes (by decide +kernel),
    StableHlo.after_of_writes_sub (r := main_arg0) t14 _ t14_writes (by decide +kernel),
    StableHlo.after_of_writes_sub (r := main_arg0) t13 _ t13_writes (by decide +kernel),
    StableHlo.after_of_writes_sub (r := main_arg0) t12 _ t12_writes (by decide +kernel),
    StableHlo.after_of_writes_sub (r := main_arg0) t11 _ t11_writes (by decide +kernel),
    StableHlo.after_of_writes_sub (r := main_arg0) t10 _ t10_writes (by decide +kernel),
    StableHlo.after_of_writes_sub (r := main_arg0) t9 _ t9_writes (by decide +kernel),
    StableHlo.after_of_writes_sub (r := main_arg0) t8 _ t8_writes (by decide +kernel),
    StableHlo.after_of_writes_sub (r := main_arg0) t7 _ t7_writes (by decide +kernel),
    StableHlo.after_of_writes_sub (r := main_arg0) t6 _ t6_writes (by decide +kernel),
    StableHlo.after_of_writes_sub (r := main_arg0) t5 _ t5_writes (by decide +kernel),
    StableHlo.after_of_writes_sub (r := main_arg0) t4 _ t4_writes (by decide +kernel),
    StableHlo.after_of_writes_sub (r := main_arg0) t3 _ t3_writes (by decide +kernel),
    StableHlo.after_of_writes_sub (r := main_arg0) t2 _ t2_writes (by decide +kernel),
    StableHlo.after_of_writes_sub (r := main_arg0) t1 _ t1_writes (by decide +kernel),
    StableHlo.after_of_writes_sub (r := main_arg0) t0 _ t0_writes (by decide +kernel),
    Pipeline.withArrays_of_ne _ c (V0 m c) _ main_arg0 (by exact (by decide : ∀ w, Pipeline.arrRef spec0 w ≠ main_arg0))]
  exact V_arg m c

/-- The block of window `w` at point `t`. -/
def blkOf (c : Dev nD) (w : Fin cfgI.W) (t : Fin cfgI.N) : ((cfgI.win w).xblock (cfgI.grid.coords t)).Idx → Elt Ideal (cfgI.win w).elt :=
  ((cfgI.win w).blk t).view.read (Elt Ideal) (V m c (Pipeline.arrRef spec0 w))

theorem before_0 {c : Dev nD} (dat : Dat τ (Elt Ideal) Unit ℕ (UR sig nD τ) ℕ cfgI c) (hA : dat.A 0 = V m c (Pipeline.arrRef spec0 0))
    (hafter : ∀ t, dat.after 0 t = blkOf m c 0 t) (t : Fin cfgI.N) (d) : dat.before 0 t d = blkOf m c 0 t :=
  (dat.before_in_eq_fetched 0 rfl (fun _ => rfl) (fun _ _ _ => rfl) (fun t => by rw [hafter]; unfold Dat.blockOf blkOf; rw [hA]; try rfl) t d).trans
    (by unfold Dat.fetched Dat.blockOf blkOf; rw [hA]; try rfl)
theorem before_1 {c : Dev nD} (dat : Dat τ (Elt Ideal) Unit ℕ (UR sig nD τ) ℕ cfgI c) (hA : dat.A 1 = V m c (Pipeline.arrRef spec0 1))
    (hafter : ∀ t, dat.after 1 t = blkOf m c 1 t) (t : Fin cfgI.N) (d) : dat.before 1 t d = blkOf m c 1 t :=
  (dat.before_in_eq_fetched 1 rfl (fun _ => rfl) (fun _ _ _ => rfl) (fun t => by rw [hafter]; unfold Dat.blockOf blkOf; rw [hA]; try rfl) t d).trans
    (by unfold Dat.fetched Dat.blockOf blkOf; rw [hA]; try rfl)
theorem before_2 {c : Dev nD} (dat : Dat τ (Elt Ideal) Unit ℕ (UR sig nD τ) ℕ cfgI c) (hA : dat.A 2 = V m c (Pipeline.arrRef spec0 2))
    (hafter : ∀ t, dat.after 2 t = blkOf m c 2 t) (t : Fin cfgI.N) (d) : dat.before 2 t d = blkOf m c 2 t :=
  (dat.before_in_eq_fetched 2 rfl (fun _ => rfl) (fun _ _ _ => rfl) (fun t => by rw [hafter]; unfold Dat.blockOf blkOf; rw [hA]; try rfl) t d).trans
    (by unfold Dat.fetched Dat.blockOf blkOf; rw [hA]; try rfl)
theorem before_3 {c : Dev nD} (dat : Dat τ (Elt Ideal) Unit ℕ (UR sig nD τ) ℕ cfgI c) (hA : dat.A 3 = V m c (Pipeline.arrRef spec0 3))
    (hafter : ∀ t, dat.after 3 t = blkOf m c 3 t) (t : Fin cfgI.N) (d) : dat.before 3 t d = blkOf m c 3 t :=
  (dat.before_in_eq_fetched 3 rfl (fun _ => rfl) (fun _ _ _ => rfl) (fun t => by rw [hafter]; unfold Dat.blockOf blkOf; rw [hA]; try rfl) t d).trans
    (by unfold Dat.fetched Dat.blockOf blkOf; rw [hA]; try rfl)
theorem before_4 {c : Dev nD} (dat : Dat τ (Elt Ideal) Unit ℕ (UR sig nD τ) ℕ cfgI c) (hA : dat.A 4 = V m c (Pipeline.arrRef spec0 4))
    (hafter : ∀ t, dat.after 4 t = blkOf m c 4 t) (t : Fin cfgI.N) (d) : dat.before 4 t d = blkOf m c 4 t :=
  (dat.before_in_eq_fetched 4 rfl (fun _ => rfl) (fun _ _ _ => rfl) (fun t => by rw [hafter]; unfold Dat.blockOf blkOf; rw [hA]; try rfl) t d).trans
    (by unfold Dat.fetched Dat.blockOf blkOf; rw [hA]; try rfl)
theorem before_5 {c : Dev nD} (dat : Dat τ (Elt Ideal) Unit ℕ (UR sig nD τ) ℕ cfgI c) (hA : dat.A 5 = V m c (Pipeline.arrRef spec0 5))
    (hafter : ∀ t, dat.after 5 t = blkOf m c 5 t) (t : Fin cfgI.N) (d) : dat.before 5 t d = blkOf m c 5 t :=
  (dat.before_in_eq_fetched 5 rfl (fun _ => rfl) (fun _ _ _ => rfl) (fun t => by rw [hafter]; unfold Dat.blockOf blkOf; rw [hA]; try rfl) t d).trans
    (by unfold Dat.fetched Dat.blockOf blkOf; rw [hA]; try rfl)
theorem before_6 {c : Dev nD} (dat : Dat τ (Elt Ideal) Unit ℕ (UR sig nD τ) ℕ cfgI c) (hA : dat.A 6 = V m c (Pipeline.arrRef spec0 6))
    (hafter : ∀ t, dat.after 6 t = blkOf m c 6 t) (t : Fin cfgI.N) (d) : dat.before 6 t d = blkOf m c 6 t :=
  (dat.before_in_eq_fetched 6 rfl (fun _ => rfl) (fun _ _ _ => rfl) (fun t => by rw [hafter]; unfold Dat.blockOf blkOf; rw [hA]; try rfl) t d).trans
    (by unfold Dat.fetched Dat.blockOf blkOf; rw [hA]; try rfl)
theorem before_7 {c : Dev nD} (dat : Dat τ (Elt Ideal) Unit ℕ (UR sig nD τ) ℕ cfgI c) (hA : dat.A 7 = V m c (Pipeline.arrRef spec0 7))
    (hafter : ∀ t, dat.after 7 t = blkOf m c 7 t) (t : Fin cfgI.N) (d) : dat.before 7 t d = blkOf m c 7 t :=
  (dat.before_in_eq_fetched 7 rfl (fun _ => rfl) (fun _ _ _ => rfl) (fun t => by rw [hafter]; unfold Dat.blockOf blkOf; rw [hA]; try rfl) t d).trans
    (by unfold Dat.fetched Dat.blockOf blkOf; rw [hA]; try rfl)

theorem unchanged_of (dats : (p : Fin 1) → (c : Dev nD) → Dat τ (Elt Ideal) Unit ℕ (UR sig nD τ) ℕ (cfgs (F := Ideal) p) c)
    (h : θ_run defs (onTc (τ := τ) (main (F := Ideal))) (s₀ m ρ) (Pipeline.FramePost (cfgs (F := Ideal)) dats 0 (Pipeline.afterTail₀ (cfgs (F := Ideal)) dats 0 (V0 m) opss1))) :
    θ_run defs (onTc (τ := τ) (main (F := Ideal))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (Pipeline.mem_restRefs_of main_arg0 (by decide) (by decide))).trans (W_arg m dats c)) h

theorem live_0 : ∀ t : Fin cfgI.N, cfgI.idle 0 (grid0.coords t) = false := fun _ => rfl
abbrev ms_0 (t : Fin cfgI.N) : Memref sig .tc .vmem S1x6016x1 .f32 := win0_0.stage (cfgI.slots t 0)
abbrev hs_0 (t : Fin cfgI.N) : (ms_0 t).IsWhole := hstage0_0 ((cfgI.slots t 0).cast nbuf0_0)
theorem live_1 : ∀ t : Fin cfgI.N, cfgI.idle 1 (grid0.coords t) = false := fun _ => rfl
abbrev ms_1 (t : Fin cfgI.N) : Memref sig .tc .vmem S1x6016x1 .f32 := win0_1.stage (cfgI.slots t 1)
abbrev hs_1 (t : Fin cfgI.N) : (ms_1 t).IsWhole := hstage0_1 ((cfgI.slots t 1).cast nbuf0_1)
theorem live_2 : ∀ t : Fin cfgI.N, cfgI.idle 2 (grid0.coords t) = false := fun _ => rfl
abbrev ms_2 (t : Fin cfgI.N) : Memref sig .tc .vmem S1x6016x1 .f32 := win0_2.stage (cfgI.slots t 2)
abbrev hs_2 (t : Fin cfgI.N) : (ms_2 t).IsWhole := hstage0_2 ((cfgI.slots t 2).cast nbuf0_2)
theorem live_3 : ∀ t : Fin cfgI.N, cfgI.idle 3 (grid0.coords t) = false := fun _ => rfl
abbrev ms_3 (t : Fin cfgI.N) : Memref sig .tc .vmem S1x6016x1 .f32 := win0_3.stage (cfgI.slots t 3)
abbrev hs_3 (t : Fin cfgI.N) : (ms_3 t).IsWhole := hstage0_3 ((cfgI.slots t 3).cast nbuf0_3)
theorem live_4 : ∀ t : Fin cfgI.N, cfgI.idle 4 (grid0.coords t) = false := fun _ => rfl
abbrev ms_4 (t : Fin cfgI.N) : Memref sig .tc .vmem S1x47x128 .f32 := win0_4.stage (cfgI.slots t 4)
abbrev hs_4 (t : Fin cfgI.N) : (ms_4 t).IsWhole := hstage0_4 ((cfgI.slots t 4).cast nbuf0_4)
theorem live_5 : ∀ t : Fin cfgI.N, cfgI.idle 5 (grid0.coords t) = false := fun _ => rfl
abbrev ms_5 (t : Fin cfgI.N) : Memref sig .tc .vmem S1x47x128 .f32 := win0_5.stage (cfgI.slots t 5)
abbrev hs_5 (t : Fin cfgI.N) : (ms_5 t).IsWhole := hstage0_5 ((cfgI.slots t 5).cast nbuf0_5)
theorem live_6 : ∀ t : Fin cfgI.N, cfgI.idle 6 (grid0.coords t) = false := fun _ => rfl
abbrev ms_6 (t : Fin cfgI.N) : Memref sig .tc .vmem S1x47x128 .f32 := win0_6.stage (cfgI.slots t 6)
abbrev hs_6 (t : Fin cfgI.N) : (ms_6 t).IsWhole := hstage0_6 ((cfgI.slots t 6).cast nbuf0_6)
theorem live_7 : ∀ t : Fin cfgI.N, cfgI.idle 7 (grid0.coords t) = false := fun _ => rfl
abbrev ms_7 (t : Fin cfgI.N) : Memref sig .tc .vmem S1x47x128 .f32 := win0_7.stage (cfgI.slots t 7)
abbrev hs_7 (t : Fin cfgI.N) : (ms_7 t).IsWhole := hstage0_7 ((cfgI.slots t 7).cast nbuf0_7)
theorem live_8 : ∀ t : Fin cfgI.N, cfgI.idle 8 (grid0.coords t) = false := fun _ => rfl
abbrev ms_8 (t : Fin cfgI.N) : Memref sig .tc .vmem S1x47x128 .f32 := win0_8.stage (cfgI.slots t 8)
abbrev hs_8 (t : Fin cfgI.N) : (ms_8 t).IsWhole := hstage0_8 ((cfgI.slots t 8).cast nbuf0_8)

abbrev scr : Memref sig .tc .vmem S47x128 .f32 := Memref.whole cc0_scratch0

/-- The region's invariant: the scratch at anything, and the random-number register. -/
theorem inv_eq (c : Dev nD) :
    (Pipeline.ΦA spec0 c : sProp 𝕄)
      = iprop(iprop((∃ d, owns (c : Thread nD τ) scr fullShare d)) ∗ (∃ r, prngReg c r)) := by
  unfold Pipeline.ΦA; rw [scoped_rest]; simp only [scr, owns_whole]; try rfl

/-- The body at point `t`'s slots. -/
abbrev bodyAt (t : Fin cfgI.N) : Prog (TpuEff nD τ sig (Elt Ideal) (Λ₀ Ideal) .tc) PUnit :=
  cc0__nms_body (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) scr (Memref.isWhole_whole _)

theorem defs_row (t : Fin cfgI.N) :
    defs₀ (F := Ideal) .tc cfgI.body (cfgI.bodyArgs t (cfgI.slots t)) = bodyAt t := by
  unfold defs₀; rw [Defs.onTc_tc]

end Cert.Kernel2Ideal.At

end
-- ==== Proof.Nms.Label.lean ====
/- The fixed-point iteration inside a block of 128 boxes. The overlap matrix is strictly upper triangular, so a lane's
   new state depends on the earlier lanes only: 128 steps from anything reach one and the same state, the only fixed
   point. The loop that stops when nothing changes therefore stops, and at that state. -/
module

public import proofs.«01_k».proof.Proof.Nms.Launch
public import Idealize.ShloMosaic.Lib.Pointwise

@[expose] public section

noncomputable section

namespace Cert.Kernel2Ideal.At

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

theorem row_idx (x : S1x128.Idx) : x = ix2 0 (x 1) :=
  (eq_ix2 x).trans (congrArg (fun p : Fin 1 => (ix2 p (x 1) : S1x128.Idx)) (Subsingleton.elim (α := Fin 1) (x 0) 0))

/-- Two lane vectors agree on the first `k` lanes. -/
def Agree (k : ℕ) (a b : FVec Ideal S1x128 .f32) : Prop := ∀ j : Fin 128, j.val < k → a (ix2 0 j) = b (ix2 0 j)

theorem Agree.eq {a b : FVec Ideal S1x128 .f32} (h : Agree 128 a b) : a = b := by
  funext x
  rw [row_idx x]
  exact h _ (x 1).isLt

/-- A matrix with nothing on or below the diagonal. -/
def Upper (S : FVec Ideal S128x128 .f32) : Prop := ∀ i j : Fin 128, j.val ≤ i.val → S (ix2 i j) = 0

theorem step_at (S : FVec Ideal S128x128 .f32) (v a : FVec Ideal S1x128 .f32) (j : Fin 128) :
    k0_pay8 S v a (ix2 0 j) = if (0 : EReal) < 0 + ∑ k : Fin 128, a (ix2 0 k) * S (ix2 k j) then 0 else v (ix2 0 j) := by
  unfold k0_pay8
  simp only [pointwise]

theorem step_agree {S : FVec Ideal S128x128 .f32} (hS : Upper S) (v : FVec Ideal S1x128 .f32) {k : ℕ}
    {a b : FVec Ideal S1x128 .f32} (h : Agree k a b) : Agree (k + 1) (k0_pay8 S v a) (k0_pay8 S v b) := by
  intro j hj
  rw [step_at, step_at]
  have e : ∑ k : Fin 128, a (ix2 0 k) * S (ix2 k j) = ∑ k : Fin 128, b (ix2 0 k) * S (ix2 k j) := by
    refine Finset.sum_congr rfl fun i _ => ?_
    by_cases hi : j.val ≤ i.val
    · rw [hS i j hi, mul_zero, mul_zero]
    · rw [h i (by omega)]
  rw [e]

theorem iterate_agree {S : FVec Ideal S128x128 .f32} (hS : Upper S) (v a b : FVec Ideal S1x128 .f32) (k : ℕ) :
    Agree k ((k0_pay8 S v)^[k] a) ((k0_pay8 S v)^[k] b) := by
  induction k with
  | zero => exact fun j hj => absurd hj (Nat.not_lt_zero _)
  | succ k ih => rw [Function.iterate_succ_apply', Function.iterate_succ_apply']; exact step_agree hS v ih

/-- The state the iteration stops at. -/
def sol (S : FVec Ideal S128x128 .f32) (v : FVec Ideal S1x128 .f32) : FVec Ideal S1x128 .f32 := (k0_pay8 S v)^[128] v

theorem sol_fixed {S : FVec Ideal S128x128 .f32} (hS : Upper S) (v : FVec Ideal S1x128 .f32) :
    k0_pay8 S v (sol S v) = sol S v := by
  unfold sol
  rw [← Function.iterate_succ_apply' (k0_pay8 S v) 128 v, Function.iterate_succ_apply]
  exact (iterate_agree hS v _ _ 128).eq

theorem agree_of_fixed {S : FVec Ideal S128x128 .f32} (hS : Upper S) (v : FVec Ideal S1x128 .f32)
    {a b : FVec Ideal S1x128 .f32} (ha : k0_pay8 S v a = a) (hb : k0_pay8 S v b = b) : a = b := by
  have h : ∀ k, Agree k a b := by
    intro k
    induction k with
    | zero => exact fun j hj => absurd hj (Nat.not_lt_zero _)
    | succ k ih => rw [← ha, ← hb]; exact step_agree hS v ih
  exact (h 128).eq

/-- The flag says whether the step changed anything. -/
theorem flag_iff (S : FVec Ideal S128x128 .f32) (v a : FVec Ideal S1x128 .f32) :
    Scalar.cmpf (F := Ideal) .ogt (k0_pay9 S v a) (Scalar.ofBits .f32 0x00000000#32) = 1#1 ↔ k0_pay8 S v a ≠ a := by
  have e : k0_pay9 S v a = Finset.fold max (Ideal.ofBits FTy.f32 4286578688#32)
      (fun x : Fin 1 × Fin 128 => if k0_pay8 S v a (ix2 0 x.2) ≠ a (ix2 0 x.2) then (1 : EReal) else 0) Finset.univ := by
    unfold k0_pay9
    simp only [pointwise]
  rw [e]
  have hb : Ideal.ofBits FTy.f32 4286578688#32 ≤ 0 := by
    rw [show Ideal.ofBits FTy.f32 4286578688#32 = ⊥ by simp [Ideal.ofBits, Ideal.ieee]]
    exact bot_le
  have hz : (Scalar.ofBits (F := Ideal) .f32 0x00000000#32) = (0 : EReal) := by
    simp only [pointwise]
  rw [hz, show ∀ x : EReal, Scalar.cmpf (F := Ideal) (φ := .f32) .ogt x (0 : EReal) = BitVec.ofBool (decide (0 < x)) from fun x => rfl]
  rw [show ∀ p : Prop, ∀ [Decidable p], (BitVec.ofBool (decide p) = 1#1 ↔ p) from fun p _ => by
    by_cases hp : p <;> simp [hp]]
  rw [Finset.lt_fold_max]
  constructor
  · rintro (h | ⟨x, -, h⟩) hEq
    · exact absurd h (not_lt.2 hb)
    · rw [if_neg (by rw [hEq]; simp)] at h
      exact lt_irrefl _ h
  · intro hne
    right
    by_contra hcon
    apply hne
    have hj : ∀ j : Fin 128, k0_pay8 S v a (ix2 0 j) = a (ix2 0 j) := fun j => by
      by_contra hx
      exact hcon ⟨(0, j), Finset.mem_univ _, by rw [if_pos hx]; exact zero_lt_one⟩
    funext x
    rw [row_idx x]
    exact hj _

section Spec

variable (c : Dev nD) (i : grid0.Coords) (t : Fin k0_t1_loop.trips)

/-- The iteration returns the state `sol`, whatever the flag. -/
def spec (S : FVec Ideal S128x128 .f32) (v : FVec Ideal S1x128 .f32) : sWPT 𝕄 (FVec Ideal S1x128 .f32 × BitVec 1) := do
  let r ← sWPT.arbitrary
  sWPT.assume (r.1 = sol S v)
  pure r

theorem spec_apply (S : FVec Ideal S128x128 .f32) (v : FVec Ideal S1x128 .f32) (K : FVec Ideal S1x128 .f32 × BitVec 1 → sProp 𝕄) :
    spec S v K = iprop(∀ r : FVec Ideal S1x128 .f32 × BitVec 1, ⌜r.1 = sol S v⌝ -∗ K r) := rfl

theorem spec_le {S : FVec Ideal S128x128 .f32} (hS : Upper S) (v : FVec Ideal S1x128 .f32) (E : Set ℕ) :
    ∀ n (a : FVec Ideal S1x128 .f32) (b : BitVec 1),
      (b = 1#1 → ∃ k ≤ 128, Agree k a (sol S v) ∧ 129 ≤ n + k) → (b ≠ 1#1 → a = sol S v) → ∀ K, spec S v K
      ⊢ wp frame (wpE (defs₀ (F := Ideal)) Variants.nat (c : Thread nD τ) (some n)) E
          (defs₀ (F := Ideal) .tc 1 ⟨i, t, S, v, a, b⟩) K := by
  intro n
  induction n with
  | zero =>
    intro a b h1 h2 K
    have hb : b ≠ 1#1 := fun hb => by obtain ⟨k, hk, -, h⟩ := h1 hb; omega
    rw [spec_apply]
    show _ ⊢ wp frame (wpE (defs₀ (F := Ideal)) Variants.nat (c : Thread nD τ) (some 0)) E (cc0_while1 i t S v a b) K
    simp only [cc0_while1_eq_skeleton]; unfold cc0_while1_skel
    simp only [hb, ↓reduceIte, Prog.pure_eq_ret]
    iintro Hk
    rw [wp_ret]; imodintro
    iapply Hk
    ipureintro; exact h2 hb
  | succ n ih =>
    intro a b h1 h2 K
    rw [spec_apply]
    show _ ⊢ wp frame (wpE (defs₀ (F := Ideal)) Variants.nat (c : Thread nD τ) (some (n + 1))) E (cc0_while1 i t S v a b) K
    simp only [cc0_while1_eq_skeleton]; unfold cc0_while1_skel
    by_cases hb : b = 1#1
    · simp only [hb, ↓reduceIte, Prog.lift, Prog.bind_op, Prog.bind_ret, Prog.pure_eq_ret]
      obtain ⟨k, hk, hag, hn⟩ := h1 hb
      iintro Hk
      iapply (wp_call_spec Variants.nat (c : Thread nD τ) (some (n + 1)) E (spec S v) n
        (fun u hu => by cases hu; exact Nat.lt_succ_self n) (ih (k0_pay8 S v a) _
          (fun hf => by
            have hne := (flag_iff S v a).1 hf
            have hk' : k ≠ 128 := fun hk' => hne (by
              have ha : a = sol S v := (hk' ▸ hag).eq
              rw [ha]; exact sol_fixed hS v)
            refine ⟨k + 1, by omega, ?_, by omega⟩
            have := step_agree hS v hag
            rwa [sol_fixed hS v] at this)
          (fun hf => by
            have hfix : k0_pay8 S v a = a := by
              by_contra hne
              exact hf ((flag_iff S v a).2 hne)
            rw [hfix]
            exact agree_of_fixed hS v hfix (sol_fixed hS v))))
      rw [spec_apply]
      iintro %r %hr
      rw [wp_ret]; imodintro
      iapply Hk
      ipureintro; exact hr
    · simp only [hb, ↓reduceIte, Prog.pure_eq_ret]
      iintro Hk
      rw [wp_ret]; imodintro
      iapply Hk
      ipureintro; exact h2 hb

end Spec

end Cert.Kernel2Ideal.At

end
-- ==== Proof.Nms.Blocks.lean ====
/- What one image's suppression computes, block of 128 boxes by block: the states the blocks end in and the scratch
   that records which later boxes are suppressed. -/
module

public import proofs.«01_k».proof.Proof.Nms.Label
public import Idealize.ShloMosaic.Lib.WordCmp

@[expose] public section

noncomputable section

namespace Cert.Kernel2Ideal.At

open Cert.Kernel2Ideal Cert.Kernel2Ideal.Gen
open Idealize.ShloMosaic

/-- One image's boxes: the corners down a column, and the same corners in rows of 128. -/
structure Ins where
  r1 : S1x6016x1.Idx → Elt Ideal .f32
  r2 : S1x6016x1.Idx → Elt Ideal .f32
  r3 : S1x6016x1.Idx → Elt Ideal .f32
  r4 : S1x6016x1.Idx → Elt Ideal .f32
  c1 : S1x47x128.Idx → Elt Ideal .f32
  c2 : S1x47x128.Idx → Elt Ideal .f32
  c3 : S1x47x128.Idx → Elt Ideal .f32
  c4 : S1x47x128.Idx → Elt Ideal .f32

theorem trips_eq : k0_t1_loop.trips = 47 := by decide +kernel

/-- The 128 entries of block `t` of a column. -/
def ld1 (X : S1x6016x1.Idx → Elt Ideal .f32) (t : Fin k0_t1_loop.trips) : Vec Ideal S1x128x1 .f32 :=
  fun y => X ((Rect.unit (s := S1x6016x1) (k0_off1 t) S1x128x1.size (k0_off1_inb t)).emb y)
/-- Row `t`. -/
def ld2 (X : S1x47x128.Idx → Elt Ideal .f32) (t : Fin k0_t1_loop.trips) : Vec Ideal S1x1x128 .f32 :=
  fun y => X ((Rect.unit (s := S1x47x128) (k0_off2 t) S1x1x128.size (k0_off2_inb t)).emb y)
/-- Row `t` of the scratch. -/
def ld3 (X : S47x128.Idx → Elt Ideal .f32) (t : Fin k0_t1_loop.trips) : Vec Ideal S1x128 .f32 :=
  fun y => X ((Rect.unit (s := S47x128) (k0_off3 t) S1x128.size (k0_off3_inb t)).emb y)

variable (I : Ins)

/-- Which boxes of block `t` overlap which later boxes of it. -/
def stepS (t : Fin k0_t1_loop.trips) : FVec Ideal S128x128 .f32 :=
  k0_pay20 (k0_pay10 (ld1 I.r1 t)) (k0_pay11 (ld1 I.r2 t)) (k0_pay12 (ld1 I.r3 t)) (k0_pay13 (ld1 I.r4 t))
    (k0_pay14 (ld1 I.r1 t) (ld1 I.r2 t) (ld1 I.r3 t) (ld1 I.r4 t))
    (k0_pay15 (ld2 I.c1 t)) (k0_pay16 (ld2 I.c2 t)) (k0_pay17 (ld2 I.c3 t)) (k0_pay18 (ld2 I.c4 t))
    (k0_pay19 (ld2 I.c1 t) (ld2 I.c3 t))

/-- The boxes of block `t` no earlier block suppresses. -/
def initRow (t : Fin k0_t1_loop.trips) (sup : S47x128.Idx → Elt Ideal .f32) : FVec Ideal S1x128 .f32 :=
  k0_pay22 (k0_pay21 (Scf.iv 0#32 1#32 t)) (ld3 sup t)

/-- The boxes of block `t` that are kept. -/
def keepRow (t : Fin k0_t1_loop.trips) (sup : S47x128.Idx → Elt Ideal .f32) : FVec Ideal S1x128 .f32 :=
  sol (stepS I t) (initRow t sup)

/-- The scratch after block `t`. -/
def supNext (t : Fin k0_t1_loop.trips) (sup : S47x128.Idx → Elt Ideal .f32) : FVec Ideal S47x128 .f32 :=
  k0_pay7 (Scalar.muli (Scf.iv 0#32 1#32 t) 128#32) (keepRow I t sup)
    (k0_pay24 (k0_pay2 I.c1) (k0_pay3 I.c2) (k0_pay4 I.c3) (k0_pay5 I.c4) (k0_pay10 (ld1 I.r1 t)) (k0_pay11 (ld1 I.r2 t))
      (k0_pay12 (ld1 I.r3 t)) (k0_pay13 (ld1 I.r4 t)))
    (k0_pay25 (k0_pay14 (ld1 I.r1 t) (ld1 I.r2 t) (ld1 I.r3 t) (ld1 I.r4 t)))
    (k0_pay26 (k0_pay6 I.c1 I.c2 I.c3 I.c4)) sup

/-- The scratch after the first `n` blocks. -/
def supAt : ℕ → (S47x128.Idx → Elt Ideal .f32)
  | 0 => k0_pay1 (F := Ideal)
  | n + 1 => if h : n < k0_t1_loop.trips then supNext I ⟨n, h⟩ (supAt n) else supAt n

theorem supAt_succ (t : Fin k0_t1_loop.trips) : supAt I (t.val + 1) = supNext I t (supAt I t.val) := dif_pos t.isLt

/-- The image's result. -/
def outBlk : S1x47x128.Idx → Elt Ideal .f32 := fun y =>
  keepRow I ⟨(y 1).val, trips_eq.symm ▸ (y 1).isLt⟩ (supAt I (y 1).val) (ix2 0 (y 2))

theorem slt_small (a b : ℕ) (ha : a < 2147483648) (hb : b < 2147483648) :
    IntOp.cmpi .slt (BitVec.ofNat 32 a) (BitVec.ofNat 32 b) = BitVec.ofBool (decide (a < b)) := by
  by_cases h : a < b
  · rw [(WordCmp.cmpi_slt_ofNat_eq_one_iff (w := 32) (by simpa using ha) (by simpa using hb)).2 h]; simp [h]
  · rw [(WordCmp.cmpi_slt_ofNat_eq_zero_iff (w := 32) (by simpa using ha) (by simpa using hb)).2 (by omega)]; simp [h]

theorem iota_small (i j : Fin 128) :
    IntOp.cmpi .slt (BitVec.ofNat 32 (List.foldl (fun n a => n * (![128, 128] : Fin 2 → ℕ) a + ((ix2 i j : S128x128.Idx) a).val) 0 [0]))
      (BitVec.ofNat 32 (List.foldl (fun n a => n * (![128, 128] : Fin 2 → ℕ) a + ((ix2 i j : S128x128.Idx) a).val) 0 [1])) =
      BitVec.ofBool (decide (i.val < j.val)) := by
  rw [← slt_small _ _ (by omega) (by omega)]
  simp

theorem stepS_upper (t : Fin k0_t1_loop.trips) : Upper (stepS I t) := by
  intro i j hij
  unfold stepS k0_pay20
  simp only [pointwise]
  rw [iota_small, decide_eq_false (show ¬ i.val < j.val by omega)]
  rw [show ∀ x : BitVec 1, IntOp.andi x (BitVec.ofBool false) = 0#1 from by decide]
  rfl

end Cert.Kernel2Ideal.At

end
-- ==== Proof.Nms.Body.lean ====
/- The kernel's body: holding an image's eight input blocks, it leaves the image's result in the output block. -/
module

public import proofs.«01_k».proof.Proof.Nms.Blocks

@[expose] public section

set_option maxRecDepth 16384

noncomputable section

namespace Cert.Kernel2Ideal.At

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

theorem emb_whole2 (y : S47x128.Idx) :
    (Rect.unit (s := S47x128) ![0, 0] S47x128.size inb_S47x128_S47x128_0_0).emb y = y := by
  funext a; apply Fin.ext; rw [Rect.emb_apply]
  match a with
  | ⟨0, _⟩ => show 0 + 1 * _ = _; omega
  | ⟨1, _⟩ => show 0 + 1 * _ = _; omega
theorem emb_whole3 (y : S1x47x128.Idx) :
    (Rect.unit (s := S1x47x128) ![0, 0, 0] S1x47x128.size inb_S1x47x128_S1x47x128_0_0_0).emb y = y := by
  funext a; apply Fin.ext; rw [Rect.emb_apply]
  match a with
  | ⟨0, _⟩ => show 0 + 1 * _ = _; omega
  | ⟨1, _⟩ => show 0 + 1 * _ = _; omega
  | ⟨2, _⟩ => show 0 + 1 * _ = _; omega

/-- A store through part of a memref touches the memref's elements only. -/
theorem setOn_access_subset {sp : Space} {sh : Shape} {e : EltTy} (a : Memref sig .tc sp sh e) (r : Rect sh) (M : Finset r.shape.Idx) :
    (a.access r).setOn M ⊆ a.view.set :=
  (View.setOn_subset_set _ M).trans (View.set_slice_subset a.view r)

theorem row_at (I : Ins) (t : Fin k0_t1_loop.trips) (r : Fin 47) (h : r.val = t.val) (j : Fin 128) :
    k0_pay23 (keepRow I t (supAt I t.val)) (ix3 0 0 j) = outBlk I (ix3 0 r j) := by
  have e : k0_pay23 (keepRow I t (supAt I t.val)) (ix3 0 0 j) = keepRow I t (supAt I t.val) (ix2 0 j) := by
    unfold k0_pay23
    generalize keepRow I t (supAt I t.val) = w
    simp only [pointwise]
  rw [e]
  unfold outBlk
  obtain ⟨n, hn⟩ := t
  obtain rfl : r.val = n := h
  rfl

section Held

variable (a1 a2 a3 a4 : Memref sig .tc .vmem S1x6016x1 .f32) (a5 a6 a7 a8 a9 : Memref sig .tc .vmem S1x47x128 .f32)
  (a10 : Memref sig .tc .vmem S47x128 .f32)

theorem read_ld1 (a : Memref sig .tc .vmem S1x6016x1 .f32) (f : a.view.ty.Contents (Elt Ideal)) (X : S1x6016x1.Idx → Elt Ideal .f32)
    (h : a.view.read (Elt Ideal) f = X) (t : Fin k0_t1_loop.trips) :
    a.view.readAt (Elt Ideal) (Rect.unit (s := S1x6016x1) (k0_off1 t) S1x128x1.size (k0_off1_inb t)).toLoadRect f = ld1 X t := by
  subst h; rfl
theorem read_ld2 (a : Memref sig .tc .vmem S1x47x128 .f32) (f : a.view.ty.Contents (Elt Ideal)) (X : S1x47x128.Idx → Elt Ideal .f32)
    (h : a.view.read (Elt Ideal) f = X) (t : Fin k0_t1_loop.trips) :
    a.view.readAt (Elt Ideal) (Rect.unit (s := S1x47x128) (k0_off2 t) S1x1x128.size (k0_off2_inb t)).toLoadRect f = ld2 X t := by
  subst h; rfl
theorem read_ld3 (a : Memref sig .tc .vmem S47x128 .f32) (f : a.view.ty.Contents (Elt Ideal)) (X : S47x128.Idx → Elt Ideal .f32)
    (h : a.view.read (Elt Ideal) f = X) (t : Fin k0_t1_loop.trips) :
    a.view.readAt (Elt Ideal) (Rect.unit (s := S47x128) (k0_off3 t) S1x128.size (k0_off3_inb t)).toLoadRect f = ld3 X t := by
  subst h; rfl
theorem read_whole2 (a : Memref sig .tc .vmem S47x128 .f32) (f : a.view.ty.Contents (Elt Ideal)) (X : S47x128.Idx → Elt Ideal .f32)
    (h : a.view.read (Elt Ideal) f = X) :
    a.view.readAt (Elt Ideal) (Rect.unit (s := S47x128) ![0, 0] S47x128.size inb_S47x128_S47x128_0_0).toLoadRect f = X := by
  subst h
  exact funext fun y => congrArg (a.view.read (Elt Ideal) f) (emb_whole2 y)
theorem read_whole3 (a : Memref sig .tc .vmem S1x47x128 .f32) (f : a.view.ty.Contents (Elt Ideal)) (X : S1x47x128.Idx → Elt Ideal .f32)
    (h : a.view.read (Elt Ideal) f = X) :
    a.view.readAt (Elt Ideal) (Rect.unit (s := S1x47x128) ![0, 0, 0] S1x47x128.size inb_S1x47x128_S1x47x128_0_0_0).toLoadRect f = X := by
  subst h
  exact funext fun y => congrArg (a.view.read (Elt Ideal) f) (emb_whole3 y)
theorem read_store2 (a : Memref sig .tc .vmem S47x128 .f32) (f : a.view.ty.Contents (Elt Ideal)) (w : S47x128.Idx → Elt Ideal .f32) :
    a.view.read (Elt Ideal) ((a.access (Rect.unit (s := S47x128) ![0, 0] S47x128.size inb_S47x128_S47x128_0_0)).write (Elt Ideal) f w Finset.univ) = w := by
  funext y
  refine Eq.trans (congrArg _ (emb_whole2 y).symm) ?_
  exact View.read_slice_write_emb (Val := Elt Ideal) (v := a.view)
    (Rect.unit (s := S47x128) ![0, 0] S47x128.size inb_S47x128_S47x128_0_0) f w (Finset.mem_univ _)

/-- A row stored is read back, -/
theorem read_row_hit (a : Memref sig .tc .vmem S1x47x128 .f32) (f : a.view.ty.Contents (Elt Ideal)) (w : S1x1x128.Idx → Elt Ideal .f32)
    (t : Fin k0_t1_loop.trips) (r : Fin 47) (hr : r.val = t.val) (j : Fin 128) :
    a.view.read (Elt Ideal) ((a.access (Rect.unit (s := S1x47x128) (k0_off2 t) S1x1x128.size (k0_off2_inb t))).write (Elt Ideal) f w Finset.univ)
      (ix3 0 r j) = w (ix3 0 0 j) := by
  have e : (Rect.unit (s := S1x47x128) (k0_off2 t) S1x1x128.size (k0_off2_inb t)).emb (ix3 0 0 j) = ix3 0 r j := by
    funext b; apply Fin.ext; rw [Rect.emb_apply]
    match b with
    | ⟨0, _⟩ => show k0_off2 t 0 + 1 * 0 = 0; rw [k0_off2_eq]; rfl
    | ⟨1, _⟩ => show k0_off2 t 1 + 1 * 0 = r.val; rw [k0_off2_eq, hr]; rfl
    | ⟨2, _⟩ => show k0_off2 t 2 + 1 * j.val = j.val; rw [k0_off2_eq]; show 0 + 1 * j.val = j.val; omega
  rw [← e]
  exact View.read_slice_write_emb (Val := Elt Ideal) (v := a.view)
    (Rect.unit (s := S1x47x128) (k0_off2 t) S1x1x128.size (k0_off2_inb t)) f w (Finset.mem_univ _)

/-- and the other rows are as they were. -/
theorem read_row_miss (a : Memref sig .tc .vmem S1x47x128 .f32) (f : a.view.ty.Contents (Elt Ideal)) (w : S1x1x128.Idx → Elt Ideal .f32)
    (t : Fin k0_t1_loop.trips) (r : Fin 47) (hr : r.val ≠ t.val) (j : Fin 128) :
    a.view.read (Elt Ideal) ((a.access (Rect.unit (s := S1x47x128) (k0_off2 t) S1x1x128.size (k0_off2_inb t))).write (Elt Ideal) f w Finset.univ)
      (ix3 0 r j) = a.view.read (Elt Ideal) f (ix3 0 r j) := by
  apply View.read_slice_write_of_not_mem
  intro hm
  obtain ⟨x, _, hx⟩ := Finset.mem_map.mp hm
  have h1 := congrArg (fun i : S1x47x128.Idx => (i 1 : ℕ)) hx
  simp only [Rect.emb_apply] at h1
  have h2 : k0_off2 t 1 + 1 * (x 1).val = r.val := h1
  have h3 : (x 1).val < 1 := (x 1).isLt
  have h4 : k0_off2 t 1 = t.val := by rw [k0_off2_eq]; rfl
  omega

variable (c : Dev nD)
  (f1 : a1.view.ty.Contents (Elt Ideal)) (f2 : a2.view.ty.Contents (Elt Ideal)) (f3 : a3.view.ty.Contents (Elt Ideal)) (f4 : a4.view.ty.Contents (Elt Ideal))
  (f5 : a5.view.ty.Contents (Elt Ideal)) (f6 : a6.view.ty.Contents (Elt Ideal)) (f7 : a7.view.ty.Contents (Elt Ideal)) (f8 : a8.view.ty.Contents (Elt Ideal))
  (I : Ins)

/-- What the loop holds after `n` blocks: the inputs as they were, the rows written so far, the scratch. -/
def inv (n : ℕ) : sProp 𝕄 :=
  iprop((a1.view.loc (c : Thread nD τ) ↦[a1.view.set]{fullShare} f1) ∗ (a2.view.loc (c : Thread nD τ) ↦[a2.view.set]{fullShare} f2)
    ∗ (a3.view.loc (c : Thread nD τ) ↦[a3.view.set]{fullShare} f3) ∗ (a4.view.loc (c : Thread nD τ) ↦[a4.view.set]{fullShare} f4)
    ∗ (a5.view.loc (c : Thread nD τ) ↦[a5.view.set]{fullShare} f5) ∗ (a6.view.loc (c : Thread nD τ) ↦[a6.view.set]{fullShare} f6)
    ∗ (a7.view.loc (c : Thread nD τ) ↦[a7.view.set]{fullShare} f7) ∗ (a8.view.loc (c : Thread nD τ) ↦[a8.view.set]{fullShare} f8)
    ∗ (∃ f9, ⌜∀ r : Fin 47, r.val < n → ∀ j : Fin 128, a9.view.read (Elt Ideal) f9 (ix3 0 r j) = outBlk I (ix3 0 r j)⌝
        ∗ (a9.view.loc (c : Thread nD τ) ↦[a9.view.set]{fullShare} f9))
    ∗ (∃ f10, ⌜a10.view.read (Elt Ideal) f10 = supAt I n⌝ ∗ (a10.view.loc (c : Thread nD τ) ↦[a10.view.set]{fullShare} f10)))

variable (i : grid0.Coords) (h1 : a1.IsWhole) (h2 : a2.IsWhole) (h3 : a3.IsWhole) (h4 : a4.IsWhole) (h5 : a5.IsWhole)
  (h6 : a6.IsWhole) (h7 : a7.IsWhole) (h8 : a8.IsWhole) (h9 : a9.IsWhole) (h10 : a10.IsWhole)
  (e1 : a1.view.read (Elt Ideal) f1 = I.r1) (e2 : a2.view.read (Elt Ideal) f2 = I.r2)
  (e3 : a3.view.read (Elt Ideal) f3 = I.r3) (e4 : a4.view.read (Elt Ideal) f4 = I.r4)
  (e5 : a5.view.read (Elt Ideal) f5 = I.c1) (e6 : a6.view.read (Elt Ideal) f6 = I.c2)
  (e7 : a7.view.read (Elt Ideal) f7 = I.c3) (e8 : a8.view.read (Elt Ideal) f8 = I.c4)

include e1 e2 e3 e4 e5 e6 e7 e8 in
set_option maxHeartbeats 1600000 in
theorem trip (t : Fin k0_t1_loop.trips) :
    inv a1 a2 a3 a4 a5 a6 a7 a8 a9 a10 c f1 f2 f3 f4 f5 f6 f7 f8 I t.val
      ⊢ wp frame (wpE (defs₀ (F := Ideal)) Variants.nat (c : Thread nD τ) none) Set.univ
          (k0_t1_body (F := Ideal) i a1 h1 a2 h2 a3 h3 a4 h4 a5 h5 a6 h6 a7 h7 a8 h8 a9 h9 a10 h10 I.c1 I.c2 I.c3 I.c4 t ⟨⟩)
          (fun _ => inv a1 a2 a3 a4 a5 a6 a7 a8 a9 a10 c f1 f2 f3 f4 f5 f6 f7 f8 I (t.val + 1)) := by
  unfold k0_t1_body
  simp only [k0_part1_eq_skeleton, k0_part2_eq_skeleton, k0_part3_eq_skeleton]
  unfold k0_part1_skel k0_part2_skel k0_part3_skel
  simp only [Prog.lift, Prog.bind_op, Prog.bind_ret, Prog.pure_eq_ret]
  unfold inv
  iintro ⟨H1, H2, H3, H4, H5, H6, H7, H8, ⟨%f9, %e9, H9⟩, ⟨%f10, %e10, H10⟩⟩
  iapply (wp_load Variants.nat (c : Thread nD τ) none Set.univ (m := a1) (View.setOn_subset_set ..)) $$ H1; iintro H1
  rw [read_ld1 a1 f1 I.r1 e1 t]
  iapply (wp_load Variants.nat (c : Thread nD τ) none Set.univ (m := a2) (View.setOn_subset_set ..)) $$ H2; iintro H2
  rw [read_ld1 a2 f2 I.r2 e2 t]
  iapply (wp_load Variants.nat (c : Thread nD τ) none Set.univ (m := a3) (View.setOn_subset_set ..)) $$ H3; iintro H3
  rw [read_ld1 a3 f3 I.r3 e3 t]
  iapply (wp_load Variants.nat (c : Thread nD τ) none Set.univ (m := a4) (View.setOn_subset_set ..)) $$ H4; iintro H4
  rw [read_ld1 a4 f4 I.r4 e4 t]
  iapply (wp_load Variants.nat (c : Thread nD τ) none Set.univ (m := a5) (View.setOn_subset_set ..)) $$ H5; iintro H5
  rw [read_ld2 a5 f5 I.c1 e5 t]
  iapply (wp_load Variants.nat (c : Thread nD τ) none Set.univ (m := a6) (View.setOn_subset_set ..)) $$ H6; iintro H6
  rw [read_ld2 a6 f6 I.c2 e6 t]
  iapply (wp_load Variants.nat (c : Thread nD τ) none Set.univ (m := a7) (View.setOn_subset_set ..)) $$ H7; iintro H7
  rw [read_ld2 a7 f7 I.c3 e7 t]
  iapply (wp_load Variants.nat (c : Thread nD τ) none Set.univ (m := a8) (View.setOn_subset_set ..)) $$ H8; iintro H8
  rw [read_ld2 a8 f8 I.c4 e8 t]
  iapply (wp_load Variants.nat (c : Thread nD τ) none Set.univ (m := a10) (View.setOn_subset_set ..)) $$ H10; iintro H10
  rw [read_ld3 a10 f10 _ e10 t]
  iapply (wp_call_spec Variants.nat (c : Thread nD τ) none Set.univ (spec (stepS I t) (initRow t (supAt I t.val))) 129 (fun u hu => nomatch hu)
    (spec_le c i t (stepS_upper I t) (initRow t (supAt I t.val)) Set.univ 129 (initRow t (supAt I t.val)) 1#1
      (fun _ => ⟨0, by omega, fun j hj => absurd hj (Nat.not_lt_zero _), by omega⟩) (fun h => absurd rfl h)))
  rw [spec_apply]
  iintro %r %hr
  obtain ⟨r1, r2⟩ := r
  obtain rfl : r1 = _ := hr
  iapply (wp_load Variants.nat (c : Thread nD τ) none Set.univ (m := a9) (View.setOn_subset_set ..)) $$ H9; iintro H9
  iapply (wp_store Variants.nat (c : Thread nD τ) none Set.univ (m := a9) (r := Rect.unit (s := S1x47x128) (k0_off2 t) S1x1x128.size (k0_off2_inb t)) (Mk := Finset.univ) (setOn_access_subset ..)) $$ H9; iintro H9
  iapply (wp_load Variants.nat (c : Thread nD τ) none Set.univ (m := a10) (View.setOn_subset_set ..)) $$ H10; iintro H10
  rw [read_whole2 a10 f10 _ e10]
  iapply (wp_load Variants.nat (c : Thread nD τ) none Set.univ (m := a10) (View.setOn_subset_set ..)) $$ H10; iintro H10
  iapply (wp_store Variants.nat (c : Thread nD τ) none Set.univ (m := a10) (r := Rect.unit (s := S47x128) ![0, 0] S47x128.size inb_S47x128_S47x128_0_0) (Mk := Finset.univ) (setOn_access_subset ..)) $$ H10; iintro H10
  dsimp only
  rw [show k0_pay7 (Scalar.muli (Scf.iv 0#32 1#32 t.val) 128#32) (sol (stepS I t) (initRow t (supAt I t.val))) _ _ _ (supAt I t.val)
      = supNext I t (supAt I t.val) from rfl,
    show sol (stepS I t) (initRow t (supAt I t.val)) = keepRow I t (supAt I t.val) from rfl]
  rw [wp_ret]; imodintro
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists ((a9.access (Rect.unit (s := S1x47x128) (k0_off2 t) S1x1x128.size (k0_off2_inb t))).write (Elt Ideal) f9
      (k0_pay23 (keepRow I t (supAt I t.val))) Finset.univ)
    isplitr
    · ipureintro
      intro r hr j
      by_cases h : r.val = t.val
      · rw [read_row_hit a9 f9 _ t r h j]
        exact row_at I t r h j
      · rw [read_row_miss a9 f9 _ t r h j]
        exact e9 r (by omega) j
    · iexact H9
  · iexists ((a10.access (Rect.unit (s := S47x128) ![0, 0] S47x128.size inb_S47x128_S47x128_0_0)).write (Elt Ideal) f10
      (supNext I t (supAt I t.val)) Finset.univ)
    isplitr
    · ipureintro
      rw [supAt_succ]
      exact read_store2 a10 f10 _
    · iexact H10

include e1 e2 e3 e4 e5 e6 e7 e8 in
theorem loop_wp :
    inv a1 a2 a3 a4 a5 a6 a7 a8 a9 a10 c f1 f2 f3 f4 f5 f6 f7 f8 I 0
      ⊢ wp frame (wpE (defs₀ (F := Ideal)) Variants.nat (c : Thread nD τ) none) Set.univ
          (Scf.Loop.for k0_t1_loop k0_t1_ok ⟨⟩
            (k0_t1_body (F := Ideal) i a1 h1 a2 h2 a3 h3 a4 h4 a5 h5 a6 h6 a7 h7 a8 h8 a9 h9 a10 h10 I.c1 I.c2 I.c3 I.c4))
          (fun _ => inv a1 a2 a3 a4 a5 a6 a7 a8 a9 a10 c f1 f2 f3 f4 f5 f6 f7 f8 I k0_t1_loop.trips) := by
  have h := Scf.wp_for (M := 𝕄) frame (wpE (defs₀ (F := Ideal)) Variants.nat (c : Thread nD τ) none) Set.univ k0_t1_loop.lb k0_t1_loop.ub
    k0_t1_loop.st k0_t1_ok (⟨⟩ : PUnit)
    (k0_t1_body (F := Ideal) i a1 h1 a2 h2 a3 h3 a4 h4 a5 h5 a6 h6 a7 h7 a8 h8 a9 h9 a10 h10 I.c1 I.c2 I.c3 I.c4)
    (fun n _ => inv a1 a2 a3 a4 a5 a6 a7 a8 a9 a10 c f1 f2 f3 f4 f5 f6 f7 f8 I n)
    (fun t _ => trip a1 a2 a3 a4 a5 a6 a7 a8 a9 a10 c f1 f2 f3 f4 f5 f6 f7 f8 I i h1 h2 h3 h4 h5 h6 h7 h8 h9 h10 e1 e2 e3 e4 e5 e6 e7 e8 t)
    (Q := fun _ => inv a1 a2 a3 a4 a5 a6 a7 a8 a9 a10 c f1 f2 f3 f4 f5 f6 f7 f8 I k0_t1_loop.trips)
  refine BIBase.Entails.trans ?_ h
  iintro H
  isplitl [H]
  · iexact H
  · iintro %acc H
    iexact H

include e1 e2 e3 e4 e5 e6 e7 e8 in
set_option maxHeartbeats 800000 in
theorem body_wp :
    iprop((a1.view.loc (c : Thread nD τ) ↦[a1.view.set]{fullShare} f1) ∗ (a2.view.loc (c : Thread nD τ) ↦[a2.view.set]{fullShare} f2)
    ∗ (a3.view.loc (c : Thread nD τ) ↦[a3.view.set]{fullShare} f3) ∗ (a4.view.loc (c : Thread nD τ) ↦[a4.view.set]{fullShare} f4)
    ∗ (a5.view.loc (c : Thread nD τ) ↦[a5.view.set]{fullShare} f5) ∗ (a6.view.loc (c : Thread nD τ) ↦[a6.view.set]{fullShare} f6)
    ∗ (a7.view.loc (c : Thread nD τ) ↦[a7.view.set]{fullShare} f7) ∗ (a8.view.loc (c : Thread nD τ) ↦[a8.view.set]{fullShare} f8)
    ∗ (∃ f9, (a9.view.loc (c : Thread nD τ) ↦[a9.view.set]{fullShare} f9))
    ∗ (∃ f10, (a10.view.loc (c : Thread nD τ) ↦[a10.view.set]{fullShare} f10)))
      ⊢ wp frame (wpE (defs₀ (F := Ideal)) Variants.nat (c : Thread nD τ) none) Set.univ
          (cc0__nms_body (F := Ideal) i a1 h1 a2 h2 a3 h3 a4 h4 a5 h5 a6 h6 a7 h7 a8 h8 a9 h9 a10 h10)
          (fun _ => inv a1 a2 a3 a4 a5 a6 a7 a8 a9 a10 c f1 f2 f3 f4 f5 f6 f7 f8 I k0_t1_loop.trips) := by
  simp only [cc0__nms_body_eq_skeleton]; unfold cc0__nms_body_skel
  simp only [Prog.lift, Prog.bind_op, Prog.bind_ret, Prog.pure_eq_ret]
  iintro ⟨H1, H2, H3, H4, H5, H6, H7, H8, ⟨%f9, H9⟩, ⟨%f10, H10⟩⟩
  iapply (wp_load Variants.nat (c : Thread nD τ) none Set.univ (m := a10) (View.setOn_subset_set ..)) $$ H10; iintro H10
  iapply (wp_store Variants.nat (c : Thread nD τ) none Set.univ (m := a10) (r := Rect.unit (s := S47x128) ![0, 0] S47x128.size inb_S47x128_S47x128_0_0) (Mk := Finset.univ) (setOn_access_subset ..)) $$ H10; iintro H10
  iapply (wp_load Variants.nat (c : Thread nD τ) none Set.univ (m := a5) (View.setOn_subset_set ..)) $$ H5; iintro H5
  rw [read_whole3 a5 f5 I.c1 e5]
  iapply (wp_load Variants.nat (c : Thread nD τ) none Set.univ (m := a6) (View.setOn_subset_set ..)) $$ H6; iintro H6
  rw [read_whole3 a6 f6 I.c2 e6]
  iapply (wp_load Variants.nat (c : Thread nD τ) none Set.univ (m := a7) (View.setOn_subset_set ..)) $$ H7; iintro H7
  rw [read_whole3 a7 f7 I.c3 e7]
  iapply (wp_load Variants.nat (c : Thread nD τ) none Set.univ (m := a8) (View.setOn_subset_set ..)) $$ H8; iintro H8
  rw [read_whole3 a8 f8 I.c4 e8]
  rw [wp_bind]
  iapply (wp_wand_r frame _ Set.univ)
  isplitl [H1 H2 H3 H4 H5 H6 H7 H8 H9 H10]
  · iapply (loop_wp a1 a2 a3 a4 a5 a6 a7 a8 a9 a10 c f1 f2 f3 f4 f5 f6 f7 f8 I i h1 h2 h3 h4 h5 h6 h7 h8 h9 h10 e1 e2 e3 e4 e5 e6 e7 e8)
    unfold inv
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists f9
      isplitr
      · ipureintro
        exact fun r hr => absurd hr (Nat.not_lt_zero _)
      · iexact H9
    · iexists ((a10.access (Rect.unit (s := S47x128) ![0, 0] S47x128.size inb_S47x128_S47x128_0_0)).write (Elt Ideal) f10
        (k0_pay1 (F := Ideal)) Finset.univ)
      isplitr
      · ipureintro
        exact read_store2 a10 f10 _
      · iexact H10
  · iintro %acc H
    rw [wp_ret]; imodintro
    iexact H

end Held

end Cert.Kernel2Ideal.At

end
-- ==== Proof.Nms.Run.lean ====
/- The suppression's launch: every run ends, leaves the argument, and the result array holds the images' results. -/
module

public import proofs.«01_k».proof.Proof.Nms.Body

@[expose] public section

set_option maxRecDepth 16384

noncomputable section

namespace Cert.Kernel2Ideal.At

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The image point `t` works on. -/
def ins (c : Dev nD) (t : Fin cfgI.N) : Ins :=
  ⟨blkOf m c 0 t, blkOf m c 1 t, blkOf m c 2 t, blkOf m c 3 t, blkOf m c 4 t, blkOf m c 5 t, blkOf m c 6 t, blkOf m c 7 t⟩

/-- The proof data: the arrays as the region is entered, the inputs staged, the result of each image. -/
def dats (_ : Fin 1) (c : Dev nD) : Dat τ (Elt Ideal) Unit ℕ (UR sig nD τ) ℕ cfgI c where
  A w := V m c (Pipeline.arrRef spec0 w)
  after w t := match w with
    | ⟨0, _⟩ => blkOf m c 0 t
    | ⟨1, _⟩ => blkOf m c 1 t
    | ⟨2, _⟩ => blkOf m c 2 t
    | ⟨3, _⟩ => blkOf m c 3 t
    | ⟨4, _⟩ => blkOf m c 4 t
    | ⟨5, _⟩ => blkOf m c 5 t
    | ⟨6, _⟩ => blkOf m c 6 t
    | ⟨7, _⟩ => blkOf m c 7 t
    | ⟨8, _⟩ => outBlk (ins m c t)
  Φ _ := Pipeline.ΦA spec0 c
  q _ := fullShare
  owed _ := 0

theorem A_eq (c : Dev nD) (w : Fin cfgI.W) : (dats m 0 c).A w = V m c (Pipeline.arrRef spec0 w) := rfl

theorem after_0 (c : Dev nD) (t : Fin cfgI.N) : (dats m 0 c).after 0 t = blkOf m c 0 t := by dsimp only [dats]
theorem after_1 (c : Dev nD) (t : Fin cfgI.N) : (dats m 0 c).after 1 t = blkOf m c 1 t := by dsimp only [dats]
theorem after_2 (c : Dev nD) (t : Fin cfgI.N) : (dats m 0 c).after 2 t = blkOf m c 2 t := by dsimp only [dats]
theorem after_3 (c : Dev nD) (t : Fin cfgI.N) : (dats m 0 c).after 3 t = blkOf m c 3 t := by dsimp only [dats]
theorem after_4 (c : Dev nD) (t : Fin cfgI.N) : (dats m 0 c).after 4 t = blkOf m c 4 t := by dsimp only [dats]
theorem after_5 (c : Dev nD) (t : Fin cfgI.N) : (dats m 0 c).after 5 t = blkOf m c 5 t := by dsimp only [dats]
theorem after_6 (c : Dev nD) (t : Fin cfgI.N) : (dats m 0 c).after 6 t = blkOf m c 6 t := by dsimp only [dats]
theorem after_7 (c : Dev nD) (t : Fin cfgI.N) : (dats m 0 c).after 7 t = blkOf m c 7 t := by dsimp only [dats]
theorem after_8 (c : Dev nD) (t : Fin cfgI.N) : (dats m 0 c).after 8 t = outBlk (ins m c t) := by dsimp only [dats]

def bodyPre (c : Dev nD) (t : Fin cfgI.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d)))

def bodyPost (c : Dev nD) (t : Fin cfgI.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- Written rows are the whole result. -/
theorem out_eq (I : Ins) (X : S1x47x128.Idx → Elt Ideal .f32)
    (h : ∀ r : Fin 47, r.val < k0_t1_loop.trips → ∀ j : Fin 128, X (ix3 0 r j) = outBlk I (ix3 0 r j)) : X = outBlk I := by
  funext y
  have e : y = ix3 0 (y 1) (y 2) :=
    (eq_ix3 y).trans (congrArg (fun p : Fin 1 => (ix3 p (y 1) (y 2) : S1x47x128.Idx)) (Subsingleton.elim (α := Fin 1) (y 0) 0))
  rw [e]
  exact h (y 1) (by rw [trips_eq]; exact (y 1).isLt) (y 2)

set_option maxHeartbeats 800000 in
theorem sound_body (c : Dev nD) (t : Fin cfgI.N) :
    bodyPre m c t ⊢ wp frame (wpE (defs₀ (F := Ideal)) Variants.nat c none) Set.univ (bodyAt t) (fun _ => bodyPost m c t) := by
  unfold bodyPre bodyPost bodyAt
  simp only [before_0 m (dats m 0 c) rfl (after_0 m c), before_1 m (dats m 0 c) rfl (after_1 m c), before_2 m (dats m 0 c) rfl (after_2 m c), before_3 m (dats m 0 c) rfl (after_3 m c), before_4 m (dats m 0 c) rfl (after_4 m c), before_5 m (dats m 0 c) rfl (after_5 m c), before_6 m (dats m 0 c) rfl (after_6 m c), before_7 m (dats m 0 c) rfl (after_7 m c)]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, inv_eq]
  rw [show (dats m 0 c).leavesExact 0 t = owns (c : Thread nD τ) (ms_0 t) fullShare (blkOf m c 0 t) from by
    unfold Dat.leavesExact; rw [live_0 t, after_0]]
  rw [show (dats m 0 c).leavesExact 1 t = owns (c : Thread nD τ) (ms_1 t) fullShare (blkOf m c 1 t) from by
    unfold Dat.leavesExact; rw [live_1 t, after_1]]
  rw [show (dats m 0 c).leavesExact 2 t = owns (c : Thread nD τ) (ms_2 t) fullShare (blkOf m c 2 t) from by
    unfold Dat.leavesExact; rw [live_2 t, after_2]]
  rw [show (dats m 0 c).leavesExact 3 t = owns (c : Thread nD τ) (ms_3 t) fullShare (blkOf m c 3 t) from by
    unfold Dat.leavesExact; rw [live_3 t, after_3]]
  rw [show (dats m 0 c).leavesExact 4 t = owns (c : Thread nD τ) (ms_4 t) fullShare (blkOf m c 4 t) from by
    unfold Dat.leavesExact; rw [live_4 t, after_4]]
  rw [show (dats m 0 c).leavesExact 5 t = owns (c : Thread nD τ) (ms_5 t) fullShare (blkOf m c 5 t) from by
    unfold Dat.leavesExact; rw [live_5 t, after_5]]
  rw [show (dats m 0 c).leavesExact 6 t = owns (c : Thread nD τ) (ms_6 t) fullShare (blkOf m c 6 t) from by
    unfold Dat.leavesExact; rw [live_6 t, after_6]]
  rw [show (dats m 0 c).leavesExact 7 t = owns (c : Thread nD τ) (ms_7 t) fullShare (blkOf m c 7 t) from by
    unfold Dat.leavesExact; rw [live_7 t, after_7]]
  rw [show (dats m 0 c).leavesExact 8 t = owns (c : Thread nD τ) (ms_8 t) fullShare (outBlk (ins m c t)) from by
    unfold Dat.leavesExact; rw [live_8 t, after_8]]
  unfold owns
  iintro ⟨⟨⟨%d10, %f10, %e10, H10⟩, Hg⟩, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩⟩
  iapply (wp_wand_r frame _ Set.univ)
  isplitl [H0 H1 H2 H3 H4 H5 H6 H7 H8 H10]
  · iapply (body_wp (ms_0 t) (ms_1 t) (ms_2 t) (ms_3 t) (ms_4 t) (ms_5 t) (ms_6 t) (ms_7 t) (ms_8 t) scr c f0 f1 f2 f3 f4 f5 f6 f7 (ins m c t)
      (grid0.coords t) (hs_0 t) (hs_1 t) (hs_2 t) (hs_3 t) (hs_4 t) (hs_5 t) (hs_6 t) (hs_7 t) (hs_8 t) (Memref.isWhole_whole _)
      e0 e1 e2 e3 e4 e5 e6 e7)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists f8; iexact H8
    · iexists f10; iexact H10
  · iintro %acc H
    unfold inv
    icases H with ⟨H0, H1, H2, H3, H4, H5, H6, H7, ⟨%g8, %k8, H8⟩, ⟨%g10, %k10, H10⟩⟩
    isplitl [H10 Hg]
    · isplitl [H10]
      · iexists _; iexists g10
        isplitr
        · ipureintro; rfl
        · iexact H10
      · iexact Hg
    isplitl [Ho]; · iexact Ho
    isplitl [H0]
    · iexists f0; isplitr
      · ipureintro; exact e0
      · iexact H0
    isplitl [H1]
    · iexists f1; isplitr
      · ipureintro; exact e1
      · iexact H1
    isplitl [H2]
    · iexists f2; isplitr
      · ipureintro; exact e2
      · iexact H2
    isplitl [H3]
    · iexists f3; isplitr
      · ipureintro; exact e3
      · iexact H3
    isplitl [H4]
    · iexists f4; isplitr
      · ipureintro; exact e4
      · iexact H4
    isplitl [H5]
    · iexists f5; isplitr
      · ipureintro; exact e5
      · iexact H5
    isplitl [H6]
    · iexists f6; isplitr
      · ipureintro; exact e6
      · iexact H6
    isplitl [H7]
    · iexists f7; isplitr
      · ipureintro; exact e7
      · iexact H7
    iexists g8; isplitr
    · ipureintro; exact out_eq _ _ k8
    · iexact H8

theorem body_obligation (c : Dev nD) : BodyObligation (dats m 0 c) (defs₀ (F := Ideal)) Variants.nat () Set.univ := fun t => by
  rw [sep_windows, sep_windows, defs_row]
  exact triple_restated (sound_body m c t) rfl .rfl fun _ => .rfl

set_option backward.isDefEq.respectTransparency.types false in
set_option maxHeartbeats 800000 in
theorem run_main_quiescent : θ_run defs (onTc (τ := τ) (main (F := Ideal))) (s₀ m ρ)
    (fun r => (Pipeline.FramePost (cfgs (F := Ideal)) (dats m) 0 (Pipeline.afterTail₀ (cfgs (F := Ideal)) (dats m) 0 (V0 m) opss1)) r ∧ r.2.sem = fun _ => 0) :=
  Pipeline.θ_run_frame_around_track (Q' := _) (cfgs (F := Ideal)) (dats m) (0 : Fin 1) launch defs₀ Variants.nat m ρ main
    (hbody := fun c => (body_obligation m c).loose) (hshare := fun c => (dats m 0 c).share_full fun _ => rfl)
    (howed := fun _ _ => rfl) (V₀ := V0 m) (opss := opss1) (hsub := tail_sub) (hfresh := tail_fresh) (hkeep := tail_keeps)
    (hmain := main_around m Variants.nat) (hA := A_eq m)
    (hin := fun c => Idealize.SL.BI.Entails.refl _) (hout := fun c => Idealize.SL.BI.Entails.refl _)

theorem run_main : θ_run defs (onTc (τ := τ) (main (F := Ideal))) (s₀ m ρ)
    (Pipeline.FramePost (cfgs (F := Ideal)) (dats m) 0 (Pipeline.afterTail₀ (cfgs (F := Ideal)) (dats m) 0 (V0 m) opss1)) :=
  (θ_run defs _ _).mono (fun _ h => h.1) (run_main_quiescent m ρ)

theorem unchanged : θ_run defs (onTc (τ := τ) (main (F := Ideal))) ⟨m, fun _ => 0, ρ⟩ (fun r => ∀ c : Dev nD,
    r.2.mem ((c.tc : Thread nD τ).loc main_arg0) = m ((c.tc : Thread nD τ).loc main_arg0)) :=
  unchanged_of m ρ (dats m) (run_main m ρ)

end Cert.Kernel2Ideal.At

end
-- ==== Proof.Nms.Keep.lean ====
/- Which boxes the greedy suppression keeps: a box is kept if no earlier kept box overlaps it by more than the threshold. -/
module

public import Idealize.ShloMosaic.PureOps.Ideal.Laws
public import Idealize.ShloMosaic.Lib.WordCmp
public import Idealize.ShloMosaic.Lib.Pointwise

@[expose] public section

noncomputable section

namespace Cert.Spec

open Idealize.ShloMosaic

/-- The boxes' corners. -/
structure Boxes where
  x1 : ℕ → EReal
  y1 : ℕ → EReal
  x2 : ℕ → EReal
  y2 : ℕ → EReal

/-- Image `b`'s boxes; past the last, zeros. -/
def boxes (X : Fin 2 → Fin 6016 → Fin 4 → EReal) (b : Fin 2) : Boxes where
  x1 n := if h : n < 6016 then X b ⟨n, h⟩ 0 else 0
  y1 n := if h : n < 6016 then X b ⟨n, h⟩ 1 else 0
  x2 n := if h : n < 6016 then X b ⟨n, h⟩ 2 else 0
  y2 n := if h : n < 6016 then X b ⟨n, h⟩ 3 else 0

theorem boxes_x1 (X : Fin 2 → Fin 6016 → Fin 4 → EReal) (b : Fin 2) (n : ℕ) (h : n < 6016) : (boxes X b).x1 n = X b ⟨n, h⟩ 0 := dif_pos h
theorem boxes_y1 (X : Fin 2 → Fin 6016 → Fin 4 → EReal) (b : Fin 2) (n : ℕ) (h : n < 6016) : (boxes X b).y1 n = X b ⟨n, h⟩ 1 := dif_pos h
theorem boxes_x2 (X : Fin 2 → Fin 6016 → Fin 4 → EReal) (b : Fin 2) (n : ℕ) (h : n < 6016) : (boxes X b).x2 n = X b ⟨n, h⟩ 2 := dif_pos h
theorem boxes_y2 (X : Fin 2 → Fin 6016 → Fin 4 → EReal) (b : Fin 2) (n : ℕ) (h : n < 6016) : (boxes X b).y2 n = X b ⟨n, h⟩ 3 := dif_pos h

namespace Boxes

variable (B : Boxes)

def area (i : ℕ) : EReal := (B.x2 i - B.x1 i + 1) * (B.y2 i - B.y1 i + 1)

def inter (i j : ℕ) : EReal :=
  max 0 (min (B.x2 i) (B.x2 j) - max (B.x1 i) (B.x1 j) + 1) * max 0 (min (B.y2 i) (B.y2 j) - max (B.y1 i) (B.y1 j) + 1)

/-- Box `i` overlaps box `j` by more than the threshold. -/
def over (i j : ℕ) : Prop :=
  Ideal.ofBits FTy.f32 1060320051#32 < Ideal.div (B.inter i j) (B.area i + B.area j - B.inter i j)

/-- Box `j` is one of the 6000 and no earlier kept box overlaps it. -/
def Kept (j : ℕ) : Prop := j < 6000 ∧ ∀ i, i < j → Kept i → ¬ B.over i j
  termination_by j

theorem kept_iff (j : ℕ) : B.Kept j ↔ j < 6000 ∧ ∀ i, i < j → B.Kept i → ¬ B.over i j := by
  rw [Kept]

/-- Some kept box of the blocks before `n`, in a block before `j`'s, overlaps box `j`. -/
def Hit (n j : ℕ) : Prop := ∃ i, i < 128 * n ∧ i / 128 < j / 128 ∧ B.Kept i ∧ B.over i j

theorem hit_zero (j : ℕ) : ¬ B.Hit 0 j := fun ⟨i, h, _⟩ => by omega

theorem hit_succ (n j : ℕ) : B.Hit (n + 1) j ↔
    B.Hit n j ∨ ((∃ k : Fin 128, B.Kept (128 * n + k.val) ∧ B.over (128 * n + k.val) j) ∧ 128 * n + 128 ≤ j) := by
  constructor
  · rintro ⟨i, h, hb, hk, ho⟩
    by_cases hi : i < 128 * n
    · exact .inl ⟨i, hi, hb, hk, ho⟩
    · refine .inr ⟨⟨⟨i - 128 * n, by omega⟩, ?_⟩, by omega⟩
      simp only [show 128 * n + (i - 128 * n) = i by omega]
      exact ⟨hk, ho⟩
  · rintro (⟨i, h, hb, hk, ho⟩ | ⟨⟨k, hk, ho⟩, hj⟩)
    · exact ⟨i, by omega, hb, hk, ho⟩
    · exact ⟨_, by omega, by omega, hk, ho⟩

/-- Inside block `n`: kept boxes are those no earlier block hits and no earlier kept box of the block overlaps. -/
theorem kept_block (n : ℕ) (j : Fin 128) : B.Kept (128 * n + j.val) ↔
    (128 * n + j.val < 6000 ∧ ¬ B.Hit n (128 * n + j.val)) ∧
      ¬ ∃ k : Fin 128, B.Kept (128 * n + k.val) ∧ B.over (128 * n + k.val) (128 * n + j.val) ∧ k.val < j.val := by
  rw [kept_iff]
  constructor
  · rintro ⟨h1, h2⟩
    refine ⟨⟨h1, ?_⟩, ?_⟩
    · rintro ⟨i, h, -, hk, ho⟩
      exact h2 i (by omega) hk ho
    · rintro ⟨k, hk, ho, hl⟩
      exact h2 _ (by omega) hk ho
  · rintro ⟨⟨h1, h2⟩, h3⟩
    refine ⟨h1, fun i hi hk ho => ?_⟩
    by_cases h : i < 128 * n
    · exact h2 ⟨i, h, by omega, hk, ho⟩
    · refine h3 ⟨⟨i - 128 * n, by omega⟩, ?_⟩
      simp only [show 128 * n + (i - 128 * n) = i by omega]
      exact ⟨hk, ho, by omega⟩

end Boxes

open Classical in
/-- 1 where `p` holds, 0 elsewhere. -/
def ind (p : Prop) : EReal := if p then 1 else 0

theorem ind_true {p : Prop} (h : p) : ind p = 1 := if_pos h
theorem ind_false {p : Prop} (h : ¬ p) : ind p = 0 := if_neg h
theorem ind_congr {p q : Prop} (h : p ↔ q) : ind p = ind q := by rw [propext h]
theorem ind_nonneg (p : Prop) : 0 ≤ ind p := by
  by_cases h : p
  · rw [ind_true h]; exact zero_le_one
  · rw [ind_false h]
theorem ite_ind (p : Prop) [Decidable p] : (if p then (1 : EReal) else 0) = ind p := by
  by_cases h : p
  · rw [ind_true h, if_pos h]
  · rw [ind_false h, if_neg h]
theorem ind_mul (p q : Prop) : ind p * ind q = ind (p ∧ q) := by
  by_cases hp : p <;> by_cases hq : q <;> simp [ind, hp, hq]
theorem ind_max (p q : Prop) : max (ind p) (ind q) = ind (p ∨ q) := by
  by_cases hp : p <;> by_cases hq : q <;> simp [ind, hp, hq]

/-- A sum of ones and zeros is positive where some term is one. -/
theorem sum_ind {ι : Type} [Fintype ι] (p : ι → Prop) : (0 : EReal) < 0 + ∑ k, ind (p k) ↔ ∃ k, p k := by
  rw [zero_add]
  constructor
  · intro h
    by_contra hn
    rw [Finset.sum_eq_zero fun k _ => ind_false fun hk => hn ⟨k, hk⟩] at h
    exact lt_irrefl _ h
  · rintro ⟨k, hk⟩
    refine lt_of_lt_of_le zero_lt_one ((ind_true hk).symm.le.trans ?_)
    exact Finset.single_le_sum (f := fun k => ind (p k)) (fun i _ => ind_nonneg _) (Finset.mem_univ k)

/-- A choice on a conjunction of two one-bit answers. -/
theorem select_and (p q : Prop) [Decidable p] [Decidable q] :
    Scalar.select (IntOp.andi (BitVec.ofBool (decide p)) (BitVec.ofBool (decide q))) (1 : EReal) 0 = ind (p ∧ q) := by
  by_cases hp : p <;> by_cases hq : q <;> simp [ind, hp, hq, Scalar.select, IntOp.andi]

end Cert.Spec

end
-- ==== Proof.Nms.Math.lean ====
/- One image's blocks against the greedy suppression: block `t` ends in the kept boxes of the block, and the scratch holds
   the later boxes some kept box hits. -/
module

public import proofs.«01_k».proof.Proof.Nms.Blocks
public import proofs.«01_k».proof.Proof.Nms.Keep

@[expose] public section

noncomputable section

namespace Cert.Kernel2Ideal.At

open Cert.Kernel2Ideal Cert.Kernel2Ideal.Gen Cert.Spec
open Idealize.ShloMosaic

/-- The image's blocks hold these boxes. -/
structure Reads (I : Ins) (B : Boxes) : Prop where
  r1 : ∀ i : Fin 6016, I.r1 (ix3 0 i 0) = B.x1 i.val
  r2 : ∀ i : Fin 6016, I.r2 (ix3 0 i 0) = B.y1 i.val
  r3 : ∀ i : Fin 6016, I.r3 (ix3 0 i 0) = B.x2 i.val
  r4 : ∀ i : Fin 6016, I.r4 (ix3 0 i 0) = B.y2 i.val
  c1 : ∀ (r : Fin 47) (l : Fin 128), I.c1 (ix3 0 r l) = B.x1 (128 * r.val + l.val)
  c2 : ∀ (r : Fin 47) (l : Fin 128), I.c2 (ix3 0 r l) = B.y1 (128 * r.val + l.val)
  c3 : ∀ (r : Fin 47) (l : Fin 128), I.c3 (ix3 0 r l) = B.x2 (128 * r.val + l.val)
  c4 : ∀ (r : Fin 47) (l : Fin 128), I.c4 (ix3 0 r l) = B.y2 (128 * r.val + l.val)

theorem lt_trips (t : Fin k0_t1_loop.trips) : t.val < 47 := trips_eq ▸ t.isLt

theorem ld1_at (X : S1x6016x1.Idx → Elt Ideal .f32) (t : Fin k0_t1_loop.trips) (k : Fin 128) :
    ld1 X t (ix3 0 k 0) = X (ix3 0 ⟨128 * t.val + k.val, by have := lt_trips t; omega⟩ 0) := by
  unfold ld1
  refine congrArg X (funext fun a => Fin.ext ?_)
  have h : ∀ a, k0_off1 t a = (![0, 128 * t.val, 0] : Fin 3 → ℕ) a := fun a => congrFun (k0_off1_eq t) a
  fin_cases a
  · show k0_off1 t 0 + 1 * 0 = 0
    rw [h]; rfl
  · show k0_off1 t 1 + 1 * k.val = 128 * t.val + k.val
    rw [h, Nat.one_mul]; rfl
  · show k0_off1 t 2 + 1 * 0 = 0
    rw [h]; rfl

theorem ld2_at (X : S1x47x128.Idx → Elt Ideal .f32) (t : Fin k0_t1_loop.trips) (k : Fin 128) :
    ld2 X t (ix3 0 0 k) = X (ix3 0 ⟨t.val, lt_trips t⟩ k) := by
  unfold ld2
  refine congrArg X (funext fun a => Fin.ext ?_)
  have h : ∀ a, k0_off2 t a = (![0, t.val, 0] : Fin 3 → ℕ) a := fun a => congrFun (k0_off2_eq t) a
  fin_cases a
  · show k0_off2 t 0 + 1 * 0 = 0
    rw [h]; rfl
  · show k0_off2 t 1 + 1 * 0 = t.val
    rw [h]; rfl
  · show k0_off2 t 2 + 1 * k.val = k.val
    rw [h, Nat.one_mul]; exact Nat.zero_add _

theorem ld3_at (X : S47x128.Idx → Elt Ideal .f32) (t : Fin k0_t1_loop.trips) (k : Fin 128) :
    ld3 X t (ix2 0 k) = X (ix2 ⟨t.val, lt_trips t⟩ k) := by
  unfold ld3
  refine congrArg X (funext fun a => Fin.ext ?_)
  have h : ∀ a, k0_off3 t a = (![t.val, 0] : Fin 2 → ℕ) a := fun a => congrFun (k0_off3_eq t) a
  fin_cases a
  · show k0_off3 t 0 + 1 * 0 = t.val
    rw [h]; rfl
  · show k0_off3 t 1 + 1 * k.val = k.val
    rw [h, Nat.one_mul]; exact Nat.zero_add _

theorem word_block (n : ℕ) : Scalar.muli (Scf.iv 0#32 1#32 n) 128#32 = BitVec.ofNat 32 (128 * n) := by
  show (0#32 + BitVec.ofNat 32 n * 1#32) * BitVec.ofNat 32 128 = _
  rw [BitVec.mul_one, BitVec.zero_add, ← BitVec.ofNat_mul, Nat.mul_comm]

theorem sge_small (a b : ℕ) (ha : a < 2147483648) (hb : b < 2147483648) :
    IntOp.cmpi .sge (BitVec.ofNat 32 a) (BitVec.ofNat 32 b) = BitVec.ofBool (decide (b ≤ a)) := by
  by_cases h : b ≤ a
  · rw [(WordCmp.cmpi_sge_ofNat_eq_one_iff (w := 32) (by simpa using ha) (by simpa using hb)).2 h]; simp [h]
  · rw [(WordCmp.cmpi_sge_ofNat_eq_zero_iff (w := 32) (by simpa using ha) (by simpa using hb)).2 (by omega)]; simp [h]

variable {I : Ins} {B : Boxes} (hI : Reads I B)

include hI

theorem stepS_at (t : Fin k0_t1_loop.trips) (i j : Fin 128) :
    stepS I t (ix2 i j) = ind (B.over (128 * t.val + i.val) (128 * t.val + j.val) ∧ i.val < j.val) := by
  have h1 : (128 : ℕ) ≠ 1 := by decide
  unfold stepS k0_pay20 k0_pay14 k0_pay10 k0_pay11 k0_pay12 k0_pay13 k0_pay15 k0_pay16 k0_pay17 k0_pay18 k0_pay19
  simp only [pointwise]
  rw [iota_small]
  unfold k0_pay15 k0_pay17
  simp only [pointwise]
  rw [select_and]
  refine ind_congr (and_congr_left fun _ => ?_)
  show Ideal.ofBits FTy.f32 1060320051#32 < Ideal.div
      (max 0 (min (ld1 I.r3 t (ix3 0 i 0)) (ld2 I.c3 t (ix3 0 0 j)) - max (ld1 I.r1 t (ix3 0 i 0)) (ld2 I.c1 t (ix3 0 0 j)) + 1)
        * max 0 (min (ld1 I.r4 t (ix3 0 i 0)) (ld2 I.c4 t (ix3 0 0 j)) - max (ld1 I.r2 t (ix3 0 i 0)) (ld2 I.c2 t (ix3 0 0 j)) + 1))
      ((ld1 I.r3 t (ix3 0 i 0) - ld1 I.r1 t (ix3 0 i 0) + 1) * (ld1 I.r4 t (ix3 0 i 0) - ld1 I.r2 t (ix3 0 i 0) + 1)
        + (ld2 I.c3 t (ix3 0 0 j) - ld2 I.c1 t (ix3 0 0 j) + 1) * (ld2 I.c4 t (ix3 0 0 j) - ld2 I.c2 t (ix3 0 0 j) + 1)
        - max 0 (min (ld1 I.r3 t (ix3 0 i 0)) (ld2 I.c3 t (ix3 0 0 j)) - max (ld1 I.r1 t (ix3 0 i 0)) (ld2 I.c1 t (ix3 0 0 j)) + 1)
          * max 0 (min (ld1 I.r4 t (ix3 0 i 0)) (ld2 I.c4 t (ix3 0 0 j)) - max (ld1 I.r2 t (ix3 0 i 0)) (ld2 I.c2 t (ix3 0 0 j)) + 1))
    ↔ B.over (128 * t.val + i.val) (128 * t.val + j.val)
  simp only [ld1_at, ld2_at, hI.r1, hI.r2, hI.r3, hI.r4, hI.c1, hI.c2, hI.c3, hI.c4]
  rfl

theorem initRow_at (t : Fin k0_t1_loop.trips) {sup : S47x128.Idx → Elt Ideal .f32}
    (hs : ∀ (r : Fin 47) (l : Fin 128), sup (ix2 r l) = ind (B.Hit t.val (128 * r.val + l.val))) (j : Fin 128) :
    initRow t sup (ix2 0 j) = ind (128 * t.val + j.val < 6000 ∧ ¬ B.Hit t.val (128 * t.val + j.val)) := by
  have ht := lt_trips t
  unfold initRow k0_pay22 k0_pay21
  simp only [pointwise]
  rw [ld3_at, hs, word_block]
  have e : IntOp.addi (BitVec.ofNat 32 (List.foldl (fun n a => n * (![1, 128] : Fin 2 → ℕ) a + ((ix2 0 j : S1x128.Idx) a).val) 0 [1]))
      (BitVec.ofNat 32 (128 * t.val)) = BitVec.ofNat 32 (128 * t.val + j.val) := by
    rw [WordCmp.addi_ofNat]
    exact congrArg _ (by simp [Nat.add_comm])
  refine (congrArg (fun w => Scalar.select (IntOp.andi (IntOp.cmpi .slt w (BitVec.ofNat 32 6000)) _) (1 : EReal) 0) e).trans ?_
  rw [slt_small _ _ (by omega) (by omega)]
  refine (select_and _ _).trans (ind_congr (and_congr_right fun _ => ?_))
  by_cases h : B.Hit t.val (128 * t.val + j.val)
  · simp [ind, h]
  · simp [ind, h]

theorem keepRow_at (t : Fin k0_t1_loop.trips) {sup : S47x128.Idx → Elt Ideal .f32}
    (hs : ∀ (r : Fin 47) (l : Fin 128), sup (ix2 r l) = ind (B.Hit t.val (128 * r.val + l.val))) (j : Fin 128) :
    keepRow I t sup (ix2 0 j) = ind (B.Kept (128 * t.val + j.val)) := by
  have h : k0_pay8 (stepS I t) (initRow t sup) (fun x => ind (B.Kept (128 * t.val + (x 1).val)))
      = fun x => ind (B.Kept (128 * t.val + (x 1).val)) := by
    funext x
    obtain ⟨l, rfl⟩ : ∃ l, x = ix2 0 l := ⟨x 1, row_idx x⟩
    refine (step_at _ _ _ l).trans ?_
    have hk : ∑ k : Fin 128, ind (B.Kept (128 * t.val + k.val)) * stepS I t (ix2 k l)
        = ∑ k : Fin 128, ind (B.Kept (128 * t.val + k.val) ∧ B.over (128 * t.val + k.val) (128 * t.val + l.val) ∧ k.val < l.val) :=
      Finset.sum_congr rfl fun k _ => by rw [stepS_at hI, ind_mul]
    show (if (0 : EReal) < 0 + ∑ k : Fin 128, ind (B.Kept (128 * t.val + k.val)) * stepS I t (ix2 k l) then 0 else initRow t sup (ix2 0 l))
      = ind (B.Kept (128 * t.val + l.val))
    rw [hk]
    rw [ind_congr (B.kept_block t.val l)]
    by_cases hx : ∃ k : Fin 128, B.Kept (128 * t.val + k.val) ∧ B.over (128 * t.val + k.val) (128 * t.val + l.val) ∧ k.val < l.val
    · rw [if_pos ((sum_ind _).2 hx)]
      exact (ind_false fun hy => hy.2 hx).symm
    · rw [if_neg (fun h => hx ((sum_ind _).1 h)), initRow_at hI t hs]
      exact ind_congr ⟨fun hy => ⟨hy, hx⟩, fun hy => hy.1⟩
  have e := agree_of_fixed (stepS_upper I t) (initRow t sup) (sol_fixed (stepS_upper I t) (initRow t sup)) h
  exact congrFun e (ix2 0 j)

theorem supNext_at (t : Fin k0_t1_loop.trips) {sup : S47x128.Idx → Elt Ideal .f32}
    (hs : ∀ (r : Fin 47) (l : Fin 128), sup (ix2 r l) = ind (B.Hit t.val (128 * r.val + l.val))) (r : Fin 47) (l : Fin 128) :
    supNext I t sup (ix2 r l) = ind (B.Hit (t.val + 1) (128 * r.val + l.val)) := by
  have h1 : (128 : ℕ) ≠ 1 := by decide
  have h2 : (47 : ℕ) ≠ 1 := by decide
  have ht := lt_trips t
  have h0 : (if h1 : 1 = 1 then (0 : Fin 1) else 0) = 0 := rfl
  unfold supNext k0_pay7 k0_pay24 k0_pay25 k0_pay26 k0_pay14 k0_pay6 k0_pay2 k0_pay3 k0_pay4 k0_pay5
  simp only [pointwise]
  unfold k0_pay10 k0_pay11 k0_pay12 k0_pay13
  simp only [pointwise]
  have e : IntOp.cmpi .sge
      (IntOp.addi (IntOp.muli (BitVec.ofNat 32 (List.foldl (fun n a => n * (![47, 128] : Fin 2 → ℕ) a + ((ix2 r l : S47x128.Idx) a).val) 0 [0])) 128#32)
        (BitVec.ofNat 32 (List.foldl (fun n a => n * (![47, 128] : Fin 2 → ℕ) a + ((ix2 r l : S47x128.Idx) a).val) 0 [1])))
      (Scalar.addi (Scalar.muli (Scf.iv 0#32 1#32 t.val) 128#32) 128#32) = BitVec.ofBool (decide (128 * t.val + 128 ≤ 128 * r.val + l.val)) := by
    rw [word_block, show Scalar.addi (BitVec.ofNat 32 (128 * t.val)) 128#32 = BitVec.ofNat 32 (128 * t.val + 128) from WordCmp.addi_ofNat _ _,
      show (128#32 : BitVec 32) = BitVec.ofNat 32 128 from rfl, WordCmp.muli_ofNat, WordCmp.addi_ofNat]
    refine (congrArg (fun n => IntOp.cmpi .sge (BitVec.ofNat 32 n) _) (show _ = 128 * r.val + l.val by simp [Nat.mul_comm])).trans ?_
    exact sge_small _ _ (by omega) (by omega)
  rw [e]
  have k1 : ∀ k : Fin 128, keepRow I t sup (ix2 0 k) *
      (if Ideal.ofBits FTy.f32 1060320051#32 < Ideal.div
          (max 0 (min (ld1 I.r3 t (ix3 0 k 0)) (I.c3 (ix3 0 r l)) - max (ld1 I.r1 t (ix3 0 k 0)) (I.c1 (ix3 0 r l)) + 1)
            * max 0 (min (ld1 I.r4 t (ix3 0 k 0)) (I.c4 (ix3 0 r l)) - max (ld1 I.r2 t (ix3 0 k 0)) (I.c2 (ix3 0 r l)) + 1))
          ((ld1 I.r3 t (ix3 0 k 0) - ld1 I.r1 t (ix3 0 k 0) + 1) * (ld1 I.r4 t (ix3 0 k 0) - ld1 I.r2 t (ix3 0 k 0) + 1)
            + (I.c3 (ix3 0 r l) - I.c1 (ix3 0 r l) + 1) * (I.c4 (ix3 0 r l) - I.c2 (ix3 0 r l) + 1)
            - max 0 (min (ld1 I.r3 t (ix3 0 k 0)) (I.c3 (ix3 0 r l)) - max (ld1 I.r1 t (ix3 0 k 0)) (I.c1 (ix3 0 r l)) + 1)
              * max 0 (min (ld1 I.r4 t (ix3 0 k 0)) (I.c4 (ix3 0 r l)) - max (ld1 I.r2 t (ix3 0 k 0)) (I.c2 (ix3 0 r l)) + 1))
        then (1 : EReal) else 0)
      = ind (B.Kept (128 * t.val + k.val) ∧ B.over (128 * t.val + k.val) (128 * r.val + l.val)) := fun k => by
    rw [ite_ind, keepRow_at hI t hs, ind_mul]
    refine ind_congr (and_congr_right fun _ => ?_)
    simp only [ld1_at, hI.r1, hI.r2, hI.r3, hI.r4, hI.c1, hI.c2, hI.c3, hI.c4]
    rfl
  rw [hs]
  refine Eq.trans (congrArg (fun s : EReal => max (ind (B.Hit t.val (128 * r.val + l.val))) (Scalar.select (IntOp.andi (BitVec.ofBool (decide ((0 : EReal) < 0 + s)))
    (BitVec.ofBool (decide (128 * t.val + 128 ≤ 128 * r.val + l.val)))) (1 : EReal) 0)) (Finset.sum_congr rfl fun k _ => k1 k)) ?_
  rw [select_and, ind_max, sum_ind]
  exact ind_congr (B.hit_succ t.val (128 * r.val + l.val)).symm

theorem supAt_at (n : ℕ) (hn : n ≤ 47) (r : Fin 47) (l : Fin 128) :
    supAt I n (ix2 r l) = ind (B.Hit n (128 * r.val + l.val)) := by
  induction n generalizing r l with
  | zero =>
    rw [ind_false (B.hit_zero _)]
    unfold supAt k0_pay1
    simp only [pointwise]
  | succ n ih =>
    have h := supAt_succ I ⟨n, by rw [trips_eq]; omega⟩
    dsimp only at h
    rw [h]
    exact supNext_at hI ⟨n, _⟩ (ih (by omega)) r l

theorem outBlk_at (r : Fin 47) (l : Fin 128) : outBlk I (ix3 0 r l) = ind (B.Kept (128 * r.val + l.val)) :=
  keepRow_at hI ⟨r.val, by rw [trips_eq]; exact r.isLt⟩ (supAt_at hI r.val (by omega)) l

end Cert.Kernel2Ideal.At

end
-- ==== Proof.Nms.Tail.lean ====
/- The lines after the suppression kernel, each stretch read on its own. -/
module

public import proofs.«01_k».proof.Proof.Nms.Launch

@[expose] public section

set_option maxRecDepth 16384

noncomputable section

namespace Cert.Kernel2Ideal.At

open Cert.Kernel2Ideal Cert.Kernel2Ideal.Gen
open Idealize.ShloMosaic Idealize.ShloMosaic.TcCoe Idealize.SL.Sem

def F_keepAll (x0 : (⟨S2x47x128, .f32⟩ : BufTy).Contents (Elt Ideal)) : (⟨S2x6016, .f32⟩ : BufTy).Contents (Elt Ideal) :=
  (shapeCast S2x6016 x0 shapeCasts_S2x47x128_S2x6016 : (⟨S2x6016, .f32⟩ : BufTy).Contents (Elt Ideal))

def F_mask0 (x0 : (⟨S2x47x128, .f32⟩ : BufTy).Contents (Elt Ideal)) : (⟨S6016, .i1⟩ : BufTy).Contents (Elt Ideal) :=
  ((cmpf (F := Ideal) (φ := .f32) .ogt : (⟨S6016, .f32⟩ : BufTy).Contents (Elt Ideal) → (⟨S6016, .f32⟩ : BufTy).Contents (Elt Ideal) → (⟨S6016, .i1⟩ : BufTy).Contents (Elt Ideal)) (shapeCast S6016 (((extractStridedSlice S1x6016 ![0, 0] · slices_S2x6016_S1x6016_0_0) : (⟨S2x6016, .f32⟩ : BufTy).Contents (Elt Ideal) → (⟨S1x6016, .f32⟩ : BufTy).Contents (Elt Ideal)) (shapeCast S2x6016 x0 shapeCasts_S2x47x128_S2x6016 : (⟨S2x6016, .f32⟩ : BufTy).Contents (Elt Ideal))) shapeCasts_S1x6016_S6016 : (⟨S6016, .f32⟩ : BufTy).Contents (Elt Ideal)) ((broadcastInDim S6016 ![] bcast_S_S6016 : (⟨S_, .f32⟩ : BufTy).Contents (Elt Ideal) → (⟨S6016, .f32⟩ : BufTy).Contents (Elt Ideal)) ((constant (F := Ideal) S_ .f32 0x3F000000#32) : (⟨S_, .f32⟩ : BufTy).Contents (Elt Ideal))))

def F_cumMask (x0 : (⟨S6016, .i1⟩ : BufTy).Contents (Elt Ideal)) : (⟨S6016, .i32⟩ : BufTy).Contents (Elt Ideal) :=
  (((fun x v => Host.reduceWindow IntOp.addi ![6016] ![1] ![6015] ![0] x v reduceWindows_S6016_S6016_w6016s1p6015_0 h_S_) : (⟨S6016, .i32⟩ : BufTy).Contents (Elt Ideal) → (⟨S_, .i32⟩ : BufTy).Contents (Elt Ideal) → (⟨S6016, .i32⟩ : BufTy).Contents (Elt Ideal)) (((extui 32 · natLt_1_32) : (⟨S6016, .i1⟩ : BufTy).Contents (Elt Ideal) → (⟨S6016, .i32⟩ : BufTy).Contents (Elt Ideal)) x0) (((broadcastInDim S_ ![] bcast_S_S_) : (⟨S_, .i32⟩ : BufTy).Contents (Elt Ideal) → (⟨S_, .i32⟩ : BufTy).Contents (Elt Ideal)) ((constantI S_ 32 0#32) : (⟨S_, .i32⟩ : BufTy).Contents (Elt Ideal))))

def F_hist (x0 : (⟨S6016, .i32⟩ : BufTy).Contents (Elt Ideal)) : (⟨S300, .i32⟩ : BufTy).Contents (Elt Ideal) :=
  (((fun x i u => Host.scatter scatter_S300_S6016x1_S6016_n_0_0_1 IntOp.addi x i u) : (⟨S300, .i32⟩ : BufTy).Contents (Elt Ideal) → (⟨S6016x1, .i32⟩ : BufTy).Contents (Elt Ideal) → (⟨S6016, .i32⟩ : BufTy).Contents (Elt Ideal) → (⟨S300, .i32⟩ : BufTy).Contents (Elt Ideal)) ((broadcastInDim S300 ![] bcast_S_S300 : (⟨S_, .i32⟩ : BufTy).Contents (Elt Ideal) → (⟨S300, .i32⟩ : BufTy).Contents (Elt Ideal)) ((constantI S_ 32 0#32) : (⟨S_, .i32⟩ : BufTy).Contents (Elt Ideal))) ((broadcastInDim S6016x1 ![0] bcast_S6016_S6016x1_0 : (⟨S6016, .i32⟩ : BufTy).Contents (Elt Ideal) → (⟨S6016x1, .i32⟩ : BufTy).Contents (Elt Ideal)) ((select : (⟨S6016, .i1⟩ : BufTy).Contents (Elt Ideal) → (⟨S6016, .i32⟩ : BufTy).Contents (Elt Ideal) → (⟨S6016, .i32⟩ : BufTy).Contents (Elt Ideal) → (⟨S6016, .i32⟩ : BufTy).Contents (Elt Ideal)) ((cmpi .slt : (⟨S6016, .i32⟩ : BufTy).Contents (Elt Ideal) → (⟨S6016, .i32⟩ : BufTy).Contents (Elt Ideal) → (⟨S6016, .i1⟩ : BufTy).Contents (Elt Ideal)) x0 ((broadcastInDim S6016 ![] bcast_S_S6016 : (⟨S_, .i32⟩ : BufTy).Contents (Elt Ideal) → (⟨S6016, .i32⟩ : BufTy).Contents (Elt Ideal)) ((constantI S_ 32 0#32) : (⟨S_, .i32⟩ : BufTy).Contents (Elt Ideal)))) ((addi : (⟨S6016, .i32⟩ : BufTy).Contents (Elt Ideal) → (⟨S6016, .i32⟩ : BufTy).Contents (Elt Ideal) → (⟨S6016, .i32⟩ : BufTy).Contents (Elt Ideal)) x0 ((broadcastInDim S6016 ![] bcast_S_S6016 : (⟨S_, .i32⟩ : BufTy).Contents (Elt Ideal) → (⟨S6016, .i32⟩ : BufTy).Contents (Elt Ideal)) ((constantI S_ 32 300#32) : (⟨S_, .i32⟩ : BufTy).Contents (Elt Ideal)))) x0)) ((broadcastInDim S6016 ![] bcast_S_S6016 : (⟨S_, .i32⟩ : BufTy).Contents (Elt Ideal) → (⟨S6016, .i32⟩ : BufTy).Contents (Elt Ideal)) ((constantI S_ 32 1#32) : (⟨S_, .i32⟩ : BufTy).Contents (Elt Ideal))))

def F_cumHist (x0 : (⟨S300, .i32⟩ : BufTy).Contents (Elt Ideal)) : (⟨S300, .i32⟩ : BufTy).Contents (Elt Ideal) :=
  (((fun x v => Host.reduceWindow IntOp.addi ![300] ![1] ![299] ![0] x v reduceWindows_S300_S300_w300s1p299_0 h_S_) : (⟨S300, .i32⟩ : BufTy).Contents (Elt Ideal) → (⟨S_, .i32⟩ : BufTy).Contents (Elt Ideal) → (⟨S300, .i32⟩ : BufTy).Contents (Elt Ideal)) x0 (((broadcastInDim S_ ![] bcast_S_S_) : (⟨S_, .i32⟩ : BufTy).Contents (Elt Ideal) → (⟨S_, .i32⟩ : BufTy).Contents (Elt Ideal)) ((constantI S_ 32 0#32) : (⟨S_, .i32⟩ : BufTy).Contents (Elt Ideal))))

def F_cOne  : (⟨S_, .i32⟩ : BufTy).Contents (Elt Ideal) :=
  ((constantI S_ 32 1#32) : (⟨S_, .i32⟩ : BufTy).Contents (Elt Ideal))

def F_floorDiv (x0 : (⟨S300, .i32⟩ : BufTy).Contents (Elt Ideal)) (x1 : (⟨S_, .i32⟩ : BufTy).Contents (Elt Ideal)) : (⟨S300, .i32⟩ : BufTy).Contents (Elt Ideal) :=
  ((select : (⟨S300, .i1⟩ : BufTy).Contents (Elt Ideal) → (⟨S300, .i32⟩ : BufTy).Contents (Elt Ideal) → (⟨S300, .i32⟩ : BufTy).Contents (Elt Ideal) → (⟨S300, .i32⟩ : BufTy).Contents (Elt Ideal)) ((andi : (⟨S300, .i1⟩ : BufTy).Contents (Elt Ideal) → (⟨S300, .i1⟩ : BufTy).Contents (Elt Ideal) → (⟨S300, .i1⟩ : BufTy).Contents (Elt Ideal)) (((cmpi .ne) : (⟨S300, .i32⟩ : BufTy).Contents (Elt Ideal) → (⟨S300, .i32⟩ : BufTy).Contents (Elt Ideal) → (⟨S300, .i1⟩ : BufTy).Contents (Elt Ideal)) ((signi : (⟨S300, .i32⟩ : BufTy).Contents (Elt Ideal) → (⟨S300, .i32⟩ : BufTy).Contents (Elt Ideal)) x0) (((broadcastInDim S300 ![] bcast_S_S300) : (⟨S_, .i32⟩ : BufTy).Contents (Elt Ideal) → (⟨S300, .i32⟩ : BufTy).Contents (Elt Ideal)) ((signi : (⟨S_, .i32⟩ : BufTy).Contents (Elt Ideal) → (⟨S_, .i32⟩ : BufTy).Contents (Elt Ideal)) ((id : (⟨S_, .i32⟩ : BufTy).Contents (Elt Ideal) → (⟨S_, .i32⟩ : BufTy).Contents (Elt Ideal)) x1)))) (((cmpi .ne) : (⟨S300, .i32⟩ : BufTy).Contents (Elt Ideal) → (⟨S300, .i32⟩ : BufTy).Contents (Elt Ideal) → (⟨S300, .i1⟩ : BufTy).Contents (Elt Ideal)) ((Host.remsi : (⟨S300, .i32⟩ : BufTy).Contents (Elt Ideal) → (⟨S300, .i32⟩ : BufTy).Contents (Elt Ideal) → (⟨S300, .i32⟩ : BufTy).Contents (Elt Ideal)) x0 (((broadcastInDim S300 ![] bcast_S_S300) : (⟨S_, .i32⟩ : BufTy).Contents (Elt Ideal) → (⟨S300, .i32⟩ : BufTy).Contents (Elt Ideal)) ((id : (⟨S_, .i32⟩ : BufTy).Contents (Elt Ideal) → (⟨S_, .i32⟩ : BufTy).Contents (Elt Ideal)) x1))) (((broadcastInDim S300 ![] bcast_S_S300) : (⟨S_, .i32⟩ : BufTy).Contents (Elt Ideal) → (⟨S300, .i32⟩ : BufTy).Contents (Elt Ideal)) ((constantI S_ 32 0#32) : (⟨S_, .i32⟩ : BufTy).Contents (Elt Ideal))))) ((subi : (⟨S300, .i32⟩ : BufTy).Contents (Elt Ideal) → (⟨S300, .i32⟩ : BufTy).Contents (Elt Ideal) → (⟨S300, .i32⟩ : BufTy).Contents (Elt Ideal)) ((Host.divsi : (⟨S300, .i32⟩ : BufTy).Contents (Elt Ideal) → (⟨S300, .i32⟩ : BufTy).Contents (Elt Ideal) → (⟨S300, .i32⟩ : BufTy).Contents (Elt Ideal)) x0 (((broadcastInDim S300 ![] bcast_S_S300) : (⟨S_, .i32⟩ : BufTy).Contents (Elt Ideal) → (⟨S300, .i32⟩ : BufTy).Contents (Elt Ideal)) ((id : (⟨S_, .i32⟩ : BufTy).Contents (Elt Ideal) → (⟨S_, .i32⟩ : BufTy).Contents (Elt Ideal)) x1))) (((broadcastInDim S300 ![] bcast_S_S300) : (⟨S_, .i32⟩ : BufTy).Contents (Elt Ideal) → (⟨S300, .i32⟩ : BufTy).Contents (Elt Ideal)) ((constantI S_ 32 1#32) : (⟨S_, .i32⟩ : BufTy).Contents (Elt Ideal)))) ((Host.divsi : (⟨S300, .i32⟩ : BufTy).Contents (Elt Ideal) → (⟨S300, .i32⟩ : BufTy).Contents (Elt Ideal) → (⟨S300, .i32⟩ : BufTy).Contents (Elt Ideal)) x0 (((broadcastInDim S300 ![] bcast_S_S300) : (⟨S_, .i32⟩ : BufTy).Contents (Elt Ideal) → (⟨S300, .i32⟩ : BufTy).Contents (Elt Ideal)) ((id : (⟨S_, .i32⟩ : BufTy).Contents (Elt Ideal) → (⟨S_, .i32⟩ : BufTy).Contents (Elt Ideal)) x1))))

def F_cAll  : (⟨S_, .i32⟩ : BufTy).Contents (Elt Ideal) :=
  ((constantI S_ 32 6016#32) : (⟨S_, .i32⟩ : BufTy).Contents (Elt Ideal))

def F_remAll (x0 : (⟨S300, .i32⟩ : BufTy).Contents (Elt Ideal)) (x1 : (⟨S_, .i32⟩ : BufTy).Contents (Elt Ideal)) : (⟨S300, .i32⟩ : BufTy).Contents (Elt Ideal) :=
  ((select : (⟨S300, .i1⟩ : BufTy).Contents (Elt Ideal) → (⟨S300, .i32⟩ : BufTy).Contents (Elt Ideal) → (⟨S300, .i32⟩ : BufTy).Contents (Elt Ideal) → (⟨S300, .i32⟩ : BufTy).Contents (Elt Ideal)) ((andi : (⟨S300, .i1⟩ : BufTy).Contents (Elt Ideal) → (⟨S300, .i1⟩ : BufTy).Contents (Elt Ideal) → (⟨S300, .i1⟩ : BufTy).Contents (Elt Ideal)) (((cmpi .ne) : (⟨S300, .i1⟩ : BufTy).Contents (Elt Ideal) → (⟨S300, .i1⟩ : BufTy).Contents (Elt Ideal) → (⟨S300, .i1⟩ : BufTy).Contents (Elt Ideal)) (((cmpi .slt) : (⟨S300, .i32⟩ : BufTy).Contents (Elt Ideal) → (⟨S300, .i32⟩ : BufTy).Contents (Elt Ideal) → (⟨S300, .i1⟩ : BufTy).Contents (Elt Ideal)) ((Host.remsi : (⟨S300, .i32⟩ : BufTy).Contents (Elt Ideal) → (⟨S300, .i32⟩ : BufTy).Contents (Elt Ideal) → (⟨S300, .i32⟩ : BufTy).Contents (Elt Ideal)) x0 (((broadcastInDim S300 ![] bcast_S_S300) : (⟨S_, .i32⟩ : BufTy).Contents (Elt Ideal) → (⟨S300, .i32⟩ : BufTy).Contents (Elt Ideal)) ((select : (⟨S_, .i1⟩ : BufTy).Contents (Elt Ideal) → (⟨S_, .i32⟩ : BufTy).Contents (Elt Ideal) → (⟨S_, .i32⟩ : BufTy).Contents (Elt Ideal) → (⟨S_, .i32⟩ : BufTy).Contents (Elt Ideal)) (((cmpi .eq) : (⟨S_, .i32⟩ : BufTy).Contents (Elt Ideal) → (⟨S_, .i32⟩ : BufTy).Contents (Elt Ideal) → (⟨S_, .i1⟩ : BufTy).Contents (Elt Ideal)) ((id : (⟨S_, .i32⟩ : BufTy).Contents (Elt Ideal) → (⟨S_, .i32⟩ : BufTy).Contents (Elt Ideal)) x1) ((constantI S_ 32 0#32) : (⟨S_, .i32⟩ : BufTy).Contents (Elt Ideal))) ((constantI S_ 32 1#32) : (⟨S_, .i32⟩ : BufTy).Contents (Elt Ideal)) ((id : (⟨S_, .i32⟩ : BufTy).Contents (Elt Ideal) → (⟨S_, .i32⟩ : BufTy).Contents (Elt Ideal)) x1)))) (((broadcastInDim S300 ![] bcast_S_S300) : (⟨S_, .i32⟩ : BufTy).Contents (Elt Ideal) → (⟨S300, .i32⟩ : BufTy).Contents (Elt Ideal)) ((constantI S_ 32 0#32) : (⟨S_, .i32⟩ : BufTy).Contents (Elt Ideal)))) (((broadcastInDim S300 ![] bcast_S_S300) : (⟨S_, .i1⟩ : BufTy).Contents (Elt Ideal) → (⟨S300, .i1⟩ : BufTy).Contents (Elt Ideal)) (((cmpi .slt) : (⟨S_, .i32⟩ : BufTy).Contents (Elt Ideal) → (⟨S_, .i32⟩ : BufTy).Contents (Elt Ideal) → (⟨S_, .i1⟩ : BufTy).Contents (Elt Ideal)) ((select : (⟨S_, .i1⟩ : BufTy).Contents (Elt Ideal) → (⟨S_, .i32⟩ : BufTy).Contents (Elt Ideal) → (⟨S_, .i32⟩ : BufTy).Contents (Elt Ideal) → (⟨S_, .i32⟩ : BufTy).Contents (Elt Ideal)) (((cmpi .eq) : (⟨S_, .i32⟩ : BufTy).Contents (Elt Ideal) → (⟨S_, .i32⟩ : BufTy).Contents (Elt Ideal) → (⟨S_, .i1⟩ : BufTy).Contents (Elt Ideal)) ((id : (⟨S_, .i32⟩ : BufTy).Contents (Elt Ideal) → (⟨S_, .i32⟩ : BufTy).Contents (Elt Ideal)) x1) ((constantI S_ 32 0#32) : (⟨S_, .i32⟩ : BufTy).Contents (Elt Ideal))) ((constantI S_ 32 1#32) : (⟨S_, .i32⟩ : BufTy).Contents (Elt Ideal)) ((id : (⟨S_, .i32⟩ : BufTy).Contents (Elt Ideal) → (⟨S_, .i32⟩ : BufTy).Contents (Elt Ideal)) x1)) ((constantI S_ 32 0#32) : (⟨S_, .i32⟩ : BufTy).Contents (Elt Ideal))))) (((cmpi .ne) : (⟨S300, .i32⟩ : BufTy).Contents (Elt Ideal) → (⟨S300, .i32⟩ : BufTy).Contents (Elt Ideal) → (⟨S300, .i1⟩ : BufTy).Contents (Elt Ideal)) ((Host.remsi : (⟨S300, .i32⟩ : BufTy).Contents (Elt Ideal) → (⟨S300, .i32⟩ : BufTy).Contents (Elt Ideal) → (⟨S300, .i32⟩ : BufTy).Contents (Elt Ideal)) x0 (((broadcastInDim S300 ![] bcast_S_S300) : (⟨S_, .i32⟩ : BufTy).Contents (Elt Ideal) → (⟨S300, .i32⟩ : BufTy).Contents (Elt Ideal)) ((select : (⟨S_, .i1⟩ : BufTy).Contents (Elt Ideal) → (⟨S_, .i32⟩ : BufTy).Contents (Elt Ideal) → (⟨S_, .i32⟩ : BufTy).Contents (Elt Ideal) → (⟨S_, .i32⟩ : BufTy).Contents (Elt Ideal)) (((cmpi .eq) : (⟨S_, .i32⟩ : BufTy).Contents (Elt Ideal) → (⟨S_, .i32⟩ : BufTy).Contents (Elt Ideal) → (⟨S_, .i1⟩ : BufTy).Contents (Elt Ideal)) ((id : (⟨S_, .i32⟩ : BufTy).Contents (Elt Ideal) → (⟨S_, .i32⟩ : BufTy).Contents (Elt Ideal)) x1) ((constantI S_ 32 0#32) : (⟨S_, .i32⟩ : BufTy).Contents (Elt Ideal))) ((constantI S_ 32 1#32) : (⟨S_, .i32⟩ : BufTy).Contents (Elt Ideal)) ((id : (⟨S_, .i32⟩ : BufTy).Contents (Elt Ideal) → (⟨S_, .i32⟩ : BufTy).Contents (Elt Ideal)) x1)))) (((broadcastInDim S300 ![] bcast_S_S300) : (⟨S_, .i32⟩ : BufTy).Contents (Elt Ideal) → (⟨S300, .i32⟩ : BufTy).Contents (Elt Ideal)) ((constantI S_ 32 0#32) : (⟨S_, .i32⟩ : BufTy).Contents (Elt Ideal))))) ((addi : (⟨S300, .i32⟩ : BufTy).Contents (Elt Ideal) → (⟨S300, .i32⟩ : BufTy).Contents (Elt Ideal) → (⟨S300, .i32⟩ : BufTy).Contents (Elt Ideal)) ((Host.remsi : (⟨S300, .i32⟩ : BufTy).Contents (Elt Ideal) → (⟨S300, .i32⟩ : BufTy).Contents (Elt Ideal) → (⟨S300, .i32⟩ : BufTy).Contents (Elt Ideal)) x0 (((broadcastInDim S300 ![] bcast_S_S300) : (⟨S_, .i32⟩ : BufTy).Contents (Elt Ideal) → (⟨S300, .i32⟩ : BufTy).Contents (Elt Ideal)) ((select : (⟨S_, .i1⟩ : BufTy).Contents (Elt Ideal) → (⟨S_, .i32⟩ : BufTy).Contents (Elt Ideal) → (⟨S_, .i32⟩ : BufTy).Contents (Elt Ideal) → (⟨S_, .i32⟩ : BufTy).Contents (Elt Ideal)) (((cmpi .eq) : (⟨S_, .i32⟩ : BufTy).Contents (Elt Ideal) → (⟨S_, .i32⟩ : BufTy).Contents (Elt Ideal) → (⟨S_, .i1⟩ : BufTy).Contents (Elt Ideal)) ((id : (⟨S_, .i32⟩ : BufTy).Contents (Elt Ideal) → (⟨S_, .i32⟩ : BufTy).Contents (Elt Ideal)) x1) ((constantI S_ 32 0#32) : (⟨S_, .i32⟩ : BufTy).Contents (Elt Ideal))) ((constantI S_ 32 1#32) : (⟨S_, .i32⟩ : BufTy).Contents (Elt Ideal)) ((id : (⟨S_, .i32⟩ : BufTy).Contents (Elt Ideal) → (⟨S_, .i32⟩ : BufTy).Contents (Elt Ideal)) x1)))) (((broadcastInDim S300 ![] bcast_S_S300) : (⟨S_, .i32⟩ : BufTy).Contents (Elt Ideal) → (⟨S300, .i32⟩ : BufTy).Contents (Elt Ideal)) ((select : (⟨S_, .i1⟩ : BufTy).Contents (Elt Ideal) → (⟨S_, .i32⟩ : BufTy).Contents (Elt Ideal) → (⟨S_, .i32⟩ : BufTy).Contents (Elt Ideal) → (⟨S_, .i32⟩ : BufTy).Contents (Elt Ideal)) (((cmpi .eq) : (⟨S_, .i32⟩ : BufTy).Contents (Elt Ideal) → (⟨S_, .i32⟩ : BufTy).Contents (Elt Ideal) → (⟨S_, .i1⟩ : BufTy).Contents (Elt Ideal)) ((id : (⟨S_, .i32⟩ : BufTy).Contents (Elt Ideal) → (⟨S_, .i32⟩ : BufTy).Contents (Elt Ideal)) x1) ((constantI S_ 32 0#32) : (⟨S_, .i32⟩ : BufTy).Contents (Elt Ideal))) ((constantI S_ 32 1#32) : (⟨S_, .i32⟩ : BufTy).Contents (Elt Ideal)) ((id : (⟨S_, .i32⟩ : BufTy).Contents (Elt Ideal) → (⟨S_, .i32⟩ : BufTy).Contents (Elt Ideal)) x1)))) ((Host.remsi : (⟨S300, .i32⟩ : BufTy).Contents (Elt Ideal) → (⟨S300, .i32⟩ : BufTy).Contents (Elt Ideal) → (⟨S300, .i32⟩ : BufTy).Contents (Elt Ideal)) x0 (((broadcastInDim S300 ![] bcast_S_S300) : (⟨S_, .i32⟩ : BufTy).Contents (Elt Ideal) → (⟨S300, .i32⟩ : BufTy).Contents (Elt Ideal)) ((select : (⟨S_, .i1⟩ : BufTy).Contents (Elt Ideal) → (⟨S_, .i32⟩ : BufTy).Contents (Elt Ideal) → (⟨S_, .i32⟩ : BufTy).Contents (Elt Ideal) → (⟨S_, .i32⟩ : BufTy).Contents (Elt Ideal)) (((cmpi .eq) : (⟨S_, .i32⟩ : BufTy).Contents (Elt Ideal) → (⟨S_, .i32⟩ : BufTy).Contents (Elt Ideal) → (⟨S_, .i1⟩ : BufTy).Contents (Elt Ideal)) ((id : (⟨S_, .i32⟩ : BufTy).Contents (Elt Ideal) → (⟨S_, .i32⟩ : BufTy).Contents (Elt Ideal)) x1) ((constantI S_ 32 0#32) : (⟨S_, .i32⟩ : BufTy).Contents (Elt Ideal))) ((constantI S_ 32 1#32) : (⟨S_, .i32⟩ : BufTy).Contents (Elt Ideal)) ((id : (⟨S_, .i32⟩ : BufTy).Contents (Elt Ideal) → (⟨S_, .i32⟩ : BufTy).Contents (Elt Ideal)) x1)))))

def F_beyond (x0 : (⟨S6016, .i1⟩ : BufTy).Contents (Elt Ideal)) : (⟨S300, .i1⟩ : BufTy).Contents (Elt Ideal) :=
  ((cmpi .sge : (⟨S300, .i32⟩ : BufTy).Contents (Elt Ideal) → (⟨S300, .i32⟩ : BufTy).Contents (Elt Ideal) → (⟨S300, .i1⟩ : BufTy).Contents (Elt Ideal)) ((iotaInDim S300 32 0) : (⟨S300, .i32⟩ : BufTy).Contents (Elt Ideal)) ((broadcastInDim S300 ![0] bcast_S1_S300_0 : (⟨S1, .i32⟩ : BufTy).Contents (Elt Ideal) → (⟨S300, .i32⟩ : BufTy).Contents (Elt Ideal)) ((broadcastInDim S1 ![] bcast_S_S1 : (⟨S_, .i32⟩ : BufTy).Contents (Elt Ideal) → (⟨S1, .i32⟩ : BufTy).Contents (Elt Ideal)) (((fun x v => Host.reduce IntOp.addi x v reducesTo_S6016_S_d0 h_S_) : (⟨S6016, .i32⟩ : BufTy).Contents (Elt Ideal) → (⟨S_, .i32⟩ : BufTy).Contents (Elt Ideal) → (⟨S_, .i32⟩ : BufTy).Contents (Elt Ideal)) (((extui 32 · natLt_1_32) : (⟨S6016, .i1⟩ : BufTy).Contents (Elt Ideal) → (⟨S6016, .i32⟩ : BufTy).Contents (Elt Ideal)) x0) ((constantI S_ 32 0#32) : (⟨S_, .i32⟩ : BufTy).Contents (Elt Ideal))))))

def F_cZero  : (⟨S1, .i32⟩ : BufTy).Contents (Elt Ideal) :=
  ((broadcastInDim S1 ![] bcast_S_S1 : (⟨S_, .i32⟩ : BufTy).Contents (Elt Ideal) → (⟨S1, .i32⟩ : BufTy).Contents (Elt Ideal)) ((constantI S_ 32 0#32) : (⟨S_, .i32⟩ : BufTy).Contents (Elt Ideal)))

def F_whereBeyond (x0 : (⟨S300, .i1⟩ : BufTy).Contents (Elt Ideal)) (x1 : (⟨S1, .i32⟩ : BufTy).Contents (Elt Ideal)) (x2 : (⟨S300, .i32⟩ : BufTy).Contents (Elt Ideal)) : (⟨S300, .i32⟩ : BufTy).Contents (Elt Ideal) :=
  ((select : (⟨S300, .i1⟩ : BufTy).Contents (Elt Ideal) → (⟨S300, .i32⟩ : BufTy).Contents (Elt Ideal) → (⟨S300, .i32⟩ : BufTy).Contents (Elt Ideal) → (⟨S300, .i32⟩ : BufTy).Contents (Elt Ideal)) x0 (((broadcastInDim S300 ![0] bcast_S1_S300_0) : (⟨S1, .i32⟩ : BufTy).Contents (Elt Ideal) → (⟨S300, .i32⟩ : BufTy).Contents (Elt Ideal)) x1) x2)

def F_image0 (x0 : (⟨S2x6000x4, .f32⟩ : BufTy).Contents (Elt Ideal)) : (⟨S6000x4, .f32⟩ : BufTy).Contents (Elt Ideal) :=
  (shapeCast S6000x4 (((extractStridedSlice S1x6000x4 ![0, 0, 0] · slices_S2x6000x4_S1x6000x4_0_0_0) : (⟨S2x6000x4, .f32⟩ : BufTy).Contents (Elt Ideal) → (⟨S1x6000x4, .f32⟩ : BufTy).Contents (Elt Ideal)) x0) shapeCasts_S1x6000x4_S6000x4 : (⟨S6000x4, .f32⟩ : BufTy).Contents (Elt Ideal))

def F_wrapped (x0 : (⟨S300, .i32⟩ : BufTy).Contents (Elt Ideal)) : (⟨S300, .i32⟩ : BufTy).Contents (Elt Ideal) :=
  ((select : (⟨S300, .i1⟩ : BufTy).Contents (Elt Ideal) → (⟨S300, .i32⟩ : BufTy).Contents (Elt Ideal) → (⟨S300, .i32⟩ : BufTy).Contents (Elt Ideal) → (⟨S300, .i32⟩ : BufTy).Contents (Elt Ideal)) ((cmpi .slt : (⟨S300, .i32⟩ : BufTy).Contents (Elt Ideal) → (⟨S300, .i32⟩ : BufTy).Contents (Elt Ideal) → (⟨S300, .i1⟩ : BufTy).Contents (Elt Ideal)) x0 ((broadcastInDim S300 ![] bcast_S_S300 : (⟨S_, .i32⟩ : BufTy).Contents (Elt Ideal) → (⟨S300, .i32⟩ : BufTy).Contents (Elt Ideal)) ((constantI S_ 32 0#32) : (⟨S_, .i32⟩ : BufTy).Contents (Elt Ideal)))) ((addi : (⟨S300, .i32⟩ : BufTy).Contents (Elt Ideal) → (⟨S300, .i32⟩ : BufTy).Contents (Elt Ideal) → (⟨S300, .i32⟩ : BufTy).Contents (Elt Ideal)) x0 ((broadcastInDim S300 ![] bcast_S_S300 : (⟨S_, .i32⟩ : BufTy).Contents (Elt Ideal) → (⟨S300, .i32⟩ : BufTy).Contents (Elt Ideal)) ((constantI S_ 32 6000#32) : (⟨S_, .i32⟩ : BufTy).Contents (Elt Ideal)))) x0)

def F_gathered (x0 : (⟨S6000x4, .f32⟩ : BufTy).Contents (Elt Ideal)) (x1 : (⟨S300, .i32⟩ : BufTy).Contents (Elt Ideal)) : (⟨S300x4, .f32⟩ : BufTy).Contents (Elt Ideal) :=
  (((fun x i => Host.gather gather_S6000x4_S300x1_S300x4_1_0_n_n_0_1_14 x i) : (⟨S6000x4, .f32⟩ : BufTy).Contents (Elt Ideal) → (⟨S300x1, .i32⟩ : BufTy).Contents (Elt Ideal) → (⟨S300x4, .f32⟩ : BufTy).Contents (Elt Ideal)) x0 ((broadcastInDim S300x1 ![0] bcast_S300_S300x1_0 : (⟨S300, .i32⟩ : BufTy).Contents (Elt Ideal) → (⟨S300x1, .i32⟩ : BufTy).Contents (Elt Ideal)) x1))

def F_batch0  : (⟨S300x1, .f32⟩ : BufTy).Contents (Elt Ideal) :=
  ((broadcastInDim S300x1 ![] bcast_S_S300x1 : (⟨S_, .f32⟩ : BufTy).Contents (Elt Ideal) → (⟨S300x1, .f32⟩ : BufTy).Contents (Elt Ideal)) ((constant (F := Ideal) S_ .f32 0x00000000#32) : (⟨S_, .f32⟩ : BufTy).Contents (Elt Ideal)))

def F_joined (x0 : (⟨S300x1, .f32⟩ : BufTy).Contents (Elt Ideal)) (x1 : (⟨S300x4, .f32⟩ : BufTy).Contents (Elt Ideal)) : (⟨S300x5, .f32⟩ : BufTy).Contents (Elt Ideal) :=
  (((fun a b => concatenate S300x5 1 [⟨S300x1, a⟩, ⟨S300x4, b⟩] concatenates_S300x1_S300x4_S300x5_d1) : (⟨S300x1, .f32⟩ : BufTy).Contents (Elt Ideal) → (⟨S300x4, .f32⟩ : BufTy).Contents (Elt Ideal) → (⟨S300x5, .f32⟩ : BufTy).Contents (Elt Ideal)) x0 x1)

def F_mask1 (x0 : (⟨S2x6016, .f32⟩ : BufTy).Contents (Elt Ideal)) : (⟨S6016, .i1⟩ : BufTy).Contents (Elt Ideal) :=
  ((cmpf (F := Ideal) (φ := .f32) .ogt : (⟨S6016, .f32⟩ : BufTy).Contents (Elt Ideal) → (⟨S6016, .f32⟩ : BufTy).Contents (Elt Ideal) → (⟨S6016, .i1⟩ : BufTy).Contents (Elt Ideal)) (shapeCast S6016 (((extractStridedSlice S1x6016 ![1, 0] · slices_S2x6016_S1x6016_1_0) : (⟨S2x6016, .f32⟩ : BufTy).Contents (Elt Ideal) → (⟨S1x6016, .f32⟩ : BufTy).Contents (Elt Ideal)) x0) shapeCasts_S1x6016_S6016 : (⟨S6016, .f32⟩ : BufTy).Contents (Elt Ideal)) ((broadcastInDim S6016 ![] bcast_S_S6016 : (⟨S_, .f32⟩ : BufTy).Contents (Elt Ideal) → (⟨S6016, .f32⟩ : BufTy).Contents (Elt Ideal)) ((constant (F := Ideal) S_ .f32 0x3F000000#32) : (⟨S_, .f32⟩ : BufTy).Contents (Elt Ideal))))

def F_rows1 (x0 : (⟨S2x6000x4, .f32⟩ : BufTy).Contents (Elt Ideal)) (x1 : (⟨S300, .i32⟩ : BufTy).Contents (Elt Ideal)) : (⟨S300x4, .f32⟩ : BufTy).Contents (Elt Ideal) :=
  (((fun x i => Host.gather gather_S6000x4_S300x1_S300x4_1_0_n_n_0_1_14 x i) : (⟨S6000x4, .f32⟩ : BufTy).Contents (Elt Ideal) → (⟨S300x1, .i32⟩ : BufTy).Contents (Elt Ideal) → (⟨S300x4, .f32⟩ : BufTy).Contents (Elt Ideal)) (shapeCast S6000x4 (((extractStridedSlice S1x6000x4 ![1, 0, 0] · slices_S2x6000x4_S1x6000x4_1_0_0) : (⟨S2x6000x4, .f32⟩ : BufTy).Contents (Elt Ideal) → (⟨S1x6000x4, .f32⟩ : BufTy).Contents (Elt Ideal)) x0) shapeCasts_S1x6000x4_S6000x4 : (⟨S6000x4, .f32⟩ : BufTy).Contents (Elt Ideal)) ((broadcastInDim S300x1 ![0] bcast_S300_S300x1_0 : (⟨S300, .i32⟩ : BufTy).Contents (Elt Ideal) → (⟨S300x1, .i32⟩ : BufTy).Contents (Elt Ideal)) ((select : (⟨S300, .i1⟩ : BufTy).Contents (Elt Ideal) → (⟨S300, .i32⟩ : BufTy).Contents (Elt Ideal) → (⟨S300, .i32⟩ : BufTy).Contents (Elt Ideal) → (⟨S300, .i32⟩ : BufTy).Contents (Elt Ideal)) ((cmpi .slt : (⟨S300, .i32⟩ : BufTy).Contents (Elt Ideal) → (⟨S300, .i32⟩ : BufTy).Contents (Elt Ideal) → (⟨S300, .i1⟩ : BufTy).Contents (Elt Ideal)) x1 ((broadcastInDim S300 ![] bcast_S_S300 : (⟨S_, .i32⟩ : BufTy).Contents (Elt Ideal) → (⟨S300, .i32⟩ : BufTy).Contents (Elt Ideal)) ((constantI S_ 32 0#32) : (⟨S_, .i32⟩ : BufTy).Contents (Elt Ideal)))) ((addi : (⟨S300, .i32⟩ : BufTy).Contents (Elt Ideal) → (⟨S300, .i32⟩ : BufTy).Contents (Elt Ideal) → (⟨S300, .i32⟩ : BufTy).Contents (Elt Ideal)) x1 ((broadcastInDim S300 ![] bcast_S_S300 : (⟨S_, .i32⟩ : BufTy).Contents (Elt Ideal) → (⟨S300, .i32⟩ : BufTy).Contents (Elt Ideal)) ((constantI S_ 32 6000#32) : (⟨S_, .i32⟩ : BufTy).Contents (Elt Ideal)))) x1)))

def F_batch1  : (⟨S300x1, .f32⟩ : BufTy).Contents (Elt Ideal) :=
  ((broadcastInDim S300x1 ![] bcast_S_S300x1 : (⟨S_, .f32⟩ : BufTy).Contents (Elt Ideal) → (⟨S300x1, .f32⟩ : BufTy).Contents (Elt Ideal)) ((constant (F := Ideal) S_ .f32 0x3F800000#32) : (⟨S_, .f32⟩ : BufTy).Contents (Elt Ideal)))

def F_lift0 (x0 : (⟨S300x5, .f32⟩ : BufTy).Contents (Elt Ideal)) : (⟨S1x300x5, .f32⟩ : BufTy).Contents (Elt Ideal) :=
  ((broadcastInDim S1x300x5 ![1, 2] bcast_S300x5_S1x300x5_1_2 : (⟨S300x5, .f32⟩ : BufTy).Contents (Elt Ideal) → (⟨S1x300x5, .f32⟩ : BufTy).Contents (Elt Ideal)) x0)

def F_stacked (x0 : (⟨S1x300x5, .f32⟩ : BufTy).Contents (Elt Ideal)) (x1 : (⟨S1x300x5, .f32⟩ : BufTy).Contents (Elt Ideal)) : (⟨S2x300x5, .f32⟩ : BufTy).Contents (Elt Ideal) :=
  (((fun a b => concatenate S2x300x5 0 [⟨S1x300x5, a⟩, ⟨S1x300x5, b⟩] concatenates_S1x300x5_S1x300x5_S2x300x5_d0) : (⟨S1x300x5, .f32⟩ : BufTy).Contents (Elt Ideal) → (⟨S1x300x5, .f32⟩ : BufTy).Contents (Elt Ideal) → (⟨S2x300x5, .f32⟩ : BufTy).Contents (Elt Ideal)) x0 x1)

theorem t0_main_v15 (W : Valuation τ sig (Elt Ideal)) : StableHlo.after t0 W (Proc.devRef .tc main_v15) = F_keepAll (W (Proc.devRef .tc main_v14)) := by
  simp only [t0]
  after_results
  try simp only [StableHlo.TRef.ofBuf, StableHlo.TRef.toBuf, cast_eq]
  rfl
theorem t0_main_v19 (W : Valuation τ sig (Elt Ideal)) : StableHlo.after t0 W (Proc.devRef .tc main_v19) = F_mask0 (W (Proc.devRef .tc main_v14)) := by
  simp only [t0]
  after_results
  try simp only [StableHlo.TRef.ofBuf, StableHlo.TRef.toBuf, cast_eq]
  rfl
theorem t1_main_v20 (W : Valuation τ sig (Elt Ideal)) : StableHlo.after t1 W (Proc.devRef .tc main_v20) = F_cumMask (W (Proc.devRef .tc main_v19)) := by
  simp only [t1]
  after_results
  try simp only [StableHlo.TRef.ofBuf, StableHlo.TRef.toBuf, cast_eq]
  rfl
theorem t2_main_v29 (W : Valuation τ sig (Elt Ideal)) : StableHlo.after t2 W (Proc.devRef .tc main_v29) = F_hist (W (Proc.devRef .tc main_v20)) := by
  simp only [t2]
  after_results
  try simp only [StableHlo.TRef.ofBuf, StableHlo.TRef.toBuf, cast_eq]
  rfl
theorem t3_main_v30 (W : Valuation τ sig (Elt Ideal)) : StableHlo.after t3 W (Proc.devRef .tc main_v30) = F_cumHist (W (Proc.devRef .tc main_v29)) := by
  simp only [t3]
  after_results
  try simp only [StableHlo.TRef.ofBuf, StableHlo.TRef.toBuf, cast_eq]
  rfl
theorem t4_main_c_4 (W : Valuation τ sig (Elt Ideal)) : StableHlo.after t4 W (Proc.devRef .tc main_c_4) = F_cOne  := by
  simp only [t4]
  after_results
  try simp only [StableHlo.TRef.ofBuf, StableHlo.TRef.toBuf, cast_eq]
  rfl
theorem t5_main_v31 (W : Valuation τ sig (Elt Ideal)) : StableHlo.after t5 W (Proc.devRef .tc main_v31) = F_floorDiv (W (Proc.devRef .tc main_v30)) (W (Proc.devRef .tc main_c_4)) := by
  simp only [t5]
  after_results
  try simp only [StableHlo.TRef.ofBuf, StableHlo.TRef.toBuf, cast_eq]
  rfl
theorem t6_main_c_5 (W : Valuation τ sig (Elt Ideal)) : StableHlo.after t6 W (Proc.devRef .tc main_c_5) = F_cAll  := by
  simp only [t6]
  after_results
  try simp only [StableHlo.TRef.ofBuf, StableHlo.TRef.toBuf, cast_eq]
  rfl
theorem t7_main_v32 (W : Valuation τ sig (Elt Ideal)) : StableHlo.after t7 W (Proc.devRef .tc main_v32) = F_remAll (W (Proc.devRef .tc main_v31)) (W (Proc.devRef .tc main_c_5)) := by
  simp only [t7]
  after_results
  try simp only [StableHlo.TRef.ofBuf, StableHlo.TRef.toBuf, cast_eq]
  rfl
theorem t8_main_v38 (W : Valuation τ sig (Elt Ideal)) : StableHlo.after t8 W (Proc.devRef .tc main_v38) = F_beyond (W (Proc.devRef .tc main_v19)) := by
  simp only [t8]
  after_results
  try simp only [StableHlo.TRef.ofBuf, StableHlo.TRef.toBuf, cast_eq]
  rfl
theorem t8_main_v39 (W : Valuation τ sig (Elt Ideal)) : StableHlo.after t8 W (Proc.devRef .tc main_v39) = F_cZero  := by
  simp only [t8]
  after_results
  try simp only [StableHlo.TRef.ofBuf, StableHlo.TRef.toBuf, cast_eq]
  rfl
theorem t9_main_v40 (W : Valuation τ sig (Elt Ideal)) : StableHlo.after t9 W (Proc.devRef .tc main_v40) = F_whereBeyond (W (Proc.devRef .tc main_v38)) (W (Proc.devRef .tc main_v39)) (W (Proc.devRef .tc main_v32)) := by
  simp only [t9]
  after_results
  try simp only [StableHlo.TRef.ofBuf, StableHlo.TRef.toBuf, cast_eq]
  rfl
theorem t10_main_v42 (W : Valuation τ sig (Elt Ideal)) : StableHlo.after t10 W (Proc.devRef .tc main_v42) = F_image0 (W (Proc.devRef .tc main_arg0)) := by
  simp only [t10]
  after_results
  try simp only [StableHlo.TRef.ofBuf, StableHlo.TRef.toBuf, cast_eq]
  rfl
theorem t10_main_v47 (W : Valuation τ sig (Elt Ideal)) : StableHlo.after t10 W (Proc.devRef .tc main_v47) = F_wrapped (W (Proc.devRef .tc main_v40)) := by
  simp only [t10]
  after_results
  try simp only [StableHlo.TRef.ofBuf, StableHlo.TRef.toBuf, cast_eq]
  rfl
theorem t11_main_v49 (W : Valuation τ sig (Elt Ideal)) : StableHlo.after t11 W (Proc.devRef .tc main_v49) = F_gathered (W (Proc.devRef .tc main_v42)) (W (Proc.devRef .tc main_v47)) := by
  simp only [t11]
  after_results
  try simp only [StableHlo.TRef.ofBuf, StableHlo.TRef.toBuf, cast_eq]
  rfl
theorem t11_main_v50 (W : Valuation τ sig (Elt Ideal)) : StableHlo.after t11 W (Proc.devRef .tc main_v50) = F_batch0  := by
  simp only [t11]
  after_results
  try simp only [StableHlo.TRef.ofBuf, StableHlo.TRef.toBuf, cast_eq]
  rfl
theorem t12_main_v51 (W : Valuation τ sig (Elt Ideal)) : StableHlo.after t12 W (Proc.devRef .tc main_v51) = F_joined (W (Proc.devRef .tc main_v50)) (W (Proc.devRef .tc main_v49)) := by
  simp only [t12]
  after_results
  try simp only [StableHlo.TRef.ofBuf, StableHlo.TRef.toBuf, cast_eq]
  rfl
theorem t13_main_v55 (W : Valuation τ sig (Elt Ideal)) : StableHlo.after t13 W (Proc.devRef .tc main_v55) = F_mask1 (W (Proc.devRef .tc main_v15)) := by
  simp only [t13]
  after_results
  try simp only [StableHlo.TRef.ofBuf, StableHlo.TRef.toBuf, cast_eq]
  rfl
theorem t14_main_v56 (W : Valuation τ sig (Elt Ideal)) : StableHlo.after t14 W (Proc.devRef .tc main_v56) = F_cumMask (W (Proc.devRef .tc main_v55)) := by
  simp only [t14]
  after_results
  try simp only [StableHlo.TRef.ofBuf, StableHlo.TRef.toBuf, cast_eq]
  rfl
theorem t15_main_v65 (W : Valuation τ sig (Elt Ideal)) : StableHlo.after t15 W (Proc.devRef .tc main_v65) = F_hist (W (Proc.devRef .tc main_v56)) := by
  simp only [t15]
  after_results
  try simp only [StableHlo.TRef.ofBuf, StableHlo.TRef.toBuf, cast_eq]
  rfl
theorem t16_main_v66 (W : Valuation τ sig (Elt Ideal)) : StableHlo.after t16 W (Proc.devRef .tc main_v66) = F_cumHist (W (Proc.devRef .tc main_v65)) := by
  simp only [t16]
  after_results
  try simp only [StableHlo.TRef.ofBuf, StableHlo.TRef.toBuf, cast_eq]
  rfl
theorem t17_main_c_16 (W : Valuation τ sig (Elt Ideal)) : StableHlo.after t17 W (Proc.devRef .tc main_c_16) = F_cOne  := by
  simp only [t17]
  after_results
  try simp only [StableHlo.TRef.ofBuf, StableHlo.TRef.toBuf, cast_eq]
  rfl
theorem t18_main_v67 (W : Valuation τ sig (Elt Ideal)) : StableHlo.after t18 W (Proc.devRef .tc main_v67) = F_floorDiv (W (Proc.devRef .tc main_v66)) (W (Proc.devRef .tc main_c_16)) := by
  simp only [t18]
  after_results
  try simp only [StableHlo.TRef.ofBuf, StableHlo.TRef.toBuf, cast_eq]
  rfl
theorem t19_main_c_17 (W : Valuation τ sig (Elt Ideal)) : StableHlo.after t19 W (Proc.devRef .tc main_c_17) = F_cAll  := by
  simp only [t19]
  after_results
  try simp only [StableHlo.TRef.ofBuf, StableHlo.TRef.toBuf, cast_eq]
  rfl
theorem t20_main_v68 (W : Valuation τ sig (Elt Ideal)) : StableHlo.after t20 W (Proc.devRef .tc main_v68) = F_remAll (W (Proc.devRef .tc main_v67)) (W (Proc.devRef .tc main_c_17)) := by
  simp only [t20]
  after_results
  try simp only [StableHlo.TRef.ofBuf, StableHlo.TRef.toBuf, cast_eq]
  rfl
theorem t21_main_v74 (W : Valuation τ sig (Elt Ideal)) : StableHlo.after t21 W (Proc.devRef .tc main_v74) = F_beyond (W (Proc.devRef .tc main_v55)) := by
  simp only [t21]
  after_results
  try simp only [StableHlo.TRef.ofBuf, StableHlo.TRef.toBuf, cast_eq]
  rfl
theorem t21_main_v75 (W : Valuation τ sig (Elt Ideal)) : StableHlo.after t21 W (Proc.devRef .tc main_v75) = F_cZero  := by
  simp only [t21]
  after_results
  try simp only [StableHlo.TRef.ofBuf, StableHlo.TRef.toBuf, cast_eq]
  rfl
theorem t22_main_v76 (W : Valuation τ sig (Elt Ideal)) : StableHlo.after t22 W (Proc.devRef .tc main_v76) = F_whereBeyond (W (Proc.devRef .tc main_v74)) (W (Proc.devRef .tc main_v75)) (W (Proc.devRef .tc main_v68)) := by
  simp only [t22]
  after_results
  try simp only [StableHlo.TRef.ofBuf, StableHlo.TRef.toBuf, cast_eq]
  rfl
theorem t23_main_v85 (W : Valuation τ sig (Elt Ideal)) : StableHlo.after t23 W (Proc.devRef .tc main_v85) = F_rows1 (W (Proc.devRef .tc main_arg0)) (W (Proc.devRef .tc main_v76)) := by
  simp only [t23]
  after_results
  try simp only [StableHlo.TRef.ofBuf, StableHlo.TRef.toBuf, cast_eq]
  rfl
theorem t23_main_v86 (W : Valuation τ sig (Elt Ideal)) : StableHlo.after t23 W (Proc.devRef .tc main_v86) = F_batch1  := by
  simp only [t23]
  after_results
  try simp only [StableHlo.TRef.ofBuf, StableHlo.TRef.toBuf, cast_eq]
  rfl
theorem t24_main_v87 (W : Valuation τ sig (Elt Ideal)) : StableHlo.after t24 W (Proc.devRef .tc main_v87) = F_joined (W (Proc.devRef .tc main_v86)) (W (Proc.devRef .tc main_v85)) := by
  simp only [t24]
  after_results
  try simp only [StableHlo.TRef.ofBuf, StableHlo.TRef.toBuf, cast_eq]
  rfl
theorem t25_main_v88 (W : Valuation τ sig (Elt Ideal)) : StableHlo.after t25 W (Proc.devRef .tc main_v88) = F_lift0 (W (Proc.devRef .tc main_v51)) := by
  simp only [t25]
  after_results
  try simp only [StableHlo.TRef.ofBuf, StableHlo.TRef.toBuf, cast_eq]
  rfl
theorem t25_main_v89 (W : Valuation τ sig (Elt Ideal)) : StableHlo.after t25 W (Proc.devRef .tc main_v89) = F_lift0 (W (Proc.devRef .tc main_v87)) := by
  simp only [t25]
  after_results
  try simp only [StableHlo.TRef.ofBuf, StableHlo.TRef.toBuf, cast_eq]
  rfl
theorem t26_main_v90 (W : Valuation τ sig (Elt Ideal)) : StableHlo.after t26 W (Proc.devRef .tc main_v90) = F_stacked (W (Proc.devRef .tc main_v88)) (W (Proc.devRef .tc main_v89)) := by
  simp only [t26]
  after_results
  try simp only [StableHlo.TRef.ofBuf, StableHlo.TRef.toBuf, cast_eq]
  rfl

/-- The tail's result of the kept rows and the argument. -/
theorem tail_eq (W : Valuation τ sig (Elt Ideal)) (R : (⟨S2x47x128, .f32⟩ : BufTy).Contents (Elt Ideal)) (X : (⟨S2x6000x4, .f32⟩ : BufTy).Contents (Elt Ideal))
    (hR : W (Proc.devRef .tc main_v14) = R) (hX : W (Proc.devRef .tc main_arg0) = X) :
    StableHlo.after (List.flatten opss1) W (Proc.devRef .tc main_v90) = (F_stacked (F_lift0 (F_joined (F_batch0) (F_gathered (F_image0 X) (F_wrapped (F_whereBeyond (F_beyond (F_mask0 R)) (F_cZero) (F_remAll (F_floorDiv (F_cumHist (F_hist (F_cumMask (F_mask0 R)))) (F_cOne)) (F_cAll))))))) (F_lift0 (F_joined (F_batch1) (F_rows1 X (F_whereBeyond (F_beyond (F_mask1 (F_keepAll R))) (F_cZero) (F_remAll (F_floorDiv (F_cumHist (F_hist (F_cumMask (F_mask1 (F_keepAll R))))) (F_cOne)) (F_cAll))))))) := by
  subst hR hX
  dsimp only [opss1]
  rw [after_cons, after_cons, after_cons, after_cons, after_cons, after_cons, after_cons, after_cons, after_cons, after_cons, after_cons, after_cons, after_cons, after_cons, after_cons, after_cons, after_cons, after_cons, after_cons, after_cons, after_cons, after_cons, after_cons, after_cons, after_cons, after_cons, after_cons, after_nil]
  rw [t26_main_v90,
    t25_main_v88,
    t25_main_v89,
    StableHlo.after_of_writes_sub (r := main_v51) t24 _ t24_writes (by decide +kernel),
    t24_main_v87,
    StableHlo.after_of_writes_sub (r := main_v51) t23 _ t23_writes (by decide +kernel),
    t23_main_v86,
    t23_main_v85,
    StableHlo.after_of_writes_sub (r := main_v51) t22 _ t22_writes (by decide +kernel),
    StableHlo.after_of_writes_sub (r := main_arg0) t22 _ t22_writes (by decide +kernel),
    t22_main_v76,
    StableHlo.after_of_writes_sub (r := main_v51) t21 _ t21_writes (by decide +kernel),
    StableHlo.after_of_writes_sub (r := main_arg0) t21 _ t21_writes (by decide +kernel),
    t21_main_v74,
    t21_main_v75,
    StableHlo.after_of_writes_sub (r := main_v68) t21 _ t21_writes (by decide +kernel),
    StableHlo.after_of_writes_sub (r := main_v51) t20 _ t20_writes (by decide +kernel),
    StableHlo.after_of_writes_sub (r := main_arg0) t20 _ t20_writes (by decide +kernel),
    StableHlo.after_of_writes_sub (r := main_v55) t20 _ t20_writes (by decide +kernel),
    t20_main_v68,
    StableHlo.after_of_writes_sub (r := main_v51) t19 _ t19_writes (by decide +kernel),
    StableHlo.after_of_writes_sub (r := main_arg0) t19 _ t19_writes (by decide +kernel),
    StableHlo.after_of_writes_sub (r := main_v55) t19 _ t19_writes (by decide +kernel),
    StableHlo.after_of_writes_sub (r := main_v67) t19 _ t19_writes (by decide +kernel),
    t19_main_c_17,
    StableHlo.after_of_writes_sub (r := main_v51) t18 _ t18_writes (by decide +kernel),
    StableHlo.after_of_writes_sub (r := main_arg0) t18 _ t18_writes (by decide +kernel),
    StableHlo.after_of_writes_sub (r := main_v55) t18 _ t18_writes (by decide +kernel),
    t18_main_v67,
    StableHlo.after_of_writes_sub (r := main_v51) t17 _ t17_writes (by decide +kernel),
    StableHlo.after_of_writes_sub (r := main_arg0) t17 _ t17_writes (by decide +kernel),
    StableHlo.after_of_writes_sub (r := main_v55) t17 _ t17_writes (by decide +kernel),
    StableHlo.after_of_writes_sub (r := main_v66) t17 _ t17_writes (by decide +kernel),
    t17_main_c_16,
    StableHlo.after_of_writes_sub (r := main_v51) t16 _ t16_writes (by decide +kernel),
    StableHlo.after_of_writes_sub (r := main_arg0) t16 _ t16_writes (by decide +kernel),
    StableHlo.after_of_writes_sub (r := main_v55) t16 _ t16_writes (by decide +kernel),
    t16_main_v66,
    StableHlo.after_of_writes_sub (r := main_v51) t15 _ t15_writes (by decide +kernel),
    StableHlo.after_of_writes_sub (r := main_arg0) t15 _ t15_writes (by decide +kernel),
    StableHlo.after_of_writes_sub (r := main_v55) t15 _ t15_writes (by decide +kernel),
    t15_main_v65,
    StableHlo.after_of_writes_sub (r := main_v51) t14 _ t14_writes (by decide +kernel),
    StableHlo.after_of_writes_sub (r := main_arg0) t14 _ t14_writes (by decide +kernel),
    StableHlo.after_of_writes_sub (r := main_v55) t14 _ t14_writes (by decide +kernel),
    t14_main_v56,
    StableHlo.after_of_writes_sub (r := main_v51) t13 _ t13_writes (by decide +kernel),
    StableHlo.after_of_writes_sub (r := main_arg0) t13 _ t13_writes (by decide +kernel),
    t13_main_v55,
    t12_main_v51,
    StableHlo.after_of_writes_sub (r := main_arg0) t12 _ t12_writes (by decide +kernel),
    StableHlo.after_of_writes_sub (r := main_v15) t12 _ t12_writes (by decide +kernel),
    t11_main_v50,
    t11_main_v49,
    StableHlo.after_of_writes_sub (r := main_arg0) t11 _ t11_writes (by decide +kernel),
    StableHlo.after_of_writes_sub (r := main_v15) t11 _ t11_writes (by decide +kernel),
    t10_main_v42,
    t10_main_v47,
    StableHlo.after_of_writes_sub (r := main_arg0) t10 _ t10_writes (by decide +kernel),
    StableHlo.after_of_writes_sub (r := main_v15) t10 _ t10_writes (by decide +kernel),
    StableHlo.after_of_writes_sub (r := main_arg0) t9 _ t9_writes (by decide +kernel),
    t9_main_v40,
    StableHlo.after_of_writes_sub (r := main_v15) t9 _ t9_writes (by decide +kernel),
    StableHlo.after_of_writes_sub (r := main_arg0) t8 _ t8_writes (by decide +kernel),
    t8_main_v38,
    t8_main_v39,
    StableHlo.after_of_writes_sub (r := main_v32) t8 _ t8_writes (by decide +kernel),
    StableHlo.after_of_writes_sub (r := main_v15) t8 _ t8_writes (by decide +kernel),
    StableHlo.after_of_writes_sub (r := main_arg0) t7 _ t7_writes (by decide +kernel),
    StableHlo.after_of_writes_sub (r := main_v19) t7 _ t7_writes (by decide +kernel),
    t7_main_v32,
    StableHlo.after_of_writes_sub (r := main_v15) t7 _ t7_writes (by decide +kernel),
    StableHlo.after_of_writes_sub (r := main_arg0) t6 _ t6_writes (by decide +kernel),
    StableHlo.after_of_writes_sub (r := main_v19) t6 _ t6_writes (by decide +kernel),
    StableHlo.after_of_writes_sub (r := main_v31) t6 _ t6_writes (by decide +kernel),
    t6_main_c_5,
    StableHlo.after_of_writes_sub (r := main_v15) t6 _ t6_writes (by decide +kernel),
    StableHlo.after_of_writes_sub (r := main_arg0) t5 _ t5_writes (by decide +kernel),
    StableHlo.after_of_writes_sub (r := main_v19) t5 _ t5_writes (by decide +kernel),
    t5_main_v31,
    StableHlo.after_of_writes_sub (r := main_v15) t5 _ t5_writes (by decide +kernel),
    StableHlo.after_of_writes_sub (r := main_arg0) t4 _ t4_writes (by decide +kernel),
    StableHlo.after_of_writes_sub (r := main_v19) t4 _ t4_writes (by decide +kernel),
    StableHlo.after_of_writes_sub (r := main_v30) t4 _ t4_writes (by decide +kernel),
    t4_main_c_4,
    StableHlo.after_of_writes_sub (r := main_v15) t4 _ t4_writes (by decide +kernel),
    StableHlo.after_of_writes_sub (r := main_arg0) t3 _ t3_writes (by decide +kernel),
    StableHlo.after_of_writes_sub (r := main_v19) t3 _ t3_writes (by decide +kernel),
    t3_main_v30,
    StableHlo.after_of_writes_sub (r := main_v15) t3 _ t3_writes (by decide +kernel),
    StableHlo.after_of_writes_sub (r := main_arg0) t2 _ t2_writes (by decide +kernel),
    StableHlo.after_of_writes_sub (r := main_v19) t2 _ t2_writes (by decide +kernel),
    t2_main_v29,
    StableHlo.after_of_writes_sub (r := main_v15) t2 _ t2_writes (by decide +kernel),
    StableHlo.after_of_writes_sub (r := main_arg0) t1 _ t1_writes (by decide +kernel),
    StableHlo.after_of_writes_sub (r := main_v19) t1 _ t1_writes (by decide +kernel),
    t1_main_v20,
    StableHlo.after_of_writes_sub (r := main_v15) t1 _ t1_writes (by decide +kernel),
    StableHlo.after_of_writes_sub (r := main_arg0) t0 _ t0_writes (by decide +kernel),
    t0_main_v19,
    t0_main_v15]

end Cert.Kernel2Ideal.At

end
-- ==== Proof.Nms.Count.lean ====
/- Numbers of kept boxes: the row of the `k`-th kept box counted two ways. -/
module

public import proofs.«01_k».proof.Proof.Nms.Keep
public import Mathlib.Order.Interval.Finset.Nat

@[expose] public section

noncomputable section

namespace Cert.Spec

open Classical

/-- How many of the boxes up to number `i` have `P`. -/
def upTo (P : ℕ → Prop) (i : ℕ) : ℕ := Nat.count P (i + 1)

/-- The number of the `k`-th box with `P` among the first 6000; zero if there are too few. -/
def nth (P : ℕ → Prop) (k : ℕ) : ℕ := if k < Nat.count P 6000 then Nat.count (fun i => upTo P i ≤ k) 6000 else 0

theorem upTo_le (P : ℕ → Prop) (i : ℕ) : upTo P i ≤ i + 1 := Nat.count_le _

theorem nth_lt (P : ℕ → Prop) (k : ℕ) : nth P k < 6000 := by
  unfold nth
  split
  · next h =>
    have e : Nat.count (fun i => upTo P i ≤ k) 6000 = Nat.count (fun i => upTo P i ≤ k) 5999 := by
      rw [show (6000 : ℕ) = 5999 + 1 from rfl, Nat.count_succ, if_neg (show ¬ upTo P 5999 ≤ k from Nat.not_le.2 h), Nat.add_zero]
    rw [e]
    exact lt_of_le_of_lt (Nat.count_le _) (by norm_num)
  · norm_num

theorem count_const (P : ℕ → Prop) (h : ∀ i, P i → i < 6000) (d : ℕ) : Nat.count P (6000 + d) = Nat.count P 6000 := by
  induction d with
  | zero => rfl
  | succ d ih => rw [← Nat.add_assoc, Nat.count_succ, if_neg (fun hp => absurd (h _ hp) (by omega)), Nat.add_zero, ih]

/-- Boxes past the first 6000 come after `k` too. -/
theorem count_past (P : ℕ → Prop) (h : ∀ i, P i → i < 6000) (k : ℕ) (hk : k < Nat.count P 6000) (d : ℕ) :
    Nat.count (fun i => upTo P i ≤ k) (6000 + d) = Nat.count (fun i => upTo P i ≤ k) 6000 := by
  induction d with
  | zero => rfl
  | succ d ih =>
    rw [← Nat.add_assoc, Nat.count_succ, if_neg (by
      unfold upTo
      rw [Nat.add_assoc, count_const P h]
      omega), Nat.add_zero, ih]

/-- The counts' sum: how many values are at most `k`. -/
theorem sum_counts (f : ℕ → ℕ) (N k : ℕ) : ((List.range (k + 1)).map fun v => Nat.count (fun i => f i = v) N).sum = Nat.count (fun i => f i ≤ k) N := by
  induction k with
  | zero => simp
  | succ k ih =>
    rw [List.range_succ, List.map_append, List.sum_append, ih]
    simp only [List.map_cons, List.map_nil, List.sum_cons, List.sum_nil, Nat.add_zero]
    induction N with
    | zero => simp
    | succ N ihN =>
      have ihN' : Nat.count (fun i => f i ≤ k) N + Nat.count (fun i => f i = k + 1) N = Nat.count (fun i => f i ≤ k + 1) N := by
        clear ihN ih
        induction N with
        | zero => simp
        | succ N ihN =>
          simp only [Nat.count_succ]
          have : (if f N ≤ k then 1 else 0) + (if f N = k + 1 then 1 else 0) = (if f N ≤ k + 1 then 1 else 0) := by
            split_ifs <;> omega
          omega
      simp only [Nat.count_succ]
      have : (if f N ≤ k then 1 else 0) + (if f N = k + 1 then 1 else 0) = (if f N ≤ k + 1 then 1 else 0) := by
        split_ifs <;> omega
      omega

/-- A mask's running sum. -/
theorem sum_mask (P : ℕ → Prop) (n : ℕ) : ((List.range n).map fun i => if P i then 1 else 0).sum = Nat.count P n := by
  induction n with
  | zero => simp
  | succ n ih => rw [List.range_succ, List.map_append, List.sum_append, ih, Nat.count_succ]; simp

end Cert.Spec

end
-- ==== Proof.Nms.Words.lean ====
/- Counts held in words: masks summed along an axis, and hits added up. -/
module

public import proofs.«01_k».proof.Proof.Nms.Count
public import Idealize.ShloMosaic.Lib.Routing.Ops
public import Idealize.ShloMosaic.Lib.Routing.OpsPair
public import Idealize.ShloMosaic.Lib.Routing.Words

@[expose] public section

noncomputable section

namespace Cert.Spec

open Classical
open Idealize.ShloMosaic Idealize.ShloMosaic.Routing

theorem ne_one_bit {v : BitVec 1} (h : v ≠ 1#1) : v = 0#1 := by
  revert v
  decide

/-- A widened bit is the word of its truth. -/
theorem word_bit (v : BitVec 1) (p : Prop) (h : v = 1#1 ↔ p) : v.setWidth 32 = BitVec.ofNat 32 (if p then 1 else 0) := by
  by_cases hp : p
  · rw [if_pos hp, h.2 hp]
    rfl
  · rw [if_neg hp, ne_one_bit (fun e => hp (h.1 e))]
    rfl

/-- Ones added for the hits of a list. -/
theorem add_hits {ι : Type} (l : List ι) (hit : ι → Prop) (v : BitVec 32) (z : ℕ) (hv : v = BitVec.ofNat 32 z) :
    l.foldl (fun a n => if hit n then IntOp.addi a 1#32 else a) v = BitVec.ofNat 32 (z + l.countP (fun n => decide (hit n))) := by
  induction l generalizing v z with
  | nil => exact hv
  | cons n l ih =>
    rw [List.foldl_cons, List.countP_cons]
    by_cases h : hit n
    · rw [if_pos h, ih _ (z + 1) (by rw [hv]; exact (BitVec.ofNat_add z 1).symm)]
      simp only [h, decide_true, if_true]
      congr 1
      omega
    · rw [if_neg h, ih v z hv]
      simp [h]

/-- Ones scattered onto zeros count the updates that land. -/
theorem scatter_ones {s si u : Shape} (d : ScatterDims s si u) (x : s.Idx → BitVec 32) (idx : IVec si 32) (upd : u.Idx → BitVec 32) (ι : s.Idx)
    (h0 : x ι = 0#32) (h1 : ∀ k, upd k = 1#32) (hit : ℕ → Prop)
    (hh : ∀ n : Fin u.numel, d.resultIdx? (u.rowMajor.symm n) idx = some ι ↔ hit n.val) :
    Host.scatter d IntOp.addi x idx upd ι = BitVec.ofNat 32 (Nat.count hit u.numel) := by
  have e := add_hits (List.finRange u.numel) (fun n => hit n.val) (x ι) 0 h0
  rw [countP_finRange, Nat.zero_add] at e
  rw [scatter_at, ← e]
  refine congrArg (fun F => List.foldl F (x ι) (List.finRange u.numel)) (funext fun a => funext fun n => ?_)
  rw [h1]
  by_cases h : hit n.val
  · rw [if_pos h, if_pos ((hh n).2 h)]
  · rw [if_neg h, if_neg (fun q => h ((hh n).1 q))]

/-- The set bits along the last of three axes, counted. -/
theorem count_last {a b N : ℕ} (hN : N < 2 ^ 32) (x : IVec (shape3 a b N) 32) (Q : Fin a → Fin b → ℕ → Prop)
    (hx : ∀ p q (j : Fin N), x (ix3 p q j) = BitVec.ofNat 32 (if Q p q j.val then 1 else 0))
    (h : (shape3 a b N).ReducesTo [2] (shape2 a b)) (hu : 0 < shape0.numel) (p : Fin a) (q : Fin b) :
    Host.reduce IntOp.addi x (constantI shape0 32 0#32) h hu (ix2 p q) = BitVec.ofNat 32 (Nat.count (Q p q) N) := by
  have at_drop : ∀ i : (shape3 a b N).Idx, h.drop i = ix2 p q ↔ i = ix3 p q (i 2) := by
    intro i
    have e0 : (h.drop i 0 : ℕ) = i 0 := Shape.ReducesTo.drop_apply_val h i 0
    have e1 : (h.drop i 1 : ℕ) = i 1 := Shape.ReducesTo.drop_apply_val h i 1
    constructor
    · intro e
      rw [e] at e0 e1
      exact funext fun c => by
        match c with
        | ⟨0, _⟩ => exact Fin.ext e0.symm
        | ⟨1, _⟩ => exact Fin.ext e1.symm
        | ⟨2, _⟩ => rfl
    · intro e
      have f0 : i 0 = p := congrFun e 0
      have f1 : i 1 = q := congrFun e 1
      exact funext fun c => by
        match c with
        | ⟨0, _⟩ => exact Fin.ext (e0.trans (congrArg Fin.val f0))
        | ⟨1, _⟩ => exact Fin.ext (e1.trans (congrArg Fin.val f1))
  have val : ∀ j : Fin N, (x (ix3 p q j)).toNat = if Q p q j.val then 1 else 0 := by
    intro j
    rw [hx]
    by_cases hq : Q p q j.val
    · rw [if_pos hq]
      rfl
    · rw [if_neg hq]
      rfl
  have total : ∑ i ∈ Finset.univ.filter (fun i : (shape3 a b N).Idx => h.drop i = ix2 p q), (x i).toNat = Nat.count (Q p q) N := by
    rw [← card_filter_fin N (Q p q), Finset.card_filter]
    exact Finset.sum_bij' (fun i _ => (i 2 : Fin N)) (fun j _ => ix3 p q j) (fun _ _ => Finset.mem_univ _)
      (fun j _ => Finset.mem_filter.2 ⟨Finset.mem_univ _, (at_drop _).2 rfl⟩)
      (fun i hi => ((at_drop i).1 (Finset.mem_filter.1 hi).2).symm) (fun _ _ => rfl)
      (fun i hi => (congrArg (fun k => (x k).toNat) ((at_drop i).1 (Finset.mem_filter.1 hi).2)).trans (val _))
  apply BitVec.eq_of_toNat_eq
  rw [Host.reduce_eq_fold]
  show (Finset.fold IntOp.addi 0#32 x (Finset.univ.filter fun i : (shape3 a b N).Idx => h.drop i = ix2 p q)).toNat = _
  have small : Nat.count (Q p q) N < 2 ^ 32 := lt_of_le_of_lt (Nat.count_le _) hN
  rw [StableHlo.Predicate.toNat_fold_addi _ _ (by rw [total]; exact small), total, BitVec.toNat_ofNat, Nat.mod_eq_of_lt small]

theorem sle_small (a b : ℕ) (ha : a < 2147483648) (hb : b < 2147483648) :
    IntOp.cmpi .sle (BitVec.ofNat 32 a) (BitVec.ofNat 32 b) = 1#1 ↔ a ≤ b :=
  WordCmp.cmpi_sle_ofNat_eq_one_iff (w := 32) (by simpa using ha) (by simpa using hb)

theorem slt_small (a b : ℕ) (ha : a < 2147483648) (hb : b < 2147483648) :
    IntOp.cmpi .slt (BitVec.ofNat 32 a) (BitVec.ofNat 32 b) = 1#1 ↔ a < b :=
  WordCmp.cmpi_slt_ofNat_eq_one_iff (w := 32) (by simpa using ha) (by simpa using hb)

theorem sge_iff (a b : ℕ) (ha : a < 2147483648) (hb : b < 2147483648) :
    IntOp.cmpi .sge (BitVec.ofNat 32 a) (BitVec.ofNat 32 b) = 1#1 ↔ b ≤ a :=
  WordCmp.cmpi_sge_ofNat_eq_one_iff (w := 32) (by simpa using ha) (by simpa using hb)

/-- A word wrapped into range stays. -/
theorem wrap_word (n : ℕ) (hn : n < 2147483648) (a : BitVec 32) :
    Scalar.select (IntOp.cmpi .slt (BitVec.ofNat 32 n) 0#32) a (BitVec.ofNat 32 n) = BitVec.ofNat 32 n :=
  wrap_of_lt _ _ (by rw [BitVec.toNat_ofNat, Nat.mod_eq_of_lt (by omega)]; exact hn)

theorem kept_lt (B : Boxes) (i : ℕ) (h : B.Kept i) : i < 6000 := ((Boxes.kept_iff B i).1 h).1

/-! ## The result -/

/-- The boxes, and zeros to a whole number of blocks. -/
def padded (X : (⟨3, ![2, 6000, 4]⟩ : Shape).Idx → EReal) : Fin 2 → Fin 6016 → Fin 4 → EReal := fun b i q =>
  if h : i.val < 6000 then X (ix3 b ⟨i.val, h⟩ q) else 0

/-- Row `k` of image `b`: the image's number, then the `k`-th kept box (box 0 if there is none). -/
def rois (X : (⟨3, ![2, 6000, 4]⟩ : Shape).Idx → EReal) : (⟨3, ![2, 300, 5]⟩ : Shape).Idx → EReal := fun y =>
  if h : (y 2).val = 0 then (((y 0).val : ℝ) : EReal)
  else X (ix3 (y 0) ⟨nth (boxes (padded X) (y 0)).Kept (y 1).val, nth_lt _ _⟩
    ⟨(y 2).val - 1, by have := (y 2).isLt; change (y 2).val < 5 at this; omega⟩)

end Cert.Spec

end
-- ==== Proof.Nms.TailMath.lean ====
/- The lines after the suppression kernel, read at an index: the rows of the kept boxes. -/
module

public import proofs.«01_k».proof.Proof.Nms.Tail
public import proofs.«01_k».proof.Proof.Nms.Words

@[expose] public section

set_option maxRecDepth 16384

noncomputable section

namespace Cert.Kernel2Ideal.At

open Classical
open Cert.Kernel2Ideal Cert.Kernel2Ideal.Gen Cert.Spec
open Idealize.ShloMosaic Idealize.ShloMosaic.TcCoe Idealize.ShloMosaic.Routing

/-! ## The numbers of the kept boxes -/

section Numbers

variable (M : (⟨S6016, .i1⟩ : BufTy).Contents (Elt Ideal)) (P : ℕ → Prop) (hM : ∀ i : Fin 6016, M (ix1 i) = 1#1 ↔ P i.val)

include hM in
theorem cumMask_at (j : Fin 6016) : F_cumMask M (ix1 j) = BitVec.ofNat 32 (upTo P j.val) := by
  unfold F_cumMask
  exact (cumsum1 (N := 6016) (Nm1 := 6015) rfl _ (fun i => if P i then 1 else 0) (fun i => word_bit _ _ (hM i)) _ rfl _ _ j).trans
    (congrArg (BitVec.ofNat 32) (sum_mask P (j.val + 1)))

include hM in
theorem beyond_at (k : Fin 300) : F_beyond M (ix1 k) = 1#1 ↔ Nat.count P 6016 ≤ k.val := by
  have e : Host.reduce IntOp.addi (extui 32 M natLt_1_32) (constantI S_ 32 0#32) reducesTo_S6016_S_d0 h_S_ ix0 = BitVec.ofNat 32 (Nat.count P 6016) :=
    (reduce_sum (N := 6016) _ (fun i => if P i then 1 else 0) (fun i => word_bit _ _ (hM i)) _ _).trans (congrArg (BitVec.ofNat 32) (sum_mask P 6016))
  have b : Nat.count P 6016 ≤ 6016 := Nat.count_le _
  rw [← sge_iff k.val (Nat.count P 6016) (by omega) (by omega), ← e]
  rfl

end Numbers

/-- Where an update lands. -/
theorem lands (idx : IVec S6016x1 32) (i : Fin 6016) (v : Fin 300) :
    scatter_S300_S6016x1_S6016_n_0_0_1.resultIdx? (ix1 i) idx = some (ix1 v) ↔ (idx (ix2 i 0)).toInt = (v.val : ℤ) := by
  refine Iff.trans (resultIdx?_ix1 (N := 300) scatter_S300_S6016x1_S6016_n_0_0_1 (ix1 i) idx v) ?_
  have w : scatter_S300_S6016x1_S6016_n_0_0_1.window (ix1 i) 0 = 0 := rfl
  have s : scatter_S300_S6016x1_S6016_n_0_0_1.start (ix1 i) idx 0 = (idx (ix2 i 0)).toInt := by
    refine congrArg (fun k => (idx k).toInt) (funext fun b => Fin.ext ?_)
    match b with
    | ⟨0, _⟩ => rfl
    | ⟨1, _⟩ => rfl
  rw [w, s, Nat.cast_zero, add_zero]

theorem column_at (Y : (⟨S6016, .i32⟩ : BufTy).Contents (Elt Ideal)) (i : Fin 6016) :
    (broadcastInDim S6016x1 ![0] bcast_S6016_S6016x1_0 Y : (⟨S6016x1, .i32⟩ : BufTy).Contents (Elt Ideal)) (ix2 i 0) = Y (ix1 i) := by
  simp only [pointwise]
  exact congrArg Y (congrArg ix1 (dif_neg (by decide)))

theorem hist_at (x : (⟨S6016, .i32⟩ : BufTy).Contents (Elt Ideal)) (f : ℕ → ℕ) (hx : ∀ i : Fin 6016, x (ix1 i) = BitVec.ofNat 32 (f i.val))
    (hf : ∀ i, i < 6016 → f i < 2147483648) (v : Fin 300) : F_hist x (ix1 v) = BitVec.ofNat 32 (Nat.count (fun i => f i = v.val) 6016) := by
  unfold F_hist
  have size : S6016.numel = 6016 := numel1 6016
  refine (scatter_ones _ _ _ _ (ix1 v) rfl (fun _ => rfl) (fun i => f i = v.val) fun n => ?_).trans (by rw [size]; congr!)
  have hn : n.val < 6016 := lt_of_lt_of_eq n.isLt size
  have place : S6016.rowMajor.symm n = ix1 ⟨n.val, hn⟩ := symm1 (N := 6016) n
  rw [place, lands, column_at]
  have e := wrap_word (f n.val) (hf _ hn) (IntOp.addi (BitVec.ofNat 32 (f n.val)) 300#32)
  rw [← hx ⟨n.val, hn⟩] at e
  refine Iff.trans (Eq.to_iff (congrArg (fun w : BitVec 32 => w.toInt = (v.val : ℤ)) (e.trans (hx ⟨n.val, hn⟩)))) ?_
  rw [WordCmp.toInt_ofNat_of_lt (by have := hf _ hn; omega)]
  exact Nat.cast_inj

theorem cumHist_at (x : (⟨S300, .i32⟩ : BufTy).Contents (Elt Ideal)) (f : ℕ → ℕ) (N : ℕ)
    (hx : ∀ v : Fin 300, x (ix1 v) = BitVec.ofNat 32 (Nat.count (fun i => f i = v.val) N)) (k : Fin 300) :
    F_cumHist x (ix1 k) = BitVec.ofNat 32 (Nat.count (fun i => f i ≤ k.val) N) := by
  unfold F_cumHist
  exact (cumsum1 (N := 300) (Nm1 := 299) rfl _ (fun v => Nat.count (fun i => f i = v) N) hx _ rfl _ _ k).trans
    (congrArg (BitVec.ofNat 32) (sum_counts f N k.val))

theorem div_one_at (x : (⟨S300, .i32⟩ : BufTy).Contents (Elt Ideal)) (k : Fin 300) (a : ℕ) (hx : x (ix1 k) = BitVec.ofNat 32 a) (ha : a < 2147483648) :
    F_floorDiv x F_cOne (ix1 k) = BitVec.ofNat 32 a :=
  (pyDiv_ap (s := S300) bcast_S_S300 x F_cOne (ix1 k) (b := 1) hx rfl (by simpa using ha) (by omega) (by omega)).trans (by rw [Nat.div_one])

theorem rem_all_at (x : (⟨S300, .i32⟩ : BufTy).Contents (Elt Ideal)) (k : Fin 300) (a : ℕ) (hx : x (ix1 k) = BitVec.ofNat 32 a) (ha : a < 2147483648) :
    F_remAll x F_cAll (ix1 k) = BitVec.ofNat 32 (a % 6016) :=
  pyRem_ap (s := S300) bcast_S_S300 x F_cAll (ix1 k) (b := 6016) hx rfl (by simpa using ha) (by omega) (by omega)

/-- The `k`-th kept box's number. -/
def numbers (M : (⟨S6016, .i1⟩ : BufTy).Contents (Elt Ideal)) : (⟨S300, .i32⟩ : BufTy).Contents (Elt Ideal) :=
  F_whereBeyond (F_beyond M) F_cZero (F_remAll (F_floorDiv (F_cumHist (F_hist (F_cumMask M))) F_cOne) F_cAll)

theorem numbers_at (M : (⟨S6016, .i1⟩ : BufTy).Contents (Elt Ideal)) (P : ℕ → Prop) (hP : ∀ i, P i → i < 6000)
    (hM : ∀ i : Fin 6016, M (ix1 i) = 1#1 ↔ P i.val) (k : Fin 300) : numbers M (ix1 k) = BitVec.ofNat 32 (nth P k.val) := by
  have total : Nat.count P 6016 = Nat.count P 6000 := count_const P hP 16
  have hb := beyond_at M P hM k
  rw [total] at hb
  have hr := rem_all_at _ k _ (div_one_at _ k _ (cumHist_at _ (upTo P) 6016
    (hist_at _ (upTo P) (cumMask_at M P hM) (fun i hi => by have := upTo_le P i; omega)) k)
    (by have : Nat.count (fun i => upTo P i ≤ k.val) 6016 ≤ 6016 := Nat.count_le _
        omega))
    (by have : Nat.count (fun i => upTo P i ≤ k.val) 6016 ≤ 6016 := Nat.count_le _
        omega)
  show Scalar.select (F_beyond M (ix1 k)) (0#32) (F_remAll (F_floorDiv (F_cumHist (F_hist (F_cumMask M))) F_cOne) F_cAll (ix1 k)) = _
  by_cases h : Nat.count P 6000 ≤ k.val
  · rw [hb.2 h]
    unfold nth
    rw [if_neg (Nat.not_lt.2 h)]
    rfl
  · rw [ne_one_bit (fun e => h (hb.1 e)), hr]
    have past : Nat.count (fun i => upTo P i ≤ k.val) 6016 = Nat.count (fun i => upTo P i ≤ k.val) 6000 := count_past P hP k.val (Nat.lt_of_not_le h) 16
    have e : nth P k.val = Nat.count (fun i => upTo P i ≤ k.val) 6016 := by
      rw [past]
      unfold nth
      exact if_pos (Nat.lt_of_not_le h)
    have lt := nth_lt P k.val
    rw [← e, Nat.mod_eq_of_lt (by omega)]
    rfl

/-! ## The rows -/

theorem wrapped_at (x : (⟨S300, .i32⟩ : BufTy).Contents (Elt Ideal)) (k : Fin 300) (n : ℕ) (hn : n < 6000) (hx : x (ix1 k) = BitVec.ofNat 32 n) :
    F_wrapped x (ix1 k) = BitVec.ofNat 32 n := by
  have e := wrap_word n (by omega) (IntOp.addi (BitVec.ofNat 32 n) 6000#32)
  rw [← hx] at e
  exact Eq.trans e hx

theorem gathered_at (Y : (⟨S6000x4, .f32⟩ : BufTy).Contents (Elt Ideal)) (x : (⟨S300, .i32⟩ : BufTy).Contents (Elt Ideal)) (k : Fin 300)
    (n : ℕ) (hn : n < 6000) (hx : x (ix1 k) = BitVec.ofNat 32 n) (q : Fin 4) : F_gathered Y x (ix2 k q) = Y (ix2 ⟨n, hn⟩ q) := by
  unfold F_gathered
  refine gather_row (nb := 6000) (B := 4) (n := 300) gather_S6000x4_S300x1_S300x4_1_0_n_n_0_1_14 rfl rfl rfl rfl rfl Y _ k q ⟨n, hn⟩ ?_ (by omega)
  refine Eq.trans ?_ hx
  simp only [pointwise]
  exact congrArg x (congrArg ix1 (dif_neg (by decide)))

theorem image0_at (X : (⟨S2x6000x4, .f32⟩ : BufTy).Contents (Elt Ideal)) (i : Fin 6000) (q : Fin 4) : F_image0 X (ix2 i q) = X (ix3 0 i q) := by
  unfold F_image0
  simp only [pointwise]
  refine congrArg X (congrArg₂ (fun (p : Fin 6000) (n : Fin 4) => (ix3 0 p n : S2x6000x4.Idx)) (Fin.ext ?_) (Fin.ext ?_))
  · exact Nat.zero_add _
  · exact Nat.zero_add _

/-- The second image. -/
def F_image1 (X : (⟨S2x6000x4, .f32⟩ : BufTy).Contents (Elt Ideal)) : (⟨S6000x4, .f32⟩ : BufTy).Contents (Elt Ideal) :=
  shapeCast S6000x4 (extractStridedSlice S1x6000x4 ![1, 0, 0] X slices_S2x6000x4_S1x6000x4_1_0_0) shapeCasts_S1x6000x4_S6000x4

theorem rows1_eq (X : (⟨S2x6000x4, .f32⟩ : BufTy).Contents (Elt Ideal)) (x : (⟨S300, .i32⟩ : BufTy).Contents (Elt Ideal)) :
    F_rows1 X x = F_gathered (F_image1 X) (F_wrapped x) := rfl

theorem image1_at (X : (⟨S2x6000x4, .f32⟩ : BufTy).Contents (Elt Ideal)) (i : Fin 6000) (q : Fin 4) : F_image1 X (ix2 i q) = X (ix3 1 i q) := by
  unfold F_image1
  simp only [pointwise]
  refine congrArg X (congrArg₂ (fun (p : Fin 6000) (n : Fin 4) => (ix3 1 p n : S2x6000x4.Idx)) (Fin.ext ?_) (Fin.ext ?_))
  · exact Nat.zero_add _
  · exact Nat.zero_add _

theorem joined_at (A : (⟨S300x1, .f32⟩ : BufTy).Contents (Elt Ideal)) (Y : (⟨S300x4, .f32⟩ : BufTy).Contents (Elt Ideal)) (k : Fin 300) (q : Fin 5) :
    F_joined A Y (ix2 k q) = if h : q.val = 0 then A (ix2 k 0) else Y (ix2 k ⟨q.val - 1, by omega⟩) := by
  unfold F_joined
  split
  · next h =>
    refine concatenate_pair_apply_left 1 A Y concatenates_S300x1_S300x4_S300x5_d1 (ix2 k q) rfl (ix2 k 0) fun b => ?_
    match b with
    | ⟨0, _⟩ => rfl
    | ⟨1, _⟩ => exact h.symm
  · next h =>
    refine concatenate_pair_apply_right 1 A Y concatenates_S300x1_S300x4_S300x5_d1 (ix2 k q) rfl rfl (ix2 k ⟨q.val - 1, by omega⟩) (fun b hb => ?_) ?_
    · match b with
      | ⟨0, _⟩ => rfl
      | ⟨1, _⟩ => exact absurd rfl hb
    · show q.val - 1 + 1 = q.val
      omega

theorem stacked_at (A B : (⟨S300x5, .f32⟩ : BufTy).Contents (Elt Ideal)) (b : Fin 2) (k : Fin 300) (q : Fin 5) :
    F_stacked (F_lift0 A) (F_lift0 B) (ix3 b k q) = if b.val = 0 then A (ix2 k q) else B (ix2 k q) := by
  have lift : ∀ Z : (⟨S300x5, .f32⟩ : BufTy).Contents (Elt Ideal), F_lift0 Z (ix3 0 k q) = Z (ix2 k q) := by
    intro Z
    unfold F_lift0
    simp only [pointwise]
    exact congrArg Z (congrArg₂ (fun (p : Fin 300) (n : Fin 5) => (ix2 p n : S300x5.Idx)) (dif_neg (by decide)) (dif_neg (by decide)))
  unfold F_stacked
  split
  · next h =>
    refine (concatenate_pair_apply_left 0 (F_lift0 A) (F_lift0 B) concatenates_S1x300x5_S1x300x5_S2x300x5_d0 (ix3 b k q) rfl (ix3 0 k q) fun c => ?_).trans (lift A)
    match c with
    | ⟨0, _⟩ => exact h.symm
    | ⟨1, _⟩ => rfl
    | ⟨2, _⟩ => rfl
  · next h =>
    refine (concatenate_pair_apply_right 0 (F_lift0 A) (F_lift0 B) concatenates_S1x300x5_S1x300x5_S2x300x5_d0 (ix3 b k q) rfl rfl (ix3 0 k q) (fun c hc => ?_) ?_).trans (lift B)
    · match c with
      | ⟨0, _⟩ => exact absurd rfl hc
      | ⟨1, _⟩ => rfl
      | ⟨2, _⟩ => rfl
    · show 0 + 1 = b.val
      omega

/-! ## The masks -/

theorem half : Ideal.ofBits .f32 0x3F000000#32 = ((1 / 2 : ℝ) : EReal) := by
  simp [Ideal.ofBits, Ideal.ieee, -EReal.coe_mul]; norm_num

theorem above_half (p : Prop) : (FloatOps.cmpf (F := Ideal) (φ := .f32) .ogt (ind p) (Ideal.ofBits .f32 0x3F000000#32) : BitVec 1) = 1#1 ↔ p := by
  rw [half]
  show BitVec.ofBool (decide (((1 / 2 : ℝ) : EReal) < ind p)) = 1#1 ↔ p
  by_cases h : p
  · have lt : ((1 / 2 : ℝ) : EReal) < 1 := by exact_mod_cast (by norm_num : (1 / 2 : ℝ) < 1)
    rw [ind_true h, decide_eq_true lt]
    exact ⟨fun _ => h, fun _ => rfl⟩
  · have le : ¬ ((1 / 2 : ℝ) : EReal) < 0 := not_lt.2 (by exact_mod_cast (by norm_num : (0 : ℝ) ≤ 1 / 2))
    rw [ind_false h, decide_eq_false le]
    exact ⟨fun e => absurd e (by decide), fun e => absurd e h⟩

theorem mask0_at (R : (⟨S2x47x128, .f32⟩ : BufTy).Contents (Elt Ideal)) (i : Fin 6016) (p : Prop)
    (hR : R (ix3 0 ⟨i.val / 128, by omega⟩ ⟨i.val % 128, by omega⟩) = ind p) : F_mask0 R (ix1 i) = 1#1 ↔ p := by
  rw [← above_half p, ← hR]
  unfold F_mask0
  simp only [pointwise]
  have z : (![0, 0] : Fin 2 → ℕ) 1 + i.val = i.val := Nat.zero_add _
  simp only [z]

theorem mask1_at (R : (⟨S2x47x128, .f32⟩ : BufTy).Contents (Elt Ideal)) (i : Fin 6016) (p : Prop)
    (hR : R (ix3 1 ⟨i.val / 128, by omega⟩ ⟨i.val % 128, by omega⟩) = ind p) : F_mask1 (F_keepAll R) (ix1 i) = 1#1 ↔ p := by
  rw [← above_half p, ← hR]
  unfold F_mask1 F_keepAll
  simp only [pointwise]
  have z : (![1, 0] : Fin 2 → ℕ) 1 + i.val = i.val := Nat.zero_add _
  simp only [z]

/-- The tail's result is the rows of the kept boxes. -/
theorem tail_rois (R : (⟨S2x47x128, .f32⟩ : BufTy).Contents (Elt Ideal)) (X : (⟨S2x6000x4, .f32⟩ : BufTy).Contents (Elt Ideal))
    (hR : ∀ (b : Fin 2) (r : Fin 47) (l : Fin 128), R (ix3 b r l) = ind ((boxes (padded X) b).Kept (128 * r.val + l.val))) :
    F_stacked (F_lift0 (F_joined F_batch0 (F_gathered (F_image0 X) (F_wrapped (numbers (F_mask0 R))))))
      (F_lift0 (F_joined F_batch1 (F_rows1 X (numbers (F_mask1 (F_keepAll R)))))) = rois X := by
  funext y
  obtain ⟨b, k, q, rfl⟩ : ∃ (b : Fin 2) (k : Fin 300) (q : Fin 5), y = ix3 b k q := ⟨y 0, y 1, y 2, eq_ix3 y⟩
  have at_flat : ∀ (b : Fin 2) (i : Fin 6016), R (ix3 b ⟨i.val / 128, by omega⟩ ⟨i.val % 128, by omega⟩) = ind ((boxes (padded X) b).Kept i.val) :=
    fun b i => (hR b _ _).trans (ind_congr (by show (boxes (padded X) b).Kept (128 * (i.val / 128) + i.val % 128) ↔ _; rw [Nat.div_add_mod]))
  have n0 := numbers_at (F_mask0 R) (boxes (padded X) 0).Kept (kept_lt _) (fun i => mask0_at R i _ (at_flat 0 i)) k
  have n1 := numbers_at (F_mask1 (F_keepAll R)) (boxes (padded X) 1).Kept (kept_lt _) (fun i => mask1_at R i _ (at_flat 1 i)) k
  rw [stacked_at, joined_at, joined_at, rows1_eq,
    show rois X (ix3 b k q) = if h : q.val = 0 then ((b.val : ℝ) : EReal)
      else X (ix3 b ⟨nth (boxes (padded X) b).Kept k.val, nth_lt _ _⟩ ⟨q.val - 1, by omega⟩) from rfl]
  by_cases hq : q.val = 0
  · rw [dif_pos hq, dif_pos hq, dif_pos hq]
    have b0 : F_batch0 (ix2 k 0) = 0 := Ideal.ofBits_zero_f32
    have b1 : F_batch1 (ix2 k 0) = 1 := Ideal.ofBits_one_f32
    rw [b0, b1]
    match b with
    | ⟨0, _⟩ => simp
    | ⟨1, _⟩ => simp
  · rw [dif_neg hq, dif_neg hq, dif_neg hq]
    match b with
    | ⟨0, _⟩ =>
      rw [if_pos rfl, gathered_at _ _ k _ (nth_lt _ _) (wrapped_at _ k _ (nth_lt _ _) n0), image0_at]
      rfl
    | ⟨1, _⟩ =>
      rw [if_neg (Nat.one_ne_zero : ¬ (1 : ℕ) = 0), gathered_at _ _ k _ (nth_lt _ _) (wrapped_at _ k _ (nth_lt _ _) n1), image1_at]
      rfl

end Cert.Kernel2Ideal.At

end
-- ==== Proof.Nms.End.lean ====
/- The suppression's run: the boxes each point reads, and the result as the kept boxes. -/
module

public import proofs.«01_k».proof.Proof.Nms.Run
public import proofs.«01_k».proof.Proof.Nms.Math
public import proofs.«01_k».proof.Proof.Nms.TailMath

@[expose] public section

set_option maxRecDepth 16384

noncomputable section

namespace Cert.Kernel2Ideal.At

open Cert.Kernel2Ideal Cert.Kernel2Ideal.Gen Cert.Spec
open Idealize.ShloMosaic Idealize.ShloMosaic.TcCoe Idealize.SL.Sem

/-- The boxes' coordinates. -/
abbrev coords (X : (⟨S2x6016x4, .f32⟩ : BufTy).Contents (Elt Ideal)) : Fin 2 → Fin 6016 → Fin 4 → EReal := fun b i q => X (ix3 b i q)

variable (m : (ℓ : Loc nD τ sig) → Buf (Elt Ideal) ℓ) (c : Dev nD)

/-- The padded boxes. -/
abbrev big (c : Dev nD) : (⟨S2x6016x4, .f32⟩ : BufTy).Contents (Elt Ideal) := V m c main_v0

/-- The boxes given. -/
abbrev arg (c : Dev nD) : (⟨S2x6000x4, .f32⟩ : BufTy).Contents (Elt Ideal) := m (c, Proc.devRef .tc main_arg0)

theorem V_of_slices (r : Ref sig .tc) (c : Dev nD) : V m c r = StableHlo.after h2 (StableHlo.after h1 (StableHlo.after h0 (fun b => m (c, b)))) (Proc.devRef .tc r) := by
  dsimp only [V, V0, opss0]
  rw [after_cons, after_cons, after_cons, after_nil]

theorem V_slices (r : Ref sig .tc) (G : (⟨S2x6016x4, .f32⟩ : BufTy).Contents (Elt Ideal) → r.ty.Contents (Elt Ideal))
    (h : ∀ W : Valuation τ sig (Elt Ideal), StableHlo.after h2 W (Proc.devRef .tc r) = G (W (Proc.devRef .tc main_v0))) : V m c r = G (big m c) := by
  rw [V_of_slices, h]
  refine congrArg G ?_
  show _ = V m c main_v0
  rw [V_of_slices, StableHlo.after_of_writes_sub (r := main_v0) h2 _ h2_writes (by decide +kernel)]

theorem idx : ∀ t : Fin cfgI.N,
    win0_0.index t = ![t.val, 0, 0] ∧ win0_1.index t = ![t.val, 0, 0] ∧ win0_2.index t = ![t.val, 0, 0] ∧
    win0_3.index t = ![t.val, 0, 0] ∧ win0_4.index t = ![t.val, 0, 0] ∧ win0_5.index t = ![t.val, 0, 0] ∧
    win0_6.index t = ![t.val, 0, 0] ∧ win0_7.index t = ![t.val, 0, 0] ∧ win0_8.index t = ![t.val, 0, 0] ∧ t.val < 2 :=
  (by decide +kernel : ∀ t : Fin grid0.N, _)

theorem flat_lt (r : Fin 47) (l : Fin 128) : 128 * r.val + l.val < 6016 := by omega

theorem lt_two (t : Fin cfgI.N) : t.val < 2 := (idx t).2.2.2.2.2.2.2.2.2

/-- Coordinate 0 down a column. -/
def col0 (X : (⟨S2x6016x4, .f32⟩ : BufTy).Contents (Elt Ideal)) : (⟨S2x6016x1, .f32⟩ : BufTy).Contents (Elt Ideal) :=
  extractStridedSlice S2x6016x1 ![0, 0, 0] X slices_S2x6016x4_S2x6016x1_0_0_0
/-- Coordinate 0 in rows of 128. -/
def row0 (X : (⟨S2x6016x4, .f32⟩ : BufTy).Contents (Elt Ideal)) : (⟨S2x47x128, .f32⟩ : BufTy).Contents (Elt Ideal) :=
  shapeCast S2x47x128 (extractStridedSlice S2x47x128x1 ![0, 0, 0, 0] (shapeCast S2x47x128x4 X shapeCasts_S2x6016x4_S2x47x128x4 : (⟨S2x47x128x4, .f32⟩ : BufTy).Contents (Elt Ideal))
    slices_S2x47x128x4_S2x47x128x1_0_0_0_0 : (⟨S2x47x128x1, .f32⟩ : BufTy).Contents (Elt Ideal)) shapeCasts_S2x47x128x1_S2x47x128

theorem col0_at (X : (⟨S2x6016x4, .f32⟩ : BufTy).Contents (Elt Ideal)) (b : Fin 2) (i : Fin 6016) :
    col0 X (ix3 b i 0) = X (ix3 b i 0) := by
  unfold col0
  simp only [pointwise]
  exact congrArg X (congrArg₂ (fun (p : Fin 2) (n : Fin 6016) => (ix3 p n 0 : S2x6016x4.Idx)) (Fin.ext (Nat.zero_add _)) (Fin.ext (Nat.zero_add _)))

theorem row0_at (X : (⟨S2x6016x4, .f32⟩ : BufTy).Contents (Elt Ideal)) (b : Fin 2) (r : Fin 47) (l : Fin 128) :
    row0 X (ix3 b r l) = X (ix3 b ⟨128 * r.val + l.val, by omega⟩ 0) := by
  unfold row0
  simp only [pointwise]
  refine congrArg X (congrArg₂ (fun (p : Fin 2) (n : Fin 6016) => (ix3 p n 0 : S2x6016x4.Idx)) (Fin.ext (Nat.zero_add _)) (Fin.ext ?_))
  show (0 + r.val) * 128 + (0 + l.val) = 128 * r.val + l.val
  omega

theorem V_col0 : V m c main_v1 = col0 (big m c) := V_slices m c main_v1 col0 fun W => by
  dsimp only [h2]
  after_results
  try simp only [StableHlo.TRef.ofBuf, StableHlo.TRef.toBuf, cast_eq]
  rfl

theorem V_row0 : V m c main_v7 = row0 (big m c) := V_slices m c main_v7 row0 fun W => by
  dsimp only [h2]
  after_results
  try simp only [StableHlo.TRef.ofBuf, StableHlo.TRef.toBuf, cast_eq]
  rfl

theorem blk0 (t : Fin cfgI.N) (i : Fin 6016) : blkOf m c 0 t (ix3 0 i 0) = big m c (ix3 ⟨t.val, lt_two t⟩ i 0) := by
  refine Eq.trans (b := V m c main_v1 (ix3 ⟨t.val, lt_two t⟩ i 0)) ?_ ?_
  · blk_ext [blkOf, idx t]
  · rw [V_col0]; exact col0_at _ _ _

theorem blk4 (t : Fin cfgI.N) (r : Fin 47) (l : Fin 128) :
    blkOf m c 4 t (ix3 0 r l) = big m c (ix3 ⟨t.val, lt_two t⟩ ⟨128 * r.val + l.val, by omega⟩ 0) := by
  refine Eq.trans (b := V m c main_v7 (ix3 ⟨t.val, lt_two t⟩ r l)) ?_ ?_
  · blk_ext [blkOf, idx t]
  · rw [V_row0]; exact row0_at _ _ _ _

/-- Coordinate 1 down a column. -/
def col1 (X : (⟨S2x6016x4, .f32⟩ : BufTy).Contents (Elt Ideal)) : (⟨S2x6016x1, .f32⟩ : BufTy).Contents (Elt Ideal) :=
  extractStridedSlice S2x6016x1 ![0, 0, 1] X slices_S2x6016x4_S2x6016x1_0_0_1
/-- Coordinate 1 in rows of 128. -/
def row1 (X : (⟨S2x6016x4, .f32⟩ : BufTy).Contents (Elt Ideal)) : (⟨S2x47x128, .f32⟩ : BufTy).Contents (Elt Ideal) :=
  shapeCast S2x47x128 (extractStridedSlice S2x47x128x1 ![0, 0, 0, 1] (shapeCast S2x47x128x4 X shapeCasts_S2x6016x4_S2x47x128x4 : (⟨S2x47x128x4, .f32⟩ : BufTy).Contents (Elt Ideal))
    slices_S2x47x128x4_S2x47x128x1_0_0_0_1 : (⟨S2x47x128x1, .f32⟩ : BufTy).Contents (Elt Ideal)) shapeCasts_S2x47x128x1_S2x47x128

theorem col1_at (X : (⟨S2x6016x4, .f32⟩ : BufTy).Contents (Elt Ideal)) (b : Fin 2) (i : Fin 6016) :
    col1 X (ix3 b i 0) = X (ix3 b i 1) := by
  unfold col1
  simp only [pointwise]
  exact congrArg X (congrArg₂ (fun (p : Fin 2) (n : Fin 6016) => (ix3 p n 1 : S2x6016x4.Idx)) (Fin.ext (Nat.zero_add _)) (Fin.ext (Nat.zero_add _)))

theorem row1_at (X : (⟨S2x6016x4, .f32⟩ : BufTy).Contents (Elt Ideal)) (b : Fin 2) (r : Fin 47) (l : Fin 128) :
    row1 X (ix3 b r l) = X (ix3 b ⟨128 * r.val + l.val, by omega⟩ 1) := by
  unfold row1
  simp only [pointwise]
  refine congrArg X (congrArg₂ (fun (p : Fin 2) (n : Fin 6016) => (ix3 p n 1 : S2x6016x4.Idx)) (Fin.ext (Nat.zero_add _)) (Fin.ext ?_))
  show (0 + r.val) * 128 + (0 + l.val) = 128 * r.val + l.val
  omega

theorem V_col1 : V m c main_v2 = col1 (big m c) := V_slices m c main_v2 col1 fun W => by
  dsimp only [h2]
  after_results
  try simp only [StableHlo.TRef.ofBuf, StableHlo.TRef.toBuf, cast_eq]
  rfl

theorem V_row1 : V m c main_v9 = row1 (big m c) := V_slices m c main_v9 row1 fun W => by
  dsimp only [h2]
  after_results
  try simp only [StableHlo.TRef.ofBuf, StableHlo.TRef.toBuf, cast_eq]
  rfl

theorem blk1 (t : Fin cfgI.N) (i : Fin 6016) : blkOf m c 1 t (ix3 0 i 0) = big m c (ix3 ⟨t.val, lt_two t⟩ i 1) := by
  refine Eq.trans (b := V m c main_v2 (ix3 ⟨t.val, lt_two t⟩ i 0)) ?_ ?_
  · blk_ext [blkOf, idx t]
  · rw [V_col1]; exact col1_at _ _ _

theorem blk5 (t : Fin cfgI.N) (r : Fin 47) (l : Fin 128) :
    blkOf m c 5 t (ix3 0 r l) = big m c (ix3 ⟨t.val, lt_two t⟩ ⟨128 * r.val + l.val, by omega⟩ 1) := by
  refine Eq.trans (b := V m c main_v9 (ix3 ⟨t.val, lt_two t⟩ r l)) ?_ ?_
  · blk_ext [blkOf, idx t]
  · rw [V_row1]; exact row1_at _ _ _ _

/-- Coordinate 2 down a column. -/
def col2 (X : (⟨S2x6016x4, .f32⟩ : BufTy).Contents (Elt Ideal)) : (⟨S2x6016x1, .f32⟩ : BufTy).Contents (Elt Ideal) :=
  extractStridedSlice S2x6016x1 ![0, 0, 2] X slices_S2x6016x4_S2x6016x1_0_0_2
/-- Coordinate 2 in rows of 128. -/
def row2 (X : (⟨S2x6016x4, .f32⟩ : BufTy).Contents (Elt Ideal)) : (⟨S2x47x128, .f32⟩ : BufTy).Contents (Elt Ideal) :=
  shapeCast S2x47x128 (extractStridedSlice S2x47x128x1 ![0, 0, 0, 2] (shapeCast S2x47x128x4 X shapeCasts_S2x6016x4_S2x47x128x4 : (⟨S2x47x128x4, .f32⟩ : BufTy).Contents (Elt Ideal))
    slices_S2x47x128x4_S2x47x128x1_0_0_0_2 : (⟨S2x47x128x1, .f32⟩ : BufTy).Contents (Elt Ideal)) shapeCasts_S2x47x128x1_S2x47x128

theorem col2_at (X : (⟨S2x6016x4, .f32⟩ : BufTy).Contents (Elt Ideal)) (b : Fin 2) (i : Fin 6016) :
    col2 X (ix3 b i 0) = X (ix3 b i 2) := by
  unfold col2
  simp only [pointwise]
  exact congrArg X (congrArg₂ (fun (p : Fin 2) (n : Fin 6016) => (ix3 p n 2 : S2x6016x4.Idx)) (Fin.ext (Nat.zero_add _)) (Fin.ext (Nat.zero_add _)))

theorem row2_at (X : (⟨S2x6016x4, .f32⟩ : BufTy).Contents (Elt Ideal)) (b : Fin 2) (r : Fin 47) (l : Fin 128) :
    row2 X (ix3 b r l) = X (ix3 b ⟨128 * r.val + l.val, by omega⟩ 2) := by
  unfold row2
  simp only [pointwise]
  refine congrArg X (congrArg₂ (fun (p : Fin 2) (n : Fin 6016) => (ix3 p n 2 : S2x6016x4.Idx)) (Fin.ext (Nat.zero_add _)) (Fin.ext ?_))
  show (0 + r.val) * 128 + (0 + l.val) = 128 * r.val + l.val
  omega

theorem V_col2 : V m c main_v3 = col2 (big m c) := V_slices m c main_v3 col2 fun W => by
  dsimp only [h2]
  after_results
  try simp only [StableHlo.TRef.ofBuf, StableHlo.TRef.toBuf, cast_eq]
  rfl

theorem V_row2 : V m c main_v11 = row2 (big m c) := V_slices m c main_v11 row2 fun W => by
  dsimp only [h2]
  after_results
  try simp only [StableHlo.TRef.ofBuf, StableHlo.TRef.toBuf, cast_eq]
  rfl

theorem blk2 (t : Fin cfgI.N) (i : Fin 6016) : blkOf m c 2 t (ix3 0 i 0) = big m c (ix3 ⟨t.val, lt_two t⟩ i 2) := by
  refine Eq.trans (b := V m c main_v3 (ix3 ⟨t.val, lt_two t⟩ i 0)) ?_ ?_
  · blk_ext [blkOf, idx t]
  · rw [V_col2]; exact col2_at _ _ _

theorem blk6 (t : Fin cfgI.N) (r : Fin 47) (l : Fin 128) :
    blkOf m c 6 t (ix3 0 r l) = big m c (ix3 ⟨t.val, lt_two t⟩ ⟨128 * r.val + l.val, by omega⟩ 2) := by
  refine Eq.trans (b := V m c main_v11 (ix3 ⟨t.val, lt_two t⟩ r l)) ?_ ?_
  · blk_ext [blkOf, idx t]
  · rw [V_row2]; exact row2_at _ _ _ _

/-- Coordinate 3 down a column. -/
def col3 (X : (⟨S2x6016x4, .f32⟩ : BufTy).Contents (Elt Ideal)) : (⟨S2x6016x1, .f32⟩ : BufTy).Contents (Elt Ideal) :=
  extractStridedSlice S2x6016x1 ![0, 0, 3] X slices_S2x6016x4_S2x6016x1_0_0_3
/-- Coordinate 3 in rows of 128. -/
def row3 (X : (⟨S2x6016x4, .f32⟩ : BufTy).Contents (Elt Ideal)) : (⟨S2x47x128, .f32⟩ : BufTy).Contents (Elt Ideal) :=
  shapeCast S2x47x128 (extractStridedSlice S2x47x128x1 ![0, 0, 0, 3] (shapeCast S2x47x128x4 X shapeCasts_S2x6016x4_S2x47x128x4 : (⟨S2x47x128x4, .f32⟩ : BufTy).Contents (Elt Ideal))
    slices_S2x47x128x4_S2x47x128x1_0_0_0_3 : (⟨S2x47x128x1, .f32⟩ : BufTy).Contents (Elt Ideal)) shapeCasts_S2x47x128x1_S2x47x128

theorem col3_at (X : (⟨S2x6016x4, .f32⟩ : BufTy).Contents (Elt Ideal)) (b : Fin 2) (i : Fin 6016) :
    col3 X (ix3 b i 0) = X (ix3 b i 3) := by
  unfold col3
  simp only [pointwise]
  exact congrArg X (congrArg₂ (fun (p : Fin 2) (n : Fin 6016) => (ix3 p n 3 : S2x6016x4.Idx)) (Fin.ext (Nat.zero_add _)) (Fin.ext (Nat.zero_add _)))

theorem row3_at (X : (⟨S2x6016x4, .f32⟩ : BufTy).Contents (Elt Ideal)) (b : Fin 2) (r : Fin 47) (l : Fin 128) :
    row3 X (ix3 b r l) = X (ix3 b ⟨128 * r.val + l.val, by omega⟩ 3) := by
  unfold row3
  simp only [pointwise]
  refine congrArg X (congrArg₂ (fun (p : Fin 2) (n : Fin 6016) => (ix3 p n 3 : S2x6016x4.Idx)) (Fin.ext (Nat.zero_add _)) (Fin.ext ?_))
  show (0 + r.val) * 128 + (0 + l.val) = 128 * r.val + l.val
  omega

theorem V_col3 : V m c main_v4 = col3 (big m c) := V_slices m c main_v4 col3 fun W => by
  dsimp only [h2]
  after_results
  try simp only [StableHlo.TRef.ofBuf, StableHlo.TRef.toBuf, cast_eq]
  rfl

theorem V_row3 : V m c main_v13 = row3 (big m c) := V_slices m c main_v13 row3 fun W => by
  dsimp only [h2]
  after_results
  try simp only [StableHlo.TRef.ofBuf, StableHlo.TRef.toBuf, cast_eq]
  rfl

theorem blk3 (t : Fin cfgI.N) (i : Fin 6016) : blkOf m c 3 t (ix3 0 i 0) = big m c (ix3 ⟨t.val, lt_two t⟩ i 3) := by
  refine Eq.trans (b := V m c main_v4 (ix3 ⟨t.val, lt_two t⟩ i 0)) ?_ ?_
  · blk_ext [blkOf, idx t]
  · rw [V_col3]; exact col3_at _ _ _

theorem blk7 (t : Fin cfgI.N) (r : Fin 47) (l : Fin 128) :
    blkOf m c 7 t (ix3 0 r l) = big m c (ix3 ⟨t.val, lt_two t⟩ ⟨128 * r.val + l.val, by omega⟩ 3) := by
  refine Eq.trans (b := V m c main_v13 (ix3 ⟨t.val, lt_two t⟩ r l)) ?_ ?_
  · blk_ext [blkOf, idx t]
  · rw [V_row3]; exact row3_at _ _ _ _

theorem reads (t : Fin cfgI.N) : Reads (ins m c t) (boxes (coords (big m c)) ⟨t.val, lt_two t⟩) where
  r1 i := (blk0 m c t i).trans (boxes_x1 (coords (big m c)) ⟨t.val, lt_two t⟩ _ i.isLt).symm
  r2 i := (blk1 m c t i).trans (boxes_y1 (coords (big m c)) ⟨t.val, lt_two t⟩ _ i.isLt).symm
  r3 i := (blk2 m c t i).trans (boxes_x2 (coords (big m c)) ⟨t.val, lt_two t⟩ _ i.isLt).symm
  r4 i := (blk3 m c t i).trans (boxes_y2 (coords (big m c)) ⟨t.val, lt_two t⟩ _ i.isLt).symm
  c1 r l := (blk4 m c t r l).trans (boxes_x1 (coords (big m c)) ⟨t.val, lt_two t⟩ _ (flat_lt r l)).symm
  c2 r l := (blk5 m c t r l).trans (boxes_y1 (coords (big m c)) ⟨t.val, lt_two t⟩ _ (flat_lt r l)).symm
  c3 r l := (blk6 m c t r l).trans (boxes_x2 (coords (big m c)) ⟨t.val, lt_two t⟩ _ (flat_lt r l)).symm
  c4 r l := (blk7 m c t r l).trans (boxes_y2 (coords (big m c)) ⟨t.val, lt_two t⟩ _ (flat_lt r l)).symm

/-- The kept boxes, in rows of 128. -/
def keptRows (X : (⟨S2x6016x4, .f32⟩ : BufTy).Contents (Elt Ideal)) : (⟨S2x47x128, .f32⟩ : BufTy).Contents (Elt Ideal) :=
  fun y => ind ((boxes (coords X) (y 0)).Kept (128 * (y 1).val + (y 2).val))

theorem final8 : (dats m 0 c).arrAt 8 cfgI.N = keptRows (big m c) := by
  refine (dats m 0 c).arrAt_eq_of_covers 8 _ (by decide +kernel) fun t hf y => ?_
  blk_simp
  rw [after_8]
  have hy : y = ix3 0 (y 1) (y 2) := by blk_ext
  have e : (win0_8.blk t).view.emb y = ix3 ⟨t.val, lt_two t⟩ (y 1) (y 2) := by blk_ext [idx t]
  refine Eq.trans (congrArg _ hy) ((outBlk_at (reads m c t) (y 1) (y 2)).trans ?_)
  exact (congrArg (keptRows (big m c)) e).symm

/-- The padded boxes' coordinates. -/
theorem coords_big : coords (big m c) = padded (arg m c) := by
  have e : big m c = pad S2x6016x4 ![0, 0, 0] ![0, 16, 0] ![0, 0, 0] (arg m c)
      (sitofp (F := Ideal) .f32 (constantI S_ 32 0#32)) pads_S2x6000x4_S2x6016x4_000_0160_000 h_S_ := by
    show V m c main_v0 = _
    rw [V_of_slices, StableHlo.after_of_writes_sub (r := main_v0) h2 _ h2_writes (by decide +kernel)]
    dsimp only [h0, h1]
    after_results
    try simp only [StableHlo.TRef.ofBuf, StableHlo.TRef.toBuf, cast_eq]
  have hz : (FloatOps.sitofp FTy.f32 0#32 : Ideal .f32) = (0 : EReal) := by
    show (((0#32 : BitVec 32).toInt : ℝ) : EReal) = 0
    simp
  funext b i q
  show big m c (ix3 b i q) = _
  rw [e, pad_apply]
  unfold padded
  by_cases h : i.val < 6000
  · rw [dif_pos h, dif_pos (fun a => by
      fin_cases a
      · exact ⟨Nat.zero_le _, Nat.mod_one _, by show (b.val - 0) / 1 < 2; omega⟩
      · exact ⟨Nat.zero_le _, Nat.mod_one _, by show (i.val - 0) / 1 < 6000; omega⟩
      · exact ⟨Nat.zero_le _, Nat.mod_one _, by show (q.val - 0) / 1 < 4; omega⟩)]
    refine congrArg (arg m c) (funext fun a => Fin.ext ?_)
    fin_cases a
    · show (b.val - 0) / 1 = b.val
      omega
    · show (i.val - 0) / 1 = i.val
      omega
    · show (q.val - 0) / 1 = q.val
      omega
  · rw [dif_neg h, dif_neg (fun hin => h (by
      have h1 : (i.val - 0) / 1 < 6000 := (hin 1).2.2
      omega))]
    exact hz

theorem end_eq : Pipeline.afterTail₀ (cfgs (F := Ideal)) (dats m) 0 (V0 m) opss1 c main_v90 = rois (arg m c) := by
  unfold Pipeline.afterTail₀
  refine (tail_eq _ (keptRows (big m c)) (arg m c)
    ((Pipeline.withArrays_arr spec0 (by decide) c (V0 m c) (fun w => (dats m 0 c).arrAt w cfgI.N) 8).trans (final8 m c))
    ((Pipeline.withArrays_of_ne spec0 c (V0 m c) (fun w => (dats m 0 c).arrAt w cfgI.N) main_arg0 (by decide)).trans (V_arg m c))).trans ?_
  refine tail_rois (keptRows (big m c)) (arg m c) fun b r l => ?_
  rw [← coords_big]
  rfl

theorem ends (g : Dev nD → PrngReg) : θ_run defs (onTc (τ := τ) (main (F := Ideal))) ⟨m, fun _ => 0, g⟩ (fun r => ∀ c : Dev nD,
    r.2.mem ((c.tc : Thread nD τ).loc main_v90) = rois (arg m c)) :=
  (θ_run defs _ _).mono (fun r h c => (h.rest_eq c main_v90 (by decide)).trans (end_eq m c)) (run_main m g)

/-- Every run ends, leaves the argument, and leaves every counter at zero. -/
theorem frame (g : Dev nD → PrngReg) : θ_run defs (onTc (τ := τ) (main (F := Ideal))) ⟨m, fun _ => 0, g⟩ (fun r =>
    (∀ c : Dev nD, r.2.mem ((c.tc : Thread nD τ).loc main_arg0) = m ((c.tc : Thread nD τ).loc main_arg0)) ∧ r.2.sem = fun _ => 0) :=
  θ_run_and (unchanged m g) ((θ_run defs _ _).mono (fun _ h => h.2) (run_main_quiescent m g))

end Cert.Kernel2Ideal.At

end
-- ==== Proof.Nms.Ref.lean ====
/- The reference's suppression loop: after `n` trips a box is still kept where none of the first `n` boxes that the
   greedy suppression keeps overlaps it from before. -/
module

public import proofs.«01_k».proof.Proof.Gen.Reference2Ideal.StepRun
public import proofs.«01_k».proof.Proof.Nms.Words

@[expose] public section

set_option maxRecDepth 16384

noncomputable section

namespace Cert.Reference2Ideal.At

open Cert.Reference2Ideal Cert.Reference2Ideal.Gen Cert.Reference2Ideal.Step Cert.Spec
open Idealize.ShloMosaic Idealize.ShloMosaic.TcCoe Idealize.SL.Sem

/-- The boxes' coordinates. -/
abbrev coords (X : (⟨S2x6000x4, .f32⟩ : BufTy).Contents (Elt Ideal)) : Fin 2 → Fin 6016 → Fin 4 → EReal := padded X

theorem coords_at (X : (⟨S2x6000x4, .f32⟩ : BufTy).Contents (Elt Ideal)) (b : Fin 2) (i : Fin 6000) (q : Fin 4) :
    coords X b ⟨i.val, by omega⟩ q = X (ix3 b i q) := dif_pos i.isLt

/-! ## The set-up values -/

theorem A_x1 (X : (⟨S2x6000x4, .f32⟩ : BufTy).Contents (Elt Ideal)) (b : Fin 2) (i : Fin 6000) :
    A_main_v1 X (ix2 b i) = (boxes (coords X) b).x1 i.val := by
  refine Eq.trans ?_ ((boxes_x1 (coords X) b i.val (by omega)).trans (coords_at X b i _)).symm
  unfold A_main_v1 A_main_v0
  simp only [pointwise]
  refine congrArg X (congrArg₂ (fun (p : Fin 2) (n : Fin 6000) => (ix3 p n 0 : S2x6000x4.Idx)) (Fin.ext ?_) (Fin.ext ?_))
  · exact Nat.zero_add _
  · exact Nat.zero_add _

theorem A_y1 (X : (⟨S2x6000x4, .f32⟩ : BufTy).Contents (Elt Ideal)) (b : Fin 2) (i : Fin 6000) :
    A_main_v3 X (ix2 b i) = (boxes (coords X) b).y1 i.val := by
  refine Eq.trans ?_ ((boxes_y1 (coords X) b i.val (by omega)).trans (coords_at X b i _)).symm
  unfold A_main_v3 A_main_v2
  simp only [pointwise]
  refine congrArg X (congrArg₂ (fun (p : Fin 2) (n : Fin 6000) => (ix3 p n 1 : S2x6000x4.Idx)) (Fin.ext ?_) (Fin.ext ?_))
  · exact Nat.zero_add _
  · exact Nat.zero_add _

theorem A_x2 (X : (⟨S2x6000x4, .f32⟩ : BufTy).Contents (Elt Ideal)) (b : Fin 2) (i : Fin 6000) :
    A_main_v5 X (ix2 b i) = (boxes (coords X) b).x2 i.val := by
  refine Eq.trans ?_ ((boxes_x2 (coords X) b i.val (by omega)).trans (coords_at X b i _)).symm
  unfold A_main_v5 A_main_v4
  simp only [pointwise]
  refine congrArg X (congrArg₂ (fun (p : Fin 2) (n : Fin 6000) => (ix3 p n 2 : S2x6000x4.Idx)) (Fin.ext ?_) (Fin.ext ?_))
  · exact Nat.zero_add _
  · exact Nat.zero_add _

theorem A_y2 (X : (⟨S2x6000x4, .f32⟩ : BufTy).Contents (Elt Ideal)) (b : Fin 2) (i : Fin 6000) :
    A_main_v7 X (ix2 b i) = (boxes (coords X) b).y2 i.val := by
  refine Eq.trans ?_ ((boxes_y2 (coords X) b i.val (by omega)).trans (coords_at X b i _)).symm
  unfold A_main_v7 A_main_v6
  simp only [pointwise]
  refine congrArg X (congrArg₂ (fun (p : Fin 2) (n : Fin 6000) => (ix3 p n 3 : S2x6000x4.Idx)) (Fin.ext ?_) (Fin.ext ?_))
  · exact Nat.zero_add _
  · exact Nat.zero_add _

theorem A_area (X : (⟨S2x6000x4, .f32⟩ : BufTy).Contents (Elt Ideal)) (b : Fin 2) (i : Fin 6000) :
    A_main_v14 X (ix2 b i) = (boxes (coords X) b).area i.val := by
  unfold A_main_v14 A_main_v10 A_main_v13 A_main_v8 A_main_v11 K_main_v9 K_main_v12 K_main_cst K_main_cst_0
  simp only [pointwise]
  rw [A_x1, A_y1, A_x2, A_y2]
  rfl

/-! ## One trip -/

theorem slt_zero (n : ℕ) (hn : n < 6000) : IntOp.cmpi .slt (BitVec.ofNat 32 n) 0#32 = 0#1 :=
  (WordCmp.cmpi_slt_ofNat_eq_zero_iff (w := 32) (a := n) (b := 0) (by omega) (by omega)).2 (by omega)

theorem sgt_small (a b : ℕ) (ha : a < 2147483648) (hb : b < 2147483648) :
    IntOp.cmpi .sgt (BitVec.ofNat 32 a) (BitVec.ofNat 32 b) = BitVec.ofBool (decide (b < a)) := by
  by_cases h : b < a
  · rw [(WordCmp.cmpi_sgt_ofNat_eq_one_iff (w := 32) (by simpa using ha) (by simpa using hb)).2 h]; simp [h]
  · rw [(WordCmp.cmpi_sgt_ofNat_eq_zero_iff (w := 32) (by simpa using ha) (by simpa using hb)).2 (by omega)]; simp [h]

theorem bit_iff (p : Prop) [Decidable p] : BitVec.ofBool (decide p) = 1#1 ↔ p := by
  by_cases h : p <;> simp [h]

/-- The trip's number, wrapped into range: itself. -/
def word (n : ℕ) : (⟨S_, .i32⟩ : BufTy).Contents (Elt Ideal) :=
  select (cmpi .slt (constantI S_ 32 (BitVec.ofNat 32 n)) (constantI S_ 32 0#32))
    (addi (id (constantI S_ 32 (BitVec.ofNat 32 n))) (constantI S_ 32 6000#32)) (constantI S_ 32 (BitVec.ofNat 32 n))

theorem word_eq (n : ℕ) (hn : n < 6000) (i : S_.Idx) : word n i = BitVec.ofNat 32 n := by
  unfold word
  show Scalar.select (IntOp.cmpi .slt (BitVec.ofNat 32 n) 0#32) _ (BitVec.ofNat 32 n) = _
  rw [slt_zero n hn]
  rfl

/-- Entry `n` of each image's row, at every place. -/
def pick {e : EltTy} (n : ℕ) (x : (⟨S2x6000, e⟩ : BufTy).Contents (Elt Ideal)) : (⟨S2x6000, e⟩ : BufTy).Contents (Elt Ideal) :=
  broadcastInDim S2x6000 ![0, 1] bcast_S2x1_S2x6000_0_1
    (Host.dynamicSlice S2x1 x (fun k => (((![(constantI S_ 32 0#32), (word n)] : Fin 2 → (⟨S_, .i32⟩ : BufTy).Contents (Elt Ideal))) k (Shape.Idx.first h_S_)).toInt) sliceFits_S2x6000_S2x1)

theorem fits (n : ℕ) (hn : n < 6000) : S2x6000.Slices (![0, n] : Fin 2 → ℕ) S2x1 :=
  ⟨rfl, fun a => by fin_cases a; · show 0 + 2 ≤ 2; omega
                    · show n + 1 ≤ 6000; omega⟩

theorem pick_at {e : EltTy} (n : ℕ) (hn : n < 6000) (x : (⟨S2x6000, e⟩ : BufTy).Contents (Elt Ideal)) (b : Fin 2) (j : Fin 6000) :
    pick n x (ix2 b j) = x (ix2 b ⟨n, hn⟩) := by
  unfold pick
  rw [WordCmp.dynamicSlice_eq_extract S2x1 x _ sliceFits_S2x6000_S2x1 ![0, n] (fits n hn) (fun a => by
    fin_cases a
    · rfl
    · show (word n _).toInt = (n : ℤ)
      rw [word_eq n hn, WordCmp.toInt_ofNat_of_lt (by omega)])]
  simp only [pointwise]
  refine congrArg x (congrArg₂ (fun (p : Fin 2) (q : Fin 6000) => (ix2 p q : S2x6000.Idx)) (Fin.ext ?_) (Fin.ext ?_))
  · show 0 + b.val = b.val
    omega
  · show n + 0 = n
    omega

theorem b10_eq (n : ℕ) (s : State Ideal) : b10 n s = pick n s.main_v17_0 := rfl
theorem b20_eq (n : ℕ) (s : State Ideal) : b20 n s = pick n s.main_v17_1 := rfl
theorem b30_eq (n : ℕ) (s : State Ideal) : b30 n s = pick n s.main_v17_2 := rfl
theorem b40_eq (n : ℕ) (s : State Ideal) : b40 n s = pick n s.main_v17_3 := rfl
theorem b65_eq (n : ℕ) (s : State Ideal) : b65 n s = pick n s.main_v17_4 := rfl
theorem b86_eq (n : ℕ) (s : State Ideal) : b86 n s = pick n s.main_v17_8 := rfl

/-- Box `n` overlaps box `j`. -/
theorem b71_at (n : ℕ) (hn : n < 6000) (s : State Ideal) (B : Boxes) (b : Fin 2)
    (h0 : ∀ i : Fin 6000, s.main_v17_0 (ix2 b i) = B.x1 i.val) (h1 : ∀ i : Fin 6000, s.main_v17_1 (ix2 b i) = B.y1 i.val)
    (h2 : ∀ i : Fin 6000, s.main_v17_2 (ix2 b i) = B.x2 i.val) (h3 : ∀ i : Fin 6000, s.main_v17_3 (ix2 b i) = B.y2 i.val)
    (h4 : ∀ i : Fin 6000, s.main_v17_4 (ix2 b i) = B.area i.val) (j : Fin 6000) :
    b71 n s (ix2 b j) = 1#1 ↔ B.over n j.val := by
  have e56 : b56 n s (ix2 b j) = B.inter n j.val := by
    unfold b56 b48 b55 b47 b54 b46 b53 b45 b52 b44 b51 b43 b50 b42 b49 b31 b41 b11 b21
    simp only [pointwise]
    rw [b10_eq, b20_eq, b30_eq, b40_eq]
    simp only [pick_at _ hn, h0, h1, h2, h3]
    rfl
  unfold b71 b70 b69 b68 b67 b66
  simp only [pointwise]
  rw [e56, b65_eq, pick_at _ hn, h4, h4]
  exact bit_iff _

/-- Boxes of higher number. -/
theorem b76_at (n : ℕ) (hn : n < 6000) (s : State Ideal) (b : Fin 2) (j : Fin 6000) :
    b76 n s (ix2 b j) = 1#1 ↔ n < j.val := by
  unfold b76 b75 b74 b73 b72 K_main_v15
  simp only [pointwise]
  show IntOp.cmpi .sgt (BitVec.ofNat 32 j.val) (BitVec.ofNat 32 n) = 1#1 ↔ n < j.val
  rw [sgt_small _ _ (by omega) (by omega)]
  exact bit_iff _

theorem bits (k p q r : BitVec 1) : IntOp.andi k (~~~(IntOp.andi (IntOp.andi p q) r)) = 1#1 ↔
    k = 1#1 ∧ ¬ ((p = 1#1 ∧ q = 1#1) ∧ r = 1#1) := by
  revert k p q r
  decide

theorem b89_at (n : ℕ) (hn : n < 6000) (s : State Ideal) (b : Fin 2) (j : Fin 6000) :
    b89 n s (ix2 b j) = 1#1 ↔ s.main_v17_8 (ix2 b j) = 1#1 ∧
      ¬ ((b71 n s (ix2 b j) = 1#1 ∧ b76 n s (ix2 b j) = 1#1) ∧ s.main_v17_8 (ix2 b ⟨n, hn⟩) = 1#1) := by
  rw [← pick_at n hn s.main_v17_8 b j, ← b86_eq]
  exact bits _ _ _ _

/-! ## All trips -/

/-- The states, trip by trip. -/
def states (X : (⟨S2x6000x4, .f32⟩ : BufTy).Contents (Elt Ideal)) : ℕ → State Ideal
  | 0 => init X
  | n + 1 => step n (states X n)

variable (X : (⟨S2x6000x4, .f32⟩ : BufTy).Contents (Elt Ideal))

theorem states_0 : ∀ n, (states X n).main_v17_0 = A_main_v1 X
  | 0 => rfl
  | n + 1 => states_0 n
theorem states_1 : ∀ n, (states X n).main_v17_1 = A_main_v3 X
  | 0 => rfl
  | n + 1 => states_1 n
theorem states_2 : ∀ n, (states X n).main_v17_2 = A_main_v5 X
  | 0 => rfl
  | n + 1 => states_2 n
theorem states_3 : ∀ n, (states X n).main_v17_3 = A_main_v7 X
  | 0 => rfl
  | n + 1 => states_3 n
theorem states_4 : ∀ n, (states X n).main_v17_4 = A_main_v14 X
  | 0 => rfl
  | n + 1 => states_4 n

theorem kept_at (n : ℕ) (hn : n ≤ 6000) (b : Fin 2) (j : Fin 6000) :
    (states X n).main_v17_8 (ix2 b j) = 1#1 ↔ ∀ i, i < n → i < j.val → (boxes (coords X) b).Kept i → ¬ (boxes (coords X) b).over i j.val := by
  induction n generalizing j with
  | zero => exact ⟨fun _ i hi => absurd hi (Nat.not_lt_zero _), fun _ => rfl⟩
  | succ n ih =>
    have hn' : n < 6000 := hn
    have hk : (states X n).main_v17_8 (ix2 b ⟨n, hn'⟩) = 1#1 ↔ (boxes (coords X) b).Kept n := by
      rw [ih (by omega) ⟨n, hn'⟩, Boxes.kept_iff]
      exact ⟨fun h => ⟨hn', fun i hi => h i hi hi⟩, fun h i hi _ => h.2 i hi⟩
    show (step n (states X n)).main_v17_8 (ix2 b j) = 1#1 ↔ _
    rw [step_main_v17_8, b89_at n hn', b76_at n hn', hk, ih (by omega) j,
      b71_at n hn' (states X n) (boxes (coords X) b) b (fun i => by rw [states_0, A_x1]) (fun i => by rw [states_1, A_y1])
        (fun i => by rw [states_2, A_x2]) (fun i => by rw [states_3, A_y2]) (fun i => by rw [states_4, A_area])]
    constructor
    · rintro ⟨h1, h2⟩ i hi hij hki ho
      rcases Nat.lt_succ_iff_lt_or_eq.1 hi with h | rfl
      · exact h1 i h hij hki ho
      · exact h2 ⟨⟨ho, hij⟩, hki⟩
    · intro h
      exact ⟨fun i hi => h i (by omega), fun ⟨⟨ho, hij⟩, hki⟩ => h n (by omega) hij hki ho⟩

theorem kept_end (b : Fin 2) (j : Fin 6000) :
    (states X 6000).main_v17_8 (ix2 b j) = 1#1 ↔ (boxes (coords X) b).Kept j.val := by
  rw [kept_at X 6000 le_rfl b j, Boxes.kept_iff]
  exact ⟨fun h => ⟨j.isLt, fun i hi => h i (by omega) hi⟩, fun h i _ hi => h.2 i hi⟩

/-! ## The rows -/

section Rows

open Classical
open Idealize.ShloMosaic.Routing

/-- Kept, and not after `i`. -/
def Below (P : ℕ → Prop) (i j : ℕ) : Prop := P j ∧ j ≤ i

/-- At most `k`. -/
def AtMost (f : ℕ → ℕ) (k j : ℕ) : Prop := f j ≤ k

theorem two_bits (u v : BitVec 1) (p q r : Prop) (hr : r ↔ p ∧ q) (hu : u = 1#1 ↔ p) (hv : v = 1#1 ↔ q) :
    IntOp.muli (u.setWidth 32) (v.setWidth 32) = BitVec.ofNat 32 (if r then 1 else 0) := by
  obtain rfl := propext hr
  rw [word_bit u p hu, word_bit v q hv]
  by_cases hp : p
  · by_cases hq : q
    · rw [if_pos hp, if_pos hq, if_pos ⟨hp, hq⟩]; rfl
    · rw [if_pos hp, if_neg hq, if_neg (fun h : p ∧ q => hq h.2)]; rfl
  · rw [if_neg hp, if_neg (fun h : p ∧ q => hp h.1)]
    exact BitVec.zero_mul

theorem count_below (P : ℕ → Prop) (i N : ℕ) (h : i < N) : Nat.count (Below P i) N = upTo P i := by
  unfold upTo
  obtain ⟨d, rfl⟩ : ∃ d, N = i + 1 + d := ⟨N - (i + 1), by omega⟩
  clear h
  induction d with
  | zero =>
    suffices ∀ n, n ≤ i + 1 → Nat.count (Below P i) n = Nat.count P n from this _ le_rfl
    intro n
    induction n with
    | zero => exact fun _ => by simp
    | succ n ih =>
      intro hn
      rw [Nat.count_succ, Nat.count_succ, ih (by omega)]
      by_cases hp : P n
      · rw [if_pos hp, if_pos (show Below P i n from ⟨hp, by omega⟩)]
      · rw [if_neg hp, if_neg (fun h : Below P i n => hp h.1)]
  | succ d ih => rw [← Nat.add_assoc, Nat.count_succ, ih, if_neg (fun h : Below P i (i + 1 + d) => absurd h.2 (by omega)), Nat.add_zero]

theorem spread {α : Type} {s t : Shape} (dims : Fin s.rank → Fin t.rank) (h : s.BroadcastsInDim t dims) (x : s.Idx → α) (j : t.Idx) (k : s.Idx)
    (hk : ∀ a, s.size a = 1 ∨ (k a).val = (j (dims a)).val) : broadcastInDim t dims h x j = x k := by
  unfold broadcastInDim
  refine congrArg x (funext fun a => Fin.ext ?_)
  by_cases h1 : s.size a = 1
  · rw [dif_pos h1]
    have := lt_of_lt_of_eq (k a).isLt h1
    show 0 = (k a).val
    omega
  · rw [dif_neg h1]
    exact ((hk a).resolve_left h1).symm

/-- A vector's entry, spread over the first axis. -/
theorem along {α : Type} {n m : ℕ} (h1 : (⟨1, ![n]⟩ : Shape).BroadcastsInDim ⟨2, ![1, n]⟩ ![1]) (h2 : (⟨2, ![1, n]⟩ : Shape).BroadcastsInDim ⟨2, ![m, n]⟩ ![0, 1])
    (x : (⟨1, ![n]⟩ : Shape).Idx → α) (i : Fin m) (j : Fin n) :
    broadcastInDim ⟨2, ![m, n]⟩ ![0, 1] h2 (broadcastInDim ⟨2, ![1, n]⟩ ![1] h1 x) (ix2 i j) = x (ix1 j) :=
  (spread _ h2 _ (ix2 i j) (ix2 0 j) fun | ⟨0, _⟩ => .inl rfl | ⟨1, _⟩ => .inr rfl).trans
    (spread _ h1 x (ix2 0 j) (ix1 j) fun | ⟨0, _⟩ => .inr rfl)

/-- A vector's entry, spread over the last axis. -/
theorem across {α : Type} {n m : ℕ} (h1 : (⟨1, ![m]⟩ : Shape).BroadcastsInDim ⟨2, ![m, 1]⟩ ![0]) (h2 : (⟨2, ![m, 1]⟩ : Shape).BroadcastsInDim ⟨2, ![m, n]⟩ ![0, 1])
    (x : (⟨1, ![m]⟩ : Shape).Idx → α) (i : Fin m) (j : Fin n) :
    broadcastInDim ⟨2, ![m, n]⟩ ![0, 1] h2 (broadcastInDim ⟨2, ![m, 1]⟩ ![0] h1 x) (ix2 i j) = x (ix1 i) :=
  (spread _ h2 _ (ix2 i j) (ix2 i 0) fun | ⟨0, _⟩ => .inr rfl | ⟨1, _⟩ => .inl rfl).trans
    (spread _ h1 x (ix2 i 0) (ix1 i) fun | ⟨0, _⟩ => .inr rfl)

/-- An entry, spread over the middle axis. -/
theorem between {α : Type} {a b n : ℕ} (h1 : (⟨2, ![a, n]⟩ : Shape).BroadcastsInDim ⟨3, ![a, 1, n]⟩ ![0, 2]) (h2 : (⟨3, ![a, 1, n]⟩ : Shape).BroadcastsInDim ⟨3, ![a, b, n]⟩ ![0, 1, 2])
    (x : (⟨2, ![a, n]⟩ : Shape).Idx → α) (p : Fin a) (q : Fin b) (j : Fin n) :
    broadcastInDim ⟨3, ![a, b, n]⟩ ![0, 1, 2] h2 (broadcastInDim ⟨3, ![a, 1, n]⟩ ![0, 2] h1 x) (ix3 p q j) = x (ix2 p j) :=
  (spread _ h2 _ (ix3 p q j) (ix3 p 0 j) fun | ⟨0, _⟩ => .inr rfl | ⟨1, _⟩ => .inl rfl | ⟨2, _⟩ => .inr rfl).trans
    (spread _ h1 x (ix3 p 0 j) (ix2 p j) fun | ⟨0, _⟩ => .inr rfl | ⟨1, _⟩ => .inr rfl)

/-- An entry, spread over the first axis of three. -/
theorem before {α : Type} {a b n : ℕ} (h1 : (⟨2, ![b, n]⟩ : Shape).BroadcastsInDim ⟨3, ![1, b, n]⟩ ![1, 2]) (h2 : (⟨3, ![1, b, n]⟩ : Shape).BroadcastsInDim ⟨3, ![a, b, n]⟩ ![0, 1, 2])
    (x : (⟨2, ![b, n]⟩ : Shape).Idx → α) (p : Fin a) (q : Fin b) (j : Fin n) :
    broadcastInDim ⟨3, ![a, b, n]⟩ ![0, 1, 2] h2 (broadcastInDim ⟨3, ![1, b, n]⟩ ![1, 2] h1 x) (ix3 p q j) = x (ix2 q j) :=
  (spread _ h2 _ (ix3 p q j) (ix3 0 q j) fun | ⟨0, _⟩ => .inl rfl | ⟨1, _⟩ => .inr rfl | ⟨2, _⟩ => .inr rfl).trans
    (spread _ h1 x (ix3 0 q j) (ix2 q j) fun | ⟨0, _⟩ => .inr rfl | ⟨1, _⟩ => .inr rfl)

/-- A vector's entry, spread around the middle axis. -/
theorem around {α : Type} {a b n : ℕ} (h1 : (⟨1, ![b]⟩ : Shape).BroadcastsInDim ⟨3, ![1, b, 1]⟩ ![1]) (h2 : (⟨3, ![1, b, 1]⟩ : Shape).BroadcastsInDim ⟨3, ![a, b, n]⟩ ![0, 1, 2])
    (x : (⟨1, ![b]⟩ : Shape).Idx → α) (p : Fin a) (q : Fin b) (j : Fin n) :
    broadcastInDim ⟨3, ![a, b, n]⟩ ![0, 1, 2] h2 (broadcastInDim ⟨3, ![1, b, 1]⟩ ![1] h1 x) (ix3 p q j) = x (ix1 q) :=
  (spread _ h2 _ (ix3 p q j) (ix3 0 q 0) fun | ⟨0, _⟩ => .inl rfl | ⟨1, _⟩ => .inr rfl | ⟨2, _⟩ => .inl rfl).trans
    (spread _ h1 x (ix3 0 q 0) (ix1 q) fun | ⟨0, _⟩ => .inr rfl)

/-- How many boxes up to each are kept. -/
def counts (K : (⟨S2x6000, .i1⟩ : BufTy).Contents (Elt Ideal)) : (⟨S2x6000, .i32⟩ : BufTy).Contents (Elt Ideal) :=
  Host.reduce IntOp.addi (muli (broadcastInDim S2x6000x6000 ![0, 1, 2] bcast_S2x1x6000_S2x6000x6000_0_1_2 (broadcastInDim S2x1x6000 ![0, 2] bcast_S2x6000_S2x1x6000_0_2 (extui 32 K natLt_1_32)))
    (broadcastInDim S2x6000x6000 ![0, 1, 2] bcast_S1x6000x6000_S2x6000x6000_0_1_2 (broadcastInDim S1x6000x6000 ![1, 2] bcast_S6000x6000_S1x6000x6000_1_2
      (extui 32 (cmpi .sle (broadcastInDim S6000x6000 ![0, 1] bcast_S1x6000_S6000x6000_0_1 (broadcastInDim S1x6000 ![1] bcast_S6000_S1x6000_1 (iotaInDim S6000 32 0)))
        (broadcastInDim S6000x6000 ![0, 1] bcast_S6000x1_S6000x6000_0_1 (broadcastInDim S6000x1 ![0] bcast_S6000_S6000x1_0 (iotaInDim S6000 32 0)))) natLt_1_32))))
    (constantI S_ 32 0#32) reducesTo_S2x6000x6000_S2x6000_d2 h_S_

/-- How many of these are at most `k`. -/
def number (C : (⟨S2x6000, .i32⟩ : BufTy).Contents (Elt Ideal)) : (⟨S2x300, .i32⟩ : BufTy).Contents (Elt Ideal) :=
  Host.reduce IntOp.addi (extui 32 (cmpi .sle (broadcastInDim S2x300x6000 ![0, 1, 2] bcast_S2x1x6000_S2x300x6000_0_1_2 (broadcastInDim S2x1x6000 ![0, 2] bcast_S2x6000_S2x1x6000_0_2 C))
    (broadcastInDim S2x300x6000 ![0, 1, 2] bcast_S1x300x1_S2x300x6000_0_1_2 (broadcastInDim S1x300x1 ![1] bcast_S300_S1x300x1_1 (iotaInDim S300 32 0)))) natLt_1_32)
    (constantI S_ 32 0#32) reducesTo_S2x300x6000_S2x300_d2 h_S_

/-- How many boxes are kept. -/
def total (K : (⟨S2x6000, .i1⟩ : BufTy).Contents (Elt Ideal)) : (⟨S2, .i32⟩ : BufTy).Contents (Elt Ideal) :=
  Host.reduce IntOp.addi (extui 32 K natLt_1_32) (constantI S_ 32 0#32) reducesTo_S2x6000_S2_d1 h_S_

/-- Whether there is a `k`-th. -/
def there (T : (⟨S2, .i32⟩ : BufTy).Contents (Elt Ideal)) : (⟨S2x300, .i1⟩ : BufTy).Contents (Elt Ideal) :=
  cmpi .slt (broadcastInDim S2x300 ![0, 1] bcast_S1x300_S2x300_0_1 (broadcastInDim S1x300 ![1] bcast_S300_S1x300_1 (iotaInDim S300 32 0)))
    (broadcastInDim S2x300 ![0, 1] bcast_S2x1_S2x300_0_1 (broadcastInDim S2x1 ![0] bcast_S2_S2x1_0 T))

/-- The `k`-th kept box's number. -/
def index (K : (⟨S2x6000, .i1⟩ : BufTy).Contents (Elt Ideal)) : (⟨S2x300x1, .i32⟩ : BufTy).Contents (Elt Ideal) :=
  broadcastInDim S2x300x1 ![0, 1] bcast_S2x300_S2x300x1_0_1 (muli (number (counts K)) (extui 32 (there (total K)) natLt_1_32))

/-- Its row. -/
def row (K : (⟨S2x6000, .i1⟩ : BufTy).Contents (Elt Ideal)) : (⟨S2x300x1, .i32⟩ : BufTy).Contents (Elt Ideal) :=
  select (cmpi .slt (index K) (broadcastInDim S2x300x1 ![] bcast_S_S2x300x1 (constantI S_ 32 0#32)))
    (addi (index K) (broadcastInDim S2x300x1 ![] bcast_S_S2x300x1 (constantI S_ 32 6000#32))) (index K)

theorem R_eq (s : State Ideal) (X : (⟨S2x6000x4, .f32⟩ : BufTy).Contents (Elt Ideal)) : R_main_v61 s X =
    select (cmpi .eq (iotaInDim S2x300x5 32 2) (broadcastInDim S2x300x5 ![] bcast_S_S2x300x5 (constantI S_ 32 0#32))) (sitofp (F := Ideal) .f32 (iotaInDim S2x300x5 32 0))
      (pad S2x300x5 ![0, 0, 1] ![0, 0, 0] ![0, 0, 0] (Host.gather gather_S2x6000x4_S2x300x1_S2x300x4_2_1_0_0_1_2_114 X (row s.main_v17_8))
        (constant (F := Ideal) S_ .f32 0x00000000#32) pads_S2x300x4_S2x300x5_000_000_100 h_S_) := rfl

variable (K : (⟨S2x6000, .i1⟩ : BufTy).Contents (Elt Ideal)) (P : Fin 2 → ℕ → Prop) (hK : ∀ b (j : Fin 6000), K (ix2 b j) = 1#1 ↔ P b j.val)

include hK in
theorem counts_at (b : Fin 2) (i : Fin 6000) : counts K (ix2 b i) = BitVec.ofNat 32 (upTo (P b) i.val) := by
  unfold counts
  refine (count_last (a := 2) (b := 6000) (N := 6000) (by norm_num) _ (fun b i => Below (P b) i.val) (fun b i j => ?_) _ _ b i).trans
    (congrArg (BitVec.ofNat 32) (count_below (P b) i.val 6000 i.isLt))
  refine (congrArg₂ IntOp.muli (between bcast_S2x6000_S2x1x6000_0_2 bcast_S2x1x6000_S2x6000x6000_0_1_2 _ b i j)
    ((before bcast_S6000x6000_S1x6000x6000_1_2 bcast_S1x6000x6000_S2x6000x6000_0_1_2 _ b i j).trans (congrArg (BitVec.setWidth 32) (congrArg₂ (IntOp.cmpi .sle)
      (along bcast_S6000_S1x6000_1 bcast_S1x6000_S6000x6000_0_1 _ i j) (across bcast_S6000_S6000x1_0 bcast_S6000x1_S6000x6000_0_1 _ i j))))).trans ?_
  exact two_bits (K (ix2 b j)) (IntOp.cmpi .sle (BitVec.ofNat 32 j.val) (BitVec.ofNat 32 i.val)) _ _ _ Iff.rfl (hK b j) (sle_small j.val i.val (by omega) (by omega))

theorem number_at (C : (⟨S2x6000, .i32⟩ : BufTy).Contents (Elt Ideal)) (f : Fin 2 → ℕ → ℕ) (hf : ∀ b j, j < 6000 → f b j < 2147483648)
    (hC : ∀ b (j : Fin 6000), C (ix2 b j) = BitVec.ofNat 32 (f b j.val)) (b : Fin 2) (k : Fin 300) :
    number C (ix2 b k) = BitVec.ofNat 32 (Nat.count (fun j => f b j ≤ k.val) 6000) := by
  unfold number
  refine (count_last (a := 2) (b := 300) (N := 6000) (by norm_num) _ (fun b k => AtMost (f b) k.val) (fun b k j => ?_) _ _ b k).trans (by unfold AtMost; congr!)
  refine (congrArg (BitVec.setWidth 32) (congrArg₂ (IntOp.cmpi .sle) (between bcast_S2x6000_S2x1x6000_0_2 bcast_S2x1x6000_S2x300x6000_0_1_2 _ b k j)
    (around bcast_S300_S1x300x1_1 bcast_S1x300x1_S2x300x6000_0_1_2 _ b k j))).trans ?_
  refine word_bit (IntOp.cmpi .sle (C (ix2 b j)) (BitVec.ofNat 32 k.val)) _ ?_
  rw [hC]
  exact (sle_small (f b j.val) k.val (hf b j.val j.isLt) (by omega))

include hK in
theorem total_at (b : Fin 2) : total K (ix1 b) = BitVec.ofNat 32 (Nat.count (P b) 6000) :=
  reduce_count (n := 2) (m := 6000) (by norm_num) K natLt_1_32 reducesTo_S2x6000_S2_d1 h_S_ b (P b) (hK b)

theorem there_at (T : (⟨S2, .i32⟩ : BufTy).Contents (Elt Ideal)) (n : ℕ) (hn : n < 2147483648) (b : Fin 2) (hT : T (ix1 b) = BitVec.ofNat 32 n) (k : Fin 300) :
    there T (ix2 b k) = 1#1 ↔ k.val < n := by
  unfold there
  refine (Eq.to_iff (congrArg (· = 1#1) (congrArg₂ (IntOp.cmpi .slt) (along bcast_S300_S1x300_1 bcast_S1x300_S2x300_0_1 _ b k)
    (across bcast_S2_S2x1_0 bcast_S2x1_S2x300_0_1 _ b k)))).trans ?_
  show IntOp.cmpi .slt (BitVec.ofNat 32 k.val) (T (ix1 b)) = 1#1 ↔ _
  rw [hT]
  exact slt_small k.val n (by omega) hn

include hK in
theorem index_at (b : Fin 2) (k : Fin 300) : index K (ix3 b k 0) = BitVec.ofNat 32 (nth (P b) k.val) := by
  have e : index K (ix3 b k 0) = IntOp.muli (number (counts K) (ix2 b k)) ((there (total K) (ix2 b k)).setWidth 32) := by
    unfold index
    exact spread _ bcast_S2x300_S2x300x1_0_1 _ (ix3 b k 0) (ix2 b k) fun | ⟨0, _⟩ => .inr rfl | ⟨1, _⟩ => .inr rfl
  have le : Nat.count (P b) 6000 ≤ 6000 := Nat.count_le _
  rw [e, number_at _ (fun b => upTo (P b)) (fun b j hj => by have := upTo_le (P b) j; omega) (counts_at K P hK) b k,
    word_bit _ _ (there_at _ _ (by omega) b (total_at K P hK b) k)]
  unfold nth
  by_cases h : k.val < Nat.count (P b) 6000
  · rw [if_pos h, if_pos h]
    exact BitVec.mul_one _
  · rw [if_neg h, if_neg h]
    exact BitVec.mul_zero

include hK in
theorem row_at (b : Fin 2) (k : Fin 300) : row K (ix3 b k 0) = BitVec.ofNat 32 (nth (P b) k.val) := by
  have lt := nth_lt (P b) k.val
  have e := wrap_word (nth (P b) k.val) (by omega) (IntOp.addi (BitVec.ofNat 32 (nth (P b) k.val)) 6000#32)
  rw [← index_at K P hK b k] at e
  exact Eq.trans e (index_at K P hK b k)

/-- A row read. -/
theorem gather_at (X : (⟨S2x6000x4, .f32⟩ : BufTy).Contents (Elt Ideal)) (idx : IVec S2x300x1 32) (b : Fin 2) (k : Fin 300) (q : Fin 4) (n : ℕ) (hn : n < 6000)
    (hi : idx (ix3 b k 0) = BitVec.ofNat 32 n) :
    Host.gather gather_S2x6000x4_S2x300x1_S2x300x4_2_1_0_0_1_2_114 X idx (ix3 b k q) = X (ix3 b ⟨n, hn⟩ q) := by
  unfold Host.gather
  refine congrArg X (funext fun a => Fin.ext ?_)
  match a with
  | ⟨0, _⟩ =>
    show (0 : ℕ) + b.val + 0 = b.val
    omega
  | ⟨1, _⟩ =>
    have s : gather_S2x6000x4_S2x300x1_S2x300x4_2_1_0_0_1_2_114.start (ix3 b k q) idx 1 = min (idx (ix3 b k 0)).toInt.toNat 5999 := by
      refine congrArg (fun z => min (idx z).toInt.toNat 5999) (funext fun c => Fin.ext ?_)
      match c with
      | ⟨0, _⟩ => rfl
      | ⟨1, _⟩ => rfl
      | ⟨2, _⟩ => rfl
    show gather_S2x6000x4_S2x300x1_S2x300x4_2_1_0_0_1_2_114.start (ix3 b k q) idx 1 + 0 + 0 = n
    rw [s, hi, WordCmp.toInt_ofNat_of_lt (by omega)]
    show min n 5999 + 0 + 0 = n
    omega
  | ⟨2, _⟩ =>
    show (0 : ℕ) + 0 + q.val = q.val
    omega

end Rows

theorem result : R_main_v61 (states X 6000) X = rois X := by
  funext y
  obtain ⟨b, k, q, rfl⟩ : ∃ (b : Fin 2) (k : Fin 300) (q : Fin 5), y = ix3 b k q := ⟨y 0, y 1, y 2, eq_ix3 y⟩
  rw [R_eq, show rois X (ix3 b k q) = if h : q.val = 0 then ((b.val : ℝ) : EReal)
      else X (ix3 b ⟨nth (boxes (coords X) b).Kept k.val, nth_lt _ _⟩ ⟨q.val - 1, by omega⟩) from rfl]
  have first : ∀ q : Fin 5, IntOp.cmpi .eq (BitVec.ofNat 32 q.val) 0#32 = if q.val = 0 then 1#1 else 0#1 := by decide
  show Scalar.select (IntOp.cmpi .eq (BitVec.ofNat 32 q.val) 0#32) ((((BitVec.ofNat 32 b.val).toInt : ℝ) : EReal)) _ = _
  rw [first]
  by_cases hq : q.val = 0
  · rw [if_pos hq, dif_pos hq, WordCmp.toInt_ofNat_of_lt (by omega)]
    show (((b.val : ℤ) : ℝ) : EReal) = _
    rw [Int.cast_natCast]
  · rw [if_neg hq, dif_neg hq]
    refine Eq.trans (b := Host.gather gather_S2x6000x4_S2x300x1_S2x300x4_2_1_0_0_1_2_114 X (row (states X 6000).main_v17_8) (ix3 b k ⟨q.val - 1, by omega⟩)) ?_
      (gather_at X _ b k _ _ (nth_lt _ _) (row_at _ (fun b => (boxes (coords X) b).Kept) (kept_end X) b k))
    show pad S2x300x5 ![0, 0, 1] ![0, 0, 0] ![0, 0, 0] (Host.gather gather_S2x6000x4_S2x300x1_S2x300x4_2_1_0_0_1_2_114 X (row (states X 6000).main_v17_8))
        (constant (F := Ideal) S_ .f32 0x00000000#32) pads_S2x300x4_S2x300x5_000_000_100 h_S_ (ix3 b k q) = _
    rw [pad_apply, dif_pos (fun a => by
      fin_cases a
      · exact ⟨Nat.zero_le _, Nat.mod_one _, by show (b.val - 0) / 1 < 2; omega⟩
      · exact ⟨Nat.zero_le _, Nat.mod_one _, by show (k.val - 0) / 1 < 300; omega⟩
      · exact ⟨Nat.pos_of_ne_zero hq, Nat.mod_one _, by show (q.val - 1) / 1 < 4; omega⟩)]
    refine congrArg _ (funext fun a => Fin.ext ?_)
    fin_cases a
    · show (b.val - 0) / 1 = b.val
      omega
    · show (k.val - 0) / 1 = k.val
      omega
    · show (q.val - 1) / 1 = q.val - 1
      omega

theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v61) = rois (m ((c.tc : Thread nD τ).loc main_arg0))
      ∧ r.2.mem ((c.tc : Thread nD τ).loc main_arg0) = m ((c.tc : Thread nD τ).loc main_arg0) :=
  (θ_run defs _ _).mono (fun _ h c => ⟨(h c).1.trans (result _), (h c).2⟩)
    (StepRun.run_iter m g (fun c => states (m ((c.tc : Thread nD τ).loc main_arg0))) (fun _ => rfl) (fun _ _ => rfl))

end Cert.Reference2Ideal.At

end
-- ==== Proof.Nms.Algebraic.lean ====
/- The suppression call: the two programs, read over the extended reals, hold the same rows of kept boxes. -/
module

public import proofs.«01_k».proof.Defs
public import proofs.«01_k».proof.Proof.Nms.End
public import proofs.«01_k».proof.Proof.Nms.Ref

@[expose] public section

noncomputable section

namespace Cert.Proof

open Idealize.ShloMosaic Idealize.ShloMosaic.TcCoe Idealize.SL.Sem

theorem frame2 : Cert.quiescent_Kernel2Ideal (hKernel2Ideal := Cert.Kernel2Ideal.Gen.facts) :=
  fun m g _ => Cert.Kernel2Ideal.At.frame m g

/-- The reference declares no semaphore, so its counters stay at zero. -/
theorem reference_frame2 : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩)
    (Cert.Reference2Ideal.At.run m g)

/-- The value claim of the suppression. -/
theorem algebraic2 : Cert.algebraic_Kernel2Ideal_Reference2Ideal
    (hKernel2Ideal := Cert.Kernel2Ideal.Gen.facts) (hReference2Ideal := Cert.Reference2Ideal.Gen.facts) := by
  intro m g m' g' _ hagree
  refine ⟨fun c => Cert.Spec.rois (Cert.Kernel2Ideal.At.arg m c), ?_, ?_⟩
  · refine (θ_run Cert.Kernel2Ideal.defs _ _).mono (fun r h c => ?_)
      (θ_run_and (Cert.Kernel2Ideal.At.ends m g) (Cert.Kernel2Ideal.At.unchanged m g))
    exact ⟨h.1 c, h.2 c⟩
  · refine (θ_run Cert.Reference2Ideal.defs _ _).mono (fun r h c => ?_) (Cert.Reference2Ideal.At.run m' g')
    exact ⟨(h c).1.trans (congrArg Cert.Spec.rois (hagree c)), (h c).2⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Algebraic
public import proofs.«01_k».proof.Proof.Gen.Kernel2Ideal
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Reference2Ideal.Step
public import proofs.«01_k».proof.Proof.Gen.Reference2Ideal.StepRun
public import proofs.«01_k».proof.Proof.Nms.Algebraic
public import Idealize.ShloMosaic.Adequacy
public import Idealize.ShloMosaic.Init

@[expose] public section

noncomputable section

namespace Cert.Proof

open Idealize.ShloMosaic Idealize.SL.Sem Cert.Kernel

/-- The reference declares no semaphore, so its counters stay at zero. -/
theorem reference_frame : Cert.quiescent_ReferenceIdeal (hReferenceIdeal := Cert.ReferenceIdeal.Gen.facts) := fun m g _ =>
  (θ_run Cert.ReferenceIdeal.defs _ _).mono (fun r h => ⟨fun c => (h c).2.2, sem_eq_zero_of_no_sems (by decide) r.2⟩)
    (Cert.ReferenceIdeal.Value.run m g)

theorem claim : Cert.Claim := ⟨Cert.Kernel.Gen.facts, Cert.KernelIdeal.Gen.facts, Cert.ReferenceIdeal.Gen.facts,
  Cert.Kernel2Ideal.Gen.facts, Cert.Reference2Ideal.Gen.facts, fun m g _ => Cert.Kernel.Gen.frame m g,
  fun m g _ => Cert.KernelIdeal.Gen.frame m g, reference_frame, frame2, reference_frame2, trivial, algebraic, algebraic2⟩

end Cert.Proof

end
